-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_gate_finite [hPre_gate_finite : Cert.Pre_gate_finite.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_gate_finite.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_gate_finite [hPre_gate_finite : Cert.Pre_gate_finite.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_gate_finite.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_gate_finite [hKernel27Ideal : Cert.Kernel27Ideal.Facts] [hPre_gate_finite : Cert.Pre_gate_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_gate_finite m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_gate_finite [hReference27Ideal : Cert.Reference27Ideal.Facts] [hPre_gate_finite : Cert.Pre_gate_finite.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_gate_finite m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v17) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v69) = v0 c
          ∧ r.2.mem ((c.tc : Thread Cert.Reference25Ideal.nD Cert.Reference25Ideal.τ).loc Cert.Reference25Ideal.main_v52) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal_pre_gate_finite [hKernel27Ideal : Cert.Kernel27Ideal.Facts] [hReference27Ideal : Cert.Reference27Ideal.Facts] [hPre_gate_finite : Cert.Pre_gate_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_gate_finite m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v46) = v0 c
          ∧ r.2.mem ((c.tc : Thread Cert.Reference27Ideal.nD Cert.Reference27Ideal.τ).loc Cert.Reference27Ideal.main_v47) = v1 c
          ∧ r.2.mem ((c.tc : Thread Cert.Reference27Ideal.nD Cert.Reference27Ideal.τ).loc Cert.Reference27Ideal.main_v43) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v19) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_gate_finite (hKernel27Ideal := hKernel27Ideal) (hPre_gate_finite := hPre_gate_finite)
    ∧ quiescent_Reference27Ideal (hReference27Ideal := hReference27Ideal)
    ∧ quiescent_Reference27Ideal_pre_gate_finite (hReference27Ideal := hReference27Ideal) (hPre_gate_finite := hPre_gate_finite)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_gate_finite (hKernel27Ideal := hKernel27Ideal) (hReference27Ideal := hReference27Ideal) (hPre_gate_finite := hPre_gate_finite)
    ∧ preserves_Kernel28_Kernel28Ideal
    ∧ algebraic_Kernel28Ideal_Reference28Ideal (hKernel28Ideal := hKernel28Ideal) (hReference28Ideal := hReference28Ideal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_v12 : IVec S4096x1024 1 := andi main_v2 main_v5
  let main_v13 : IVec S4096x1024 1 := andi main_v12 main_v8
  let main_v14 : IVec S4096x1024 1 := andi main_v13 main_v11
  main_v14
-- ==== Pre_gate_finite.lean ====
abbrev S4096x2048 : Shape := ⟨2, ![4096, 2048]⟩
abbrev S4096x5120 : Shape := ⟨2, ![4096, 5120]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S_S4096x2048 : S_.BroadcastsInDim S4096x2048 (![] : Fin 0 → Fin S4096x2048.rank)
  bcast_S1x2048_S4096x2048_0_1 : S1x2048.BroadcastsInDim S4096x2048 (![0, 1] : Fin 2 → Fin S4096x2048.rank)

variable [Facts]

def fn {F : FTy → Type} [FloatOps F] (main_arg0 : FVec F S4096x2048 .f32) (main_arg1 : FVec F S4096x5120 .f32) (main_arg2 : FVec F S1x2048 .f32) (main_arg3 : FVec F S4096x2048 .f32) : IVec S4096x2048 1 :=
  let main_v0 : FVec F S1x2048 .f32 := Host.absf main_arg2
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S4096x2048 .f32 := Host.absf main_arg3
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := broadcastInDim S4096x2048 ![0, 1] bcast_S1x2048_S4096x2048_0_1 main_v2
  let main_v7 : IVec S4096x2048 1 := andi main_v6 main_v5
  main_v7
-- ==== Kernel.lean ====
abbrev S4096x1024 : Shape := ⟨2, ![4096, 1024]⟩
abbrev S4096x16x64 : Shape := ⟨3, ![4096, 16, 64]⟩
abbrev S16x4096x64 : Shape := ⟨3, ![16, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x8 : Shape := ⟨2, ![16, 8]⟩
abbrev S512x128 : Shape := ⟨2, ![512, 128]⟩
abbrev S4096x128 : Shape := ⟨2, ![4096, 128]⟩
abbrev S2x512x1 : Shape := ⟨3, ![2, 512, 1]⟩
abbrev S512x256 : Shape := ⟨2, ![512, 256]⟩
abbrev S256x256 : Shape := ⟨2, ![256, 256]⟩
abbrev S512x1 : Shape := ⟨2, ![512, 1]⟩
abbrev S512x64 : Shape := ⟨2, ![512, 64]⟩
abbrev S1x512x1 : Shape := ⟨3, ![1, 512, 1]⟩
abbrev S1x1 : Shape := ⟨2, ![1, 1]⟩
abbrev S256x64 : Shape := ⟨2, ![256, 64]⟩
abbrev S256x1 : Shape := ⟨2, ![256, 1]⟩

abbrev nBuf : Space → Nat
  | .hbm => 48
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x1024, .f32⟩
  | .hbm, ⟨8, _⟩ => ⟨S4096x16x64, .f32⟩
  | .hbm, ⟨9, _⟩ => ⟨S16x4096x64, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S16x4096x4096, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S_, .i32⟩
  | .hbm, ⟨44, _⟩ => ⟨S16x8, .i32⟩
  | .hbm, ⟨45, _⟩ => ⟨S4096x1024, .bf16⟩
  | .hbm, ⟨46, _⟩ => ⟨S4096x1024, .bf16⟩
  | .hbm, ⟨47, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x512x1, .f32⟩
  | .local _ .vmem, ⟨7, _⟩ => ⟨S2x512x1, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | .local _ .smem, ⟨0, _⟩ => ⟨S16x8, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v21_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let c2_i32_8 : BitVec 32 := 2#32
  let v24 : BitVec 32 := Scalar.muli arg0 c2_i32_8
  let c0_i32_9 : BitVec 32 := 0#32
  let v25 : BitVec 32 := Scalar.addi v24 c0_i32_9
  let v26 : Index := Scalar.indexCast v25
  let arg1 : BitVec 32 := BitVec.ofNat 32 (i 1).val
  let v27 : Index := Scalar.indexCast arg1
  ![v26.toNat, v27.toNat]
@[reducible] def k0_t1_loop (i : grid0.Coords) (v28 : BitVec 32) : Scf.Loop 32 :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let v32 : BitVec 32 := Scalar.subi v15 v30
  let c1_i32 : BitVec 32 := 1#32
  let v34 : BitVec 32 := Scalar.divsi v32 c1_i32
  let v35 : BitVec 32 := Scalar.muli v34 c1_i32
  let v36 : BitVec 32 := Scalar.addi v30 v35
  let c1_i32_12 : BitVec 32 := 1#32
  ⟨v30, v36, c1_i32_12⟩

def k0_mult1 (i : grid0.Coords) (v28 : BitVec 32) (k0_t1 : Fin (k0_t1_loop i v28).trips) : BitVec 32 :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let c1_i32_12 : BitVec 32 := 1#32
  let arg13 : BitVec 32 := Scf.iv v30 c1_i32_12 k0_t1
  let c256_i32_128 : BitVec 32 := 256#32
  let v415 : BitVec 32 := Scalar.muli arg13 c256_i32_128
  v415
def k0_off2 (i : grid0.Coords) (v28 : BitVec 32) (k0_t1 : Fin (k0_t1_loop i v28).trips) : Fin 2 → Nat :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let c1_i32_12 : BitVec 32 := 1#32
  let arg13 : BitVec 32 := Scf.iv v30 c1_i32_12 k0_t1
  let c256_i32_128 : BitVec 32 := 256#32
  let v415 : BitVec 32 := Scalar.muli arg13 c256_i32_128
  let v416 : BitVec 32 := v415
  let v417 : Index := Scalar.indexCast v416
  let c0_129 : Index := 0#32
  ![v417.toNat, 0]
@[reducible] def k0_t2_loop (i : grid0.Coords) (v28 : BitVec 32) : Scf.Loop 32 :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let v32 : BitVec 32 := Scalar.subi v15 v30
  let c1_i32 : BitVec 32 := 1#32
  let v34 : BitVec 32 := Scalar.divsi v32 c1_i32
  let v35 : BitVec 32 := Scalar.muli v34 c1_i32
  let v36 : BitVec 32 := Scalar.addi v30 v35
  let v33 : BitVec 32 := Scalar.addi v30 v32
  let c1_i32_13 : BitVec 32 := 1#32
  ⟨v36, v33, c1_i32_13⟩
def k0_mult2 (i : grid0.Coords) (v28 : BitVec 32) (k0_t2 : Fin (k0_t2_loop i v28).trips) : BitVec 32 :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let v32 : BitVec 32 := Scalar.subi v15 v30
  let c1_i32 : BitVec 32 := 1#32
  let v34 : BitVec 32 := Scalar.divsi v32 c1_i32
  let v35 : BitVec 32 := Scalar.muli v34 c1_i32
  let v36 : BitVec 32 := Scalar.addi v30 v35
  let c1_i32_13 : BitVec 32 := 1#32
  let arg13 : BitVec 32 := Scf.iv v36 c1_i32_13 k0_t2
  let c256_i32_128 : BitVec 32 := 256#32
  let v415 : BitVec 32 := Scalar.muli arg13 c256_i32_128
  v415
def k0_off3 (i : grid0.Coords) (v28 : BitVec 32) (k0_t2 : Fin (k0_t2_loop i v28).trips) : Fin 2 → Nat :=
  let arg1 : BitVec 32 := BitVec.ofNat 32 (i 1).val
  let c2_i32 : BitVec 32 := 2#32
  let v15 : BitVec 32 := Scalar.muli arg1 c2_i32
  let c0_i32_10 : BitVec 32 := 0#32
  let v29 : BitVec 32 := Scalar.maxsi c0_i32_10 v28
  let v30 : BitVec 32 := Scalar.minsi v15 v29
  let v32 : BitVec 32 := Scalar.subi v15 v30
  let c1_i32 : BitVec 32 := 1#32
  let v34 : BitVec 32 := Scalar.divsi v32 c1_i32
  let v35 : BitVec 32 := Scalar.muli v34 c1_i32
  let v36 : BitVec 32 := Scalar.addi v30 v35
  let c1_i32_13 : BitVec 32 := 1#32
  let arg13 : BitVec 32 := Scf.iv v36 c1_i32_13 k0_t2
  let c256_i32_128 : BitVec 32 := 256#32
  let v415 : BitVec 32 := Scalar.muli arg13 c256_i32_128
  let v416 : BitVec 32 := v415
  let v417 : Index := Scalar.indexCast v416
  let c0_129 : Index := 0#32
  ![v417.toNat, 0]

def k0_chk1 (i : grid0.Coords) (v28 : BitVec 32) : Prop :=
  ((k0_t1_loop i v28).OK) ∧
  (∀ k0_t1 : Fin (k0_t1_loop i v28).trips, 256 ∣ (k0_mult1 i v28 k0_t1).toNat) ∧
  (∀ k0_t1 : Fin (k0_t1_loop i v28).trips, ∀ a, (k0_off2 i v28 k0_t1) a + S256x64.size a ≤ S4096x128.size a) ∧
  ((k0_t2_loop i v28).OK) ∧
  (∀ k0_t2 : Fin (k0_t2_loop i v28).trips, 256 ∣ (k0_mult2 i v28 k0_t2).toNat) ∧
  (∀ k0_t2 : Fin (k0_t2_loop i v28).trips, ∀ a, (k0_off3 i v28 k0_t2) a + S256x64.size a ≤ S4096x128.size a)
theorem k0_t1_ok : ∀ (i : grid0.Coords) (v28 : BitVec 32) (k0_hw1 : k0_chk1 i v28), (k0_t1_loop i v28).OK := fun i v28 k0_hw1 => k0_hw1.1
theorem k0_mult1_dvd : ∀ (i : grid0.Coords) (v28 : BitVec 32) (k0_hw1 : k0_chk1 i v28) (k0_t1 : Fin (k0_t1_loop i v28).trips), 256 ∣ (k0_mult1 i v28 k0_t1).toNat := fun i v28 k0_hw1 k0_t1 => k0_hw1.2.1 k0_t1
theorem k0_off2_inb : ∀ (i : grid0.Coords) (v28 : BitVec 32) (k0_hw1 : k0_chk1 i v28) (k0_t1 : Fin (k0_t1_loop i v28).trips), ∀ a, (k0_off2 i v28 k0_t1) a + S256x64.size a ≤ S4096x128.size a := fun i v28 k0_hw1 k0_t1 => k0_hw1.2.2.1 k0_t1
theorem k0_t2_ok : ∀ (i : grid0.Coords) (v28 : BitVec 32) (k0_hw1 : k0_chk1 i v28), (k0_t2_loop i v28).OK := fun i v28 k0_hw1 => k0_hw1.2.2.2.1
theorem k0_mult2_dvd : ∀ (i : grid0.Coords) (v28 : BitVec 32) (k0_hw1 : k0_chk1 i v28) (k0_t2 : Fin (k0_t2_loop i v28).trips), 256 ∣ (k0_mult2 i v28 k0_t2).toNat := fun i v28 k0_hw1 k0_t2 => k0_hw1.2.2.2.2.1 k0_t2
theorem k0_off3_inb : ∀ (i : grid0.Coords) (v28 : BitVec 32) (k0_hw1 : k0_chk1 i v28) (k0_t2 : Fin (k0_t2_loop i v28).trips), ∀ a, (k0_off3 i v28 k0_t2) a + S256x64.size a ≤ S4096x128.size a := fun i v28 k0_hw1 k0_t2 => k0_hw1.2.2.2.2.2 k0_t2

def k0_mult3 (i : grid0.Coords) : BitVec 32 :=
  let arg1 : BitVec 32 := BitVec.ofNat 32 (i 1).val
  let c2_i32 : BitVec 32 := 2#32
  let v15 : BitVec 32 := Scalar.muli arg1 c2_i32
  let c0_i32_14 : BitVec 32 := 0#32
  let v39 : BitVec 32 := Scalar.addi v15 c0_i32_14
  let c256_i32 : BitVec 32 := 256#32
  let v42 : BitVec 32 := Scalar.muli v39 c256_i32
  v42
def k0_off4 (i : grid0.Coords) (c0_i32_14 : BitVec 32) : Fin 2 → Nat :=
  let arg1 : BitVec 32 := BitVec.ofNat 32 (i 1).val
  let c2_i32 : BitVec 32 := 2#32
  let v15 : BitVec 32 := Scalar.muli arg1 c2_i32
  let v39 : BitVec 32 := Scalar.addi v15 c0_i32_14
  let c256_i32 : BitVec 32 := 256#32
  let v42 : BitVec 32 := Scalar.muli v39 c256_i32
  let v43 : BitVec 32 := v42
  let v44 : Index := Scalar.indexCast v43
  let c0_16 : Index := 0#32
  ![v44.toNat, 0]
def k0_mult4 (i : grid0.Coords) : BitVec 32 :=
  let arg1 : BitVec 32 := BitVec.ofNat 32 (i 1).val
  let c2_i32 : BitVec 32 := 2#32
  let v15 : BitVec 32 := Scalar.muli arg1 c2_i32
  let c1_i32_37 : BitVec 32 := 1#32
  let v122 : BitVec 32 := Scalar.addi v15 c1_i32_37
  let c256_i32_38 : BitVec 32 := 256#32
  let v129 : BitVec 32 := Scalar.muli v122 c256_i32_38
  v129
def k0_off5 (i : grid0.Coords) : Fin 2 → Nat :=
  let arg0 : BitVec 32 := BitVec.ofNat 32 (i 0).val
  let c2_i32_69 : BitVec 32 := 2#32
  let v222 : BitVec 32 := Scalar.muli arg0 c2_i32_69
  let c1_i32_70 : BitVec 32 := 1#32
  let v223 : BitVec 32 := Scalar.addi v222 c1_i32_70
  let v224 : Index := Scalar.indexCast v223
  let arg1 : BitVec 32 := BitVec.ofNat 32 (i 1).val
  let v225 : Index := Scalar.indexCast arg1
  ![v224.toNat, v225.toNat]
@[reducible] def k0_t3_loop (i : grid0.Coords) (v226 : BitVec 32) : Scf.Loop 32 :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let v230 : BitVec 32 := Scalar.subi v15 v228
  let c1_i32_73 : BitVec 32 := 1#32
  let v232 : BitVec 32 := Scalar.divsi v230 c1_i32_73
  let v233 : BitVec 32 := Scalar.muli v232 c1_i32_73
  let v234 : BitVec 32 := Scalar.addi v228 v233
  let c1_i32_74 : BitVec 32 := 1#32
  ⟨v228, v234, c1_i32_74⟩

def k0_mult5 (i : grid0.Coords) (v226 : BitVec 32) (k0_t3 : Fin (k0_t3_loop i v226).trips) : BitVec 32 :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let c1_i32_74 : BitVec 32 := 1#32
  let arg13 : BitVec 32 := Scf.iv v228 c1_i32_74 k0_t3
  let c256_i32_128 : BitVec 32 := 256#32
  let v415 : BitVec 32 := Scalar.muli arg13 c256_i32_128
  v415
def k0_off6 (i : grid0.Coords) (v226 : BitVec 32) (k0_t3 : Fin (k0_t3_loop i v226).trips) : Fin 2 → Nat :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let c1_i32_74 : BitVec 32 := 1#32
  let arg13 : BitVec 32 := Scf.iv v228 c1_i32_74 k0_t3
  let c256_i32_128 : BitVec 32 := 256#32
  let v415 : BitVec 32 := Scalar.muli arg13 c256_i32_128
  let v416 : BitVec 32 := v415
  let v417 : Index := Scalar.indexCast v416
  let c64_129 : Index := 64#32
  ![v417.toNat, 64]
@[reducible] def k0_t4_loop (i : grid0.Coords) (v226 : BitVec 32) : Scf.Loop 32 :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let v230 : BitVec 32 := Scalar.subi v15 v228
  let c1_i32_73 : BitVec 32 := 1#32
  let v232 : BitVec 32 := Scalar.divsi v230 c1_i32_73
  let v233 : BitVec 32 := Scalar.muli v232 c1_i32_73
  let v234 : BitVec 32 := Scalar.addi v228 v233
  let v231 : BitVec 32 := Scalar.addi v228 v230
  let c1_i32_75 : BitVec 32 := 1#32
  ⟨v234, v231, c1_i32_75⟩
def k0_mult6 (i : grid0.Coords) (v226 : BitVec 32) (k0_t4 : Fin (k0_t4_loop i v226).trips) : BitVec 32 :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let v230 : BitVec 32 := Scalar.subi v15 v228
  let c1_i32_73 : BitVec 32 := 1#32
  let v232 : BitVec 32 := Scalar.divsi v230 c1_i32_73
  let v233 : BitVec 32 := Scalar.muli v232 c1_i32_73
  let v234 : BitVec 32 := Scalar.addi v228 v233
  let c1_i32_75 : BitVec 32 := 1#32
  let arg13 : BitVec 32 := Scf.iv v234 c1_i32_75 k0_t4
  let c256_i32_128 : BitVec 32 := 256#32
  let v415 : BitVec 32 := Scalar.muli arg13 c256_i32_128
  v415
def k0_off7 (i : grid0.Coords) (v226 : BitVec 32) (k0_t4 : Fin (k0_t4_loop i v226).trips) : Fin 2 → Nat :=
  let arg1 : BitVec 32 := BitVec.ofNat 32 (i 1).val
  let c2_i32 : BitVec 32 := 2#32
  let v15 : BitVec 32 := Scalar.muli arg1 c2_i32
  let c0_i32_71 : BitVec 32 := 0#32
  let v227 : BitVec 32 := Scalar.maxsi c0_i32_71 v226
  let v228 : BitVec 32 := Scalar.minsi v15 v227
  let v230 : BitVec 32 := Scalar.subi v15 v228
  let c1_i32_73 : BitVec 32 := 1#32
  let v232 : BitVec 32 := Scalar.divsi v230 c1_i32_73
  let v233 : BitVec 32 := Scalar.muli v232 c1_i32_73
  let v234 : BitVec 32 := Scalar.addi v228 v233
  let c1_i32_75 : BitVec 32 := 1#32
  let arg13 : BitVec 32 := Scf.iv v234 c1_i32_75 k0_t4
  let c256_i32_128 : BitVec 32 := 256#32
  let v415 : BitVec 32 := Scalar.muli arg13 c256_i32_128
  let v416 : BitVec 32 := v415
  let v417 : Index := Scalar.indexCast v416
  let c64_129 : Index := 64#32
  ![v417.toNat, 64]

def k0_chk2 (i : grid0.Coords) (v226 : BitVec 32) : Prop :=
  ((k0_t3_loop i v226).OK) ∧
  (∀ k0_t3 : Fin (k0_t3_loop i v226).trips, 256 ∣ (k0_mult5 i v226 k0_t3).toNat) ∧
  (∀ k0_t3 : Fin (k0_t3_loop i v226).trips, ∀ a, (k0_off6 i v226 k0_t3) a + S256x64.size a ≤ S4096x128.size a) ∧
  ((k0_t4_loop i v226).OK) ∧
  (∀ k0_t4 : Fin (k0_t4_loop i v226).trips, 256 ∣ (k0_mult6 i v226 k0_t4).toNat) ∧
  (∀ k0_t4 : Fin (k0_t4_loop i v226).trips, ∀ a, (k0_off7 i v226 k0_t4) a + S256x64.size a ≤ S4096x128.size a)
theorem k0_t3_ok : ∀ (i : grid0.Coords) (v226 : BitVec 32) (k0_hw2 : k0_chk2 i v226), (k0_t3_loop i v226).OK := fun i v226 k0_hw2 => k0_hw2.1
theorem k0_mult5_dvd : ∀ (i : grid0.Coords) (v226 : BitVec 32) (k0_hw2 : k0_chk2 i v226) (k0_t3 : Fin (k0_t3_loop i v226).trips), 256 ∣ (k0_mult5 i v226 k0_t3).toNat := fun i v226 k0_hw2 k0_t3 => k0_hw2.2.1 k0_t3
theorem k0_off6_inb : ∀ (i : grid0.Coords) (v226 : BitVec 32) (k0_hw2 : k0_chk2 i v226) (k0_t3 : Fin (k0_t3_loop i v226).trips), ∀ a, (k0_off6 i v226 k0_t3) a + S256x64.size a ≤ S4096x128.size a := fun i v226 k0_hw2 k0_t3 => k0_hw2.2.2.1 k0_t3
theorem k0_t4_ok : ∀ (i : grid0.Coords) (v226 : BitVec 32) (k0_hw2 : k0_chk2 i v226), (k0_t4_loop i v226).OK := fun i v226 k0_hw2 => k0_hw2.2.2.2.1
theorem k0_mult6_dvd : ∀ (i : grid0.Coords) (v226 : BitVec 32) (k0_hw2 : k0_chk2 i v226) (k0_t4 : Fin (k0_t4_loop i v226).trips), 256 ∣ (k0_mult6 i v226 k0_t4).toNat := fun i v226 k0_hw2 k0_t4 => k0_hw2.2.2.2.2.1 k0_t4
theorem k0_off7_inb : ∀ (i : grid0.Coords) (v226 : BitVec 32) (k0_hw2 : k0_chk2 i v226) (k0_t4 : Fin (k0_t4_loop i v226).trips), ∀ a, (k0_off7 i v226 k0_t4) a + S256x64.size a ≤ S4096x128.size a := fun i v226 k0_hw2 k0_t4 => k0_hw2.2.2.2.2.2 k0_t4

def k0_mult7 (i : grid0.Coords) : BitVec 32 :=
  let arg1 : BitVec 32 := BitVec.ofNat 32 (i 1).val
  let c2_i32 : BitVec 32 := 2#32
  let v15 : BitVec 32 := Scalar.muli arg1 c2_i32
  let c0_i32_76 : BitVec 32 := 0#32
  let v237 : BitVec 32 := Scalar.addi v15 c0_i32_76
  let c256_i32_78 : BitVec 32 := 256#32
  let v240 : BitVec 32 := Scalar.muli v237 c256_i32_78
  v240
def k0_off8 (i : grid0.Coords) (c0_i32_76 : BitVec 32) : Fin 2 → Nat :=
  let arg1 : BitVec 32 := BitVec.ofNat 32 (i 1).val
  let c2_i32 : BitVec 32 := 2#32
  let v15 : BitVec 32 := Scalar.muli arg1 c2_i32
  let v237 : BitVec 32 := Scalar.addi v15 c0_i32_76
  let c256_i32_78 : BitVec 32 := 256#32
  let v240 : BitVec 32 := Scalar.muli v237 c256_i32_78
  let v241 : BitVec 32 := v240
  let v242 : Index := Scalar.indexCast v241
  let c64_79 : Index := 64#32
  ![v242.toNat, 64]
def k0_mult8 (i : grid0.Coords) : BitVec 32 :=
  let arg1 : BitVec 32 := BitVec.ofNat 32 (i 1).val
  let c2_i32 : BitVec 32 := 2#32
  let v15 : BitVec 32 := Scalar.muli arg1 c2_i32
  let c1_i32_100 : BitVec 32 := 1#32
  let v320 : BitVec 32 := Scalar.addi v15 c1_i32_100
  let c256_i32_102 : BitVec 32 := 256#32
  let v327 : BitVec 32 := Scalar.muli v320 c256_i32_102
  v327
def k0_cond2 (i : grid0.Coords) : BitVec 1 :=
  let arg1 : BitVec 32 := BitVec.ofNat 32 (i 1).val
  let c7_i32 : BitVec 32 := 7#32
  let v412 : BitVec 1 := Scalar.cmpi .eq arg1 c7_i32
  let v413 : BitVec 32 := Scalar.extui v412
  let c0_i32_127 : BitVec 32 := 0#32
  let v414 : BitVec 1 := Scalar.cmpi .ne v413 c0_i32_127
  v414

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S16x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x4096 : Shape := ⟨3, ![16, 4096, 4096]⟩
abbrev S_ : Shape := ⟨0, ![]⟩
abbrev S16x64x4096 : Shape := ⟨3, ![16, 64, 4096]⟩

abbrev nBuf : Space → Nat
  | .hbm => 180
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x1024, .f32⟩
  | 5 => ⟨S4096x16x64, .f32⟩
  | 6 => ⟨S16x4096x64, .f32⟩
  | 7 => ⟨S4096x1024, .f32⟩
  | 8 => ⟨S4096x16x64, .f32⟩
  | 9 => ⟨S16x4096x64, .f32⟩
  | 10 => ⟨S4096x1024, .f32⟩
  | 11 => ⟨S4096x16x64, .f32⟩
  | 12 => ⟨S16x4096x64, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i1⟩
  | 19 => ⟨S16x4096x4096, .f32⟩
  | 20 => ⟨S_, .f32⟩
  | 21 => ⟨S16x4096x4096, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4096, .f32⟩
  | 81 => ⟨S16x4096x4096, .f32⟩
  | 82 => ⟨S_, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .i1⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .i1⟩
  | 99 => ⟨S_, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x4096x4096, .f32⟩
  | 118 => ⟨S16x4096x4096, .i1⟩
  | 119 => ⟨S_, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x4096, .f32⟩
  | 125 => ⟨S_, .f32⟩
  | 126 => ⟨S16x4096x4096, .f32⟩
  | 127 => ⟨S16x4096x4096, .f32⟩
  | _ => ⟨S4096x1024, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S_, .f32⟩
  | 5 => ⟨S16x4096x4096, .i1⟩
  | 6 => ⟨S16x4096x4096, .f32⟩
  | 7 => ⟨S16x4096x4096, .f32⟩
  | 8 => ⟨S_, .f32⟩
  | 9 => ⟨S16x4096x4096, .f32⟩
  | 10 => ⟨S16x4096x64, .f32⟩
  | 11 => ⟨S4096x16x64, .f32⟩
  | 12 => ⟨S4096x1024, .f32⟩
  | 13 => ⟨S4096x1024, .bf16⟩
  | 14 => ⟨S4096x1024, .f32⟩
  | 15 => ⟨S4096x16x64, .f32⟩
  | 16 => ⟨S16x4096x64, .f32⟩
  | 17 => ⟨S16x64x4096, .f32⟩
  | 18 => ⟨S16x4096x64, .f32⟩
  | 19 => ⟨S16x4096x4096, .f32⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S_, .f32⟩
  | 29 => ⟨S_, .f32⟩
  | 30 => ⟨S16x4096x4096, .f32⟩
  | 31 => ⟨S16x4096x4096, .f32⟩
  | 32 => ⟨S_, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .f32⟩
  | 41 => ⟨S16x4096x64, .f32⟩
  | 42 => ⟨S16x4096x64, .f32⟩
  | 43 => ⟨S4096x16x64, .f32⟩
  | 44 => ⟨S4096x1024, .f32⟩
  | 45 => ⟨S4096x1024, .bf16⟩
  | 46 => ⟨S4096x16x64, .f32⟩
  | 47 => ⟨S4096x1024, .f32⟩
  | 48 => ⟨S4096x1024, .bf16⟩
  | 49 => ⟨S4096x16x64, .f32⟩
  | 50 => ⟨S4096x1024, .f32⟩
  | 51 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v18_0 : Ref sig .tc := ⟨.hbm, 36, rfl⟩
abbrev main_call0_cst_0 : Ref sig .tc := ⟨.hbm, 37, rfl⟩
abbrev main_call0_v13 : Ref sig .tc := ⟨.hbm, 38, rfl⟩
abbrev main_call0_v14 : Ref sig .tc := ⟨.hbm, 39, rfl⟩
abbrev main_call0_cst_1 : Ref sig .tc := ⟨.hbm, 40, rfl⟩
abbrev main_call0_v15 : Ref sig .tc := ⟨.hbm, 41, rfl⟩
abbrev main_call0_v16 : Ref sig .tc := ⟨.hbm, 42, rfl⟩
abbrev main_call0_cst_2 : Ref sig .tc := ⟨.hbm, 43, rfl⟩
abbrev main_call0_v17 : Ref sig .tc := ⟨.hbm, 44, rfl⟩
abbrev main_call0_v18 : Ref sig .tc := ⟨.hbm, 45, rfl⟩
abbrev main_call0_cst_3 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_v18_1 : Ref sig .tc := ⟨.hbm, 50, rfl⟩
abbrev main_call0_cst_4 : Ref sig .tc := ⟨.hbm, 51, rfl⟩
abbrev main_call0_cst_5 : Ref sig .tc := ⟨.hbm, 52, rfl⟩
abbrev main_call0_v23 : Ref sig .tc := ⟨.hbm, 53, rfl⟩
abbrev main_call0_cst_6 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_v26 : Ref sig .tc := ⟨.hbm, 59, rfl⟩
abbrev main_call0_cst_9 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_10 : Ref sig .tc := ⟨.hbm, 66, rfl⟩
abbrev main_call0_v32 : Ref sig .tc := ⟨.hbm, 67, rfl⟩
abbrev main_v18_2 : Ref sig .tc := ⟨.hbm, 68, rfl⟩
abbrev main_v19 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_cst_2 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩

abbrev nD : Nat := 1
abbrev τ : Topo := Topo.v7x

variable {F : FTy → Type} [FloatOps F]
-- ==== Kernel2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S4x1024x1408, .bf16⟩
  | .hbm, ⟨2, _⟩ => ⟨S4096x1024, .f32⟩
  | .local _ .vmem, ⟨0, _⟩ => ⟨S1x1024x1408, .f32⟩
  | .local _ .vmem, ⟨1, _⟩ => ⟨S1x1024x1408, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v14 : BitVec 1 := Scalar.cmpi .eq arg2 c3_i32_8
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x4096x2816 : Shape := ⟨3, ![2, 4096, 2816]⟩
abbrev S4x1024x1408 : Shape := ⟨3, ![4, 1024, 1408]⟩
abbrev S_ : Shape := ⟨0, ![]⟩
abbrev S4096x1024 : Shape := ⟨2, ![4096, 1024]⟩
abbrev S1024x4x1408 : Shape := ⟨3, ![1024, 4, 1408]⟩
abbrev S1024x5632 : Shape := ⟨2, ![1024, 5632]⟩
abbrev S4096x5632 : Shape := ⟨2, ![4096, 5632]⟩
abbrev S4096x2x2816 : Shape := ⟨3, ![4096, 2, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4x1024x1408, .bf16⟩
  | .hbm, ⟨2, _⟩ => ⟨S_, .f32⟩
  | .hbm, ⟨3, _⟩ => ⟨S4096x1024, .f32⟩
  | .hbm, ⟨4, _⟩ => ⟨S1024x4x1408, .bf16⟩
  | .hbm, ⟨5, _⟩ => ⟨S1024x5632, .bf16⟩
  | .hbm, ⟨6, _⟩ => ⟨S1024x5632, .f32⟩
  | .hbm, ⟨7, _⟩ => ⟨S4096x5632, .f32⟩
  | .hbm, ⟨8, _⟩ => ⟨S4096x2x2816, .f32⟩
  | .hbm, ⟨9, _⟩ => ⟨S4096x5632, .f32⟩
  | .hbm, ⟨10, _⟩ => ⟨S4096x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .f32⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .f32⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2x2816 : Shape := ⟨3, ![4096, 2, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .f32⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x2x2816, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S1024x4x1408, .f32⟩
  | .hbm, ⟨11, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x5120 : Shape := ⟨2, ![4096, 5120]⟩
abbrev S1024x5120 : Shape := ⟨2, ![1024, 5120]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .f32⟩
  | .hbm, ⟨1, _⟩ => ⟨S1024x5120, .bf16⟩
  | .hbm, ⟨2, _⟩ => ⟨S4096x1024, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5120 : Shape := ⟨2, ![4096, 5120]⟩
abbrev S1024x5120 : Shape := ⟨2, ![1024, 5120]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1024x5120, .bf16⟩
  | .hbm, ⟨2, _⟩ => ⟨S_, .f32⟩
  | .hbm, ⟨3, _⟩ => ⟨S4096x1024, .f32⟩
  | .hbm, ⟨4, _⟩ => ⟨S1024x5120, .f32⟩
  | .hbm, ⟨5, _⟩ => ⟨S4096x5120, .f32⟩
  | .hbm, ⟨6, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S4096x5120 : Shape := ⟨2, ![4096, 5120]⟩
abbrev S1024x5120 : Shape := ⟨2, ![1024, 5120]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .f32⟩
  | .hbm, ⟨2, _⟩ => ⟨S1024x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .f32⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .f32⟩
  | .hbm, ⟨2, _⟩ => ⟨S_, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S5120x1024, .f32⟩
  | .hbm, ⟨7, _⟩ => ⟨S1024x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x1024 : Shape := ⟨2, ![4096, 1024]⟩
abbrev S1024x5120 : Shape := ⟨2, ![1024, 5120]⟩
abbrev S4096x5120 : Shape := ⟨2, ![4096, 5120]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | .hbm, ⟨8, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel23.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def k0_cond3 (i : grid0.Coords) : BitVec 1 :=
  let arg0 : BitVec 32 := BitVec.ofNat 32 (i 0).val
  let c0_i32_22 : BitVec 32 := 0#32
  let v54 : BitVec 1 := Scalar.cmpi .eq arg0 c0_i32_22
  let v55 : BitVec 32 := Scalar.extui v54
  let c0_i32_23 : BitVec 32 := 0#32
  let v56 : BitVec 1 := Scalar.cmpi .ne v55 c0_i32_23
  v56

def k0_cond4 (i : grid0.Coords) : BitVec 1 :=
  let arg0 : BitVec 32 := BitVec.ofNat 32 (i 0).val
  let c0_i32_24 : BitVec 32 := 0#32
  let v57 : BitVec 1 := Scalar.cmpi .sgt arg0 c0_i32_24
  let v58 : BitVec 32 := Scalar.extui v57
  let c0_i32_25 : BitVec 32 := 0#32
  let v59 : BitVec 1 := Scalar.cmpi .ne v58 c0_i32_25
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S4096x2048 : Shape := ⟨2, ![4096, 2048]⟩
abbrev S4096x5120 : Shape := ⟨2, ![4096, 5120]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x5120, .f32⟩
  | .hbm, ⟨6, _⟩ => ⟨S1x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_21 : BitVec 32 := 0#32
  let v51 : BitVec 1 := Scalar.cmpi .ne v50 c0_i32_21
  v51

def k0_cond2 (i : grid0.Coords) : BitVec 1 :=
  let arg0 : BitVec 32 := BitVec.ofNat 32 (i 0).val
  let c0_i32_22 : BitVec 32 := 0#32
  let v52 : BitVec 1 := Scalar.cmpi .sgt arg0 c0_i32_22
  let v53 : BitVec 32 := Scalar.extui v52
  let c0_i32_23 : BitVec 32 := 0#32
  let v54 : BitVec 1 := Scalar.cmpi .ne v53 c0_i32_23
  v54

def k0_cond3 (i : grid0.Coords) : BitVec 1 :=
  let arg0 : BitVec 32 := BitVec.ofNat 32 (i 0).val
  let c0_i32_46 : BitVec 32 := 0#32
  let v104 : BitVec 1 := Scalar.cmpi .eq arg0 c0_i32_46
  let v105 : BitVec 32 := Scalar.extui v104
  let c0_i32_47 : BitVec 32 := 0#32
  let v106 : BitVec 1 := Scalar.cmpi .ne v105 c0_i32_47
  v106

def k0_cond4 (i : grid0.Coords) : BitVec 1 :=
  let arg0 : BitVec 32 := BitVec.ofNat 32 (i 0).val
  let c0_i32_48 : BitVec 32 := 0#32
  let v107 : BitVec 1 := Scalar.cmpi .sgt arg0 c0_i32_48
  let v108 : BitVec 32 := Scalar.extui v107
  let c0_i32_49 : BitVec 32 := 0#32
  let v109 : BitVec 1 := Scalar.cmpi .ne v108 c0_i32_49
  v109

def k0_cond5 (i : grid0.Coords) : BitVec 1 :=
  let arg0 : BitVec 32 := BitVec.ofNat 32 (i 0).val
  let c0_i32_72 : BitVec 32 := 0#32
  let v159 : BitVec 1 := Scalar.cmpi .eq arg0 c0_i32_72
  let v160 : BitVec 32 := Scalar.extui v159
  let c0_i32_73 : BitVec 32 := 0#32
  let v161 : BitVec 1 := Scalar.cmpi .ne v160 c0_i32_73
  v161

def k0_cond6 (i : grid0.Coords) : BitVec 1 :=
  let arg0 : BitVec 32 := BitVec.ofNat 32 (i 0).val
  let c0_i32_74 : BitVec 32 := 0#32
  let v162 : BitVec 1 := Scalar.cmpi .sgt arg0 c0_i32_74
  let v163 : BitVec 32 := Scalar.extui v162
  let c0_i32_75 : BitVec 32 := 0#32
  let v164 : BitVec 1 := Scalar.cmpi .ne v163 c0_i32_75
  v164

def k0_cond7 (i : grid0.Coords) : BitVec 1 :=
  let arg0 : BitVec 32 := BitVec.ofNat 32 (i 0).val
  let c0_i32_98 : BitVec 32 := 0#32
  let v214 : BitVec 1 := Scalar.cmpi .eq arg0 c0_i32_98
  let v215 : BitVec 32 := Scalar.extui v214
  let c0_i32_99 : BitVec 32 := 0#32
  let v216 : BitVec 1 := Scalar.cmpi .ne v215 c0_i32_99
  v216

def k0_cond8 (i : grid0.Coords) : BitVec 1 :=
  let arg0 : BitVec 32 := BitVec.ofNat 32 (i 0).val
  let c0_i32_100 : BitVec 32 := 0#32
  let v217 : BitVec 1 := Scalar.cmpi .sgt arg0 c0_i32_100
  let v218 : BitVec 32 := Scalar.extui v217
  let c0_i32_101 : BitVec 32 := 0#32
  let v219 : BitVec 1 := Scalar.cmpi .ne v218 c0_i32_101
  v219

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S4096x2048 : Shape := ⟨2, ![4096, 2048]⟩
abbrev S4096x5120 : Shape := ⟨2, ![4096, 5120]⟩
abbrev S1x2048 : Shape := ⟨2, ![1, 2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x4x512, .f32⟩
  | .hbm, ⟨20, _⟩ => ⟨S4x512, .f32⟩
  | .hbm, ⟨21, _⟩ => ⟨S4096x4x512, .f32⟩
  | .hbm, ⟨22, _⟩ => ⟨S_, .f32⟩
  | .hbm, ⟨23, _⟩ => ⟨S4096x4, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S_, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x512, .f32⟩
  | .hbm, ⟨37, _⟩ => ⟨S4096x4x512, .f32⟩
  | .hbm, ⟨38, _⟩ => ⟨S1x4x512, .f32⟩
  | .hbm, ⟨39, _⟩ => ⟨S4096x4x512, .f32⟩
  | .hbm, ⟨40, _⟩ => ⟨S4096x4x512, .f32⟩
  | .hbm, ⟨41, _⟩ => ⟨S4096x2048, .f32⟩
  | .hbm, ⟨42, _⟩ => ⟨S4096x4x512, .f32⟩
  | .hbm, ⟨43, _⟩ => ⟨S4096x4x512, .f32⟩
  | .hbm, ⟨44, _⟩ => ⟨S_, .f32⟩
  | .hbm, ⟨45, _⟩ => ⟨S4x512, .f32⟩
  | .hbm, ⟨46, _⟩ => ⟨S1x4x512, .f32⟩
  | .hbm, ⟨47, _⟩ => ⟨S4096x4x512, .f32⟩
  | .hbm, ⟨48, _⟩ => ⟨S4096x4x512, .f32⟩
  | .hbm, ⟨49, _⟩ => ⟨S_, .f32⟩
  | .hbm, ⟨50, _⟩ => ⟨S4x512, .f32⟩
  | .hbm, ⟨51, _⟩ => ⟨S4096x4x512, .f32⟩
  | .hbm, ⟨52, _⟩ => ⟨S_, .f32⟩
  | .hbm, ⟨53, _⟩ => ⟨S4096x4, .f32⟩
  | .hbm, ⟨54, _⟩ => ⟨S4096x4x1, .f32⟩
  | .hbm, ⟨55, _⟩ => ⟨S4096x4x512, .f32⟩
  | .hbm, ⟨56, _⟩ => ⟨S4096x4x512, .f32⟩
  | .hbm, ⟨57, _⟩ => ⟨S4096x4x1, .f32⟩
  | .hbm, ⟨58, _⟩ => ⟨S_, .f32⟩
  | .hbm, ⟨59, _⟩ => ⟨S4096x4x1, .f32⟩
  | .hbm, ⟨60, _⟩ => ⟨S4096x4x1, .f32⟩
  | .hbm, ⟨61, _⟩ => ⟨S_, .f32⟩
  | .hbm, ⟨62, _⟩ => ⟨S4096x4, .f32⟩
  | .hbm, ⟨63, _⟩ => ⟨S4096x4x512, .f32⟩
  | .hbm, ⟨64, _⟩ => ⟨S4096x4x512, .f32⟩
  | .hbm, ⟨65, _⟩ => ⟨S4096x4x512, .f32⟩
  | .hbm, ⟨66, _⟩ => ⟨S4096x4x512, .f32⟩
  | .hbm, ⟨67, _⟩ => ⟨S4096x4x512, .f32⟩
  | .hbm, ⟨68, _⟩ => ⟨S1x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Kernel28.lean ====
abbrev S4096x2048 : Shape := ⟨2, ![4096, 2048]⟩
abbrev S4096x5120 : Shape := ⟨2, ![4096, 5120]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S4096x2048 : Shape := ⟨2, ![4096, 2048]⟩
abbrev S4096x5120 : Shape := ⟨2, ![4096, 5120]⟩
abbrev S1x2048 : Shape := ⟨2, ![1, 2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x4x512, .f32⟩
  | .hbm, ⟨15, _⟩ => ⟨S4x512, .f32⟩
  | .hbm, ⟨16, _⟩ => ⟨S4096x4x512, .f32⟩
  | .hbm, ⟨17, _⟩ => ⟨S_, .f32⟩
  | .hbm, ⟨18, _⟩ => ⟨S4096x4, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x1, .f32⟩
  | .hbm, ⟨27, _⟩ => ⟨S4096x4x512, .f32⟩
  | .hbm, ⟨28, _⟩ => ⟨S4096x4x512, .f32⟩
  | .hbm, ⟨29, _⟩ => ⟨S1x4x512, .f32⟩
  | .hbm, ⟨30, _⟩ => ⟨S4096x4x512, .f32⟩
  | .hbm, ⟨31, _⟩ => ⟨S4096x4x512, .f32⟩
  | .hbm, ⟨32, _⟩ => ⟨S4096x2048, .f32⟩
  | .hbm, ⟨33, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Checks.lean ====
/- The loop of one head over the key blocks before the diagonal: where it starts, how many trips it makes and which rows
   it touches, for every word the table of starting blocks may hold. -/
module
public import proofs.«01_k».proof.KernelIdeal
public import Idealize.ShloMosaic.Lib.Exec
@[expose] public section
set_option maxRecDepth 16384
noncomputable section
namespace Cert.KernelIdeal.Attn
open Idealize.ShloMosaic

/-- The block a walk starts at: the table's word held between zero and the diagonal. -/
def lo (m : ℕ) (v : BitVec 32) : ℕ := min (2 * m) v.toInt.toNat

theorem lo_le (m : ℕ) (v : BitVec 32) : lo m v ≤ 2 * m := min_le_left _ _

/-- The kernel's own computation of the starting block is `lo`. -/
theorem lo_spec (m : ℕ) (hm : m < 8) (v : BitVec 32) :
    Scalar.minsi (Scalar.muli (BitVec.ofNat 32 m) 2#32) (Scalar.maxsi 0#32 v) = BitVec.ofNat 32 (lo m v) := by
  have h2 : Scalar.muli (BitVec.ofNat 32 m) 2#32 = BitVec.ofNat 32 (2 * m) := by
    have : ∀ m : Fin 8, Scalar.muli (BitVec.ofNat 32 m.val) 2#32 = BitVec.ofNat 32 (2 * m.val) := by decide
    exact this ⟨m, hm⟩
  have h2t : (BitVec.ofNat 32 (2 * m)).toInt = 2 * m := by
    have : ∀ m : Fin 8, (BitVec.ofNat 32 (2 * m.val)).toInt = 2 * m.val := by decide
    exact this ⟨m, hm⟩
  have hmx : Scalar.maxsi 0#32 v = if v.slt 0#32 then 0#32 else v := rfl
  have hmn : ∀ x y : BitVec 32, Scalar.minsi x y = if x.slt y then x else y := fun _ _ => rfl
  rw [h2, hmx, hmn]
  unfold lo
  by_cases hv : v.toInt < 0
  · have h1 : v.slt 0#32 = true := by rw [BitVec.slt_iff_toInt_lt]; simpa using hv
    rw [if_pos h1]
    have h3 : ¬ (BitVec.ofNat 32 (2 * m)).slt 0#32 = true := by
      rw [BitVec.slt_iff_toInt_lt, h2t]; simp; omega
    rw [if_neg h3, Int.toNat_of_nonpos hv.le]; simp
  · have h1 : ¬ v.slt 0#32 = true := by rw [BitVec.slt_iff_toInt_lt]; simpa using hv
    rw [if_neg h1]
    have hn : v.toInt.toNat = v.toNat := by
      have := v.toInt_eq_toNat_cond
      have := v.isLt
      split at * <;> omega
    by_cases h3 : (BitVec.ofNat 32 (2 * m)).slt v = true
    · rw [if_pos h3]
      rw [BitVec.slt_iff_toInt_lt, h2t] at h3
      congr 1; omega
    · rw [if_neg h3]
      rw [BitVec.slt_iff_toInt_lt, h2t] at h3
      rw [min_eq_right (by omega), hn]; simp

/-- Everything the two walks of a head ask, at one tile and one starting block. -/
theorem walk_facts : ∀ m : Fin 8, ∀ n : Fin 15, n.val ≤ 2 * m.val →
    Scalar.addi (BitVec.ofNat 32 n.val) (Scalar.muli (Scalar.divsi (Scalar.subi (Scalar.muli (BitVec.ofNat 32 m.val) 2#32)
      (BitVec.ofNat 32 n.val)) 1#32) 1#32) = BitVec.ofNat 32 (2 * m.val)
    ∧ Scalar.addi (BitVec.ofNat 32 n.val) (Scalar.subi (Scalar.muli (BitVec.ofNat 32 m.val) 2#32)
      (BitVec.ofNat 32 n.val)) = BitVec.ofNat 32 (2 * m.val) := by decide +kernel

theorem trips_main : ∀ m : Fin 8, ∀ n : Fin 15, n.val ≤ 2 * m.val →
    Scf.trips (BitVec.ofNat 32 n.val) (BitVec.ofNat 32 (2 * m.val)) 1#32 = 2 * m.val - n.val
    ∧ Scf.OK (BitVec.ofNat 32 n.val) (BitVec.ofNat 32 (2 * m.val)) 1#32
    ∧ Scf.trips (BitVec.ofNat 32 (2 * m.val)) (BitVec.ofNat 32 (2 * m.val)) 1#32 = 0
    ∧ Scf.OK (BitVec.ofNat 32 (2 * m.val)) (BitVec.ofNat 32 (2 * m.val)) 1#32 := by decide +kernel

theorem iv_main (n k : ℕ) (h : n + k < 16) :
    (Scalar.muli (Scf.iv (BitVec.ofNat 32 n) 1#32 k) 256#32).toNat = 256 * (n + k) := by
  have : ∀ n : Fin 16, ∀ k : Fin 16, n.val + k.val < 16 →
    (Scalar.muli (Scf.iv (BitVec.ofNat 32 n.val) 1#32 k.val) 256#32).toNat = 256 * (n.val + k.val) := by decide +kernel
  exact this ⟨n, by omega⟩ ⟨k, by omega⟩ h

variable (i : grid0.Coords) (v : BitVec 32)

theorem i1_lt : (i 1).val < 8 := (i 1).isLt

theorem t1_loop_eq : k0_t1_loop i v = ⟨BitVec.ofNat 32 (lo (i 1).val v), BitVec.ofNat 32 (2 * (i 1).val), 1#32⟩ := by
  have h := walk_facts ⟨_, i1_lt i⟩ ⟨lo (i 1).val v, by have := lo_le (i 1).val v; have := i1_lt i; omega⟩ (lo_le _ _)
  simp only [k0_t1_loop, lo_spec _ (i1_lt i)]
  rw [h.1]

theorem t2_loop_eq : k0_t2_loop i v = ⟨BitVec.ofNat 32 (2 * (i 1).val), BitVec.ofNat 32 (2 * (i 1).val), 1#32⟩ := by
  have h := walk_facts ⟨_, i1_lt i⟩ ⟨lo (i 1).val v, by have := lo_le (i 1).val v; have := i1_lt i; omega⟩ (lo_le _ _)
  simp only [k0_t2_loop, lo_spec _ (i1_lt i)]
  rw [h.1, h.2]

theorem t3_loop_eq : k0_t3_loop i v = k0_t1_loop i v := rfl
theorem t4_loop_eq : k0_t4_loop i v = k0_t2_loop i v := rfl

/-- The two walks' trip counts and the loops' side conditions at a tile. -/
theorem t1_facts :
    Scf.trips (BitVec.ofNat 32 (lo (i 1).val v)) (BitVec.ofNat 32 (2 * (i 1).val)) 1#32 = 2 * (i 1).val - lo (i 1).val v
    ∧ Scf.OK (BitVec.ofNat 32 (lo (i 1).val v)) (BitVec.ofNat 32 (2 * (i 1).val)) 1#32
    ∧ Scf.trips (BitVec.ofNat 32 (2 * (i 1).val)) (BitVec.ofNat 32 (2 * (i 1).val)) 1#32 = 0
    ∧ Scf.OK (BitVec.ofNat 32 (2 * (i 1).val)) (BitVec.ofNat 32 (2 * (i 1).val)) 1#32 :=
  trips_main ⟨_, i1_lt i⟩ ⟨lo (i 1).val v, by have := lo_le (i 1).val v; have := i1_lt i; omega⟩ (lo_le _ _)

/-- The walk before the diagonal makes one trip per block from its start to the diagonal. -/
theorem t1_trips : (k0_t1_loop i v).trips = 2 * (i 1).val - lo (i 1).val v := by
  rw [t1_loop_eq]; exact (t1_facts i v).1

/-- The remainder walk makes no trip. -/
theorem t2_trips : (k0_t2_loop i v).trips = 0 := by
  rw [t2_loop_eq]; exact (t1_facts i v).2.2.1

/-- Trip `k` of the walk is at the rows of block `lo + k`. -/
theorem off2_eq (k : Fin (k0_t1_loop i v).trips) :
    k0_off2 i v k = ![256 * (lo (i 1).val v + k.val), 0] := by
  have hk := lt_of_lt_of_eq k.isLt (t1_trips i v)
  have := lo_le (i 1).val v
  have := i1_lt i
  simp only [k0_off2, lo_spec _ (i1_lt i)]
  congr 1
  exact iv_main _ _ (by omega)

theorem off6_eq (k : Fin (k0_t3_loop i v).trips) :
    k0_off6 i v k = ![256 * (lo (i 1).val v + k.val), 64] := by
  have hk := lt_of_lt_of_eq k.isLt (t1_trips i v)
  have := lo_le (i 1).val v
  have := i1_lt i
  simp only [k0_off6, lo_spec _ (i1_lt i)]
  congr 1
  exact iv_main _ _ (by omega)

/-- What the kernel assumes of a starting word of the first head holds of every word. -/
theorem chk1 : k0_chk1 i v := by
  have h1 := i1_lt i
  have h2 := lo_le (i 1).val v
  refine ⟨by rw [t1_loop_eq]; exact (t1_facts i v).2.1, fun k => ?_, fun k => ?_, by rw [t2_loop_eq]; exact (t1_facts i v).2.2.2,
    fun k => absurd (lt_of_lt_of_eq k.isLt (t2_trips i v)) (by omega), fun k => absurd (lt_of_lt_of_eq k.isLt (t2_trips i v)) (by omega)⟩
  · have hk := lt_of_lt_of_eq k.isLt (t1_trips i v)
    simp only [k0_mult1, lo_spec _ h1]
    rw [iv_main _ _ (by omega)]
    exact Dvd.intro _ rfl
  · have hk := lt_of_lt_of_eq k.isLt (t1_trips i v)
    rw [off2_eq]
    intro a
    fin_cases a
    · show 256 * (lo (i 1).val v + k.val) + 256 ≤ 4096
      omega
    · show 0 + 64 ≤ 128
      omega

/-- The same of the second head's word. -/
theorem chk2 : k0_chk2 i v := by
  have h1 := i1_lt i
  have h2 := lo_le (i 1).val v
  refine ⟨by rw [t3_loop_eq, t1_loop_eq]; exact (t1_facts i v).2.1, fun k => ?_, fun k => ?_, by rw [t4_loop_eq, t2_loop_eq]; exact (t1_facts i v).2.2.2,
    fun k => absurd (lt_of_lt_of_eq k.isLt (t2_trips i v)) (by omega), fun k => absurd (lt_of_lt_of_eq k.isLt (t2_trips i v)) (by omega)⟩
  · have hk := lt_of_lt_of_eq k.isLt (t1_trips i v)
    simp only [k0_mult5, lo_spec _ h1]
    rw [iv_main _ _ (by omega)]
    exact Dvd.intro _ rfl
  · have hk := lt_of_lt_of_eq k.isLt (t1_trips i v)
    rw [off6_eq]
    intro a
    fin_cases a
    · show 256 * (lo (i 1).val v + k.val) + 256 ≤ 4096
      omega
    · show 64 + 64 ≤ 128
      omega

theorem off4_eq0 : k0_off4 i 0#32 = ![256 * (2 * (i 1).val), 0] := by
  have : ∀ m : Fin 8, (Scalar.muli (Scalar.addi (Scalar.muli (BitVec.ofNat 32 m.val) 2#32) 0#32) 256#32).toNat = 256 * (2 * m.val) := by
    decide +kernel
  simp only [k0_off4]
  congr 1
  exact this ⟨_, i1_lt i⟩
theorem off4_eq1 : k0_off4 i 1#32 = ![256 * (2 * (i 1).val + 1), 0] := by
  have : ∀ m : Fin 8, (Scalar.muli (Scalar.addi (Scalar.muli (BitVec.ofNat 32 m.val) 2#32) 1#32) 256#32).toNat = 256 * (2 * m.val + 1) := by
    decide +kernel
  simp only [k0_off4]
  congr 1
  exact this ⟨_, i1_lt i⟩
theorem off8_eq0 : k0_off8 i 0#32 = ![256 * (2 * (i 1).val), 64] := by
  have : ∀ m : Fin 8, (Scalar.muli (Scalar.addi (Scalar.muli (BitVec.ofNat 32 m.val) 2#32) 0#32) 256#32).toNat = 256 * (2 * m.val) := by
    decide +kernel
  simp only [k0_off8]
  congr 1
  exact this ⟨_, i1_lt i⟩
theorem off8_eq1 : k0_off8 i 1#32 = ![256 * (2 * (i 1).val + 1), 64] := by
  have : ∀ m : Fin 8, (Scalar.muli (Scalar.addi (Scalar.muli (BitVec.ofNat 32 m.val) 2#32) 1#32) 256#32).toNat = 256 * (2 * m.val + 1) := by
    decide +kernel
  simp only [k0_off8]
  congr 1
  exact this ⟨_, i1_lt i⟩

end Cert.KernelIdeal.Attn
-- ==== Proof.Model.lean ====
/- What one grid step of the kernel computes, as functions of the arrays it reads: a head's walk over the key blocks
   before the diagonal, and its two blocks on the diagonal. The first head's values are named by the kernel's own
   payloads; the second head's are the same functions. -/
module
public import proofs.«01_k».proof.Proof.Gen.KernelIdeal.Skeleton
public import Idealize.ShloMosaic.Lib.Exec
public import Idealize.ShloMosaic.Lib.WritesUnit
public import proofs.«01_k».proof.Proof.Checks
@[expose] public section
set_option maxRecDepth 16384
noncomputable section
namespace Cert.KernelIdeal.Attn
open Idealize.ShloMosaic Cert.KernelIdeal.Gen

/-! ## Blocks of a resident array -/

/-- Position `j` of the 256 by 64 block whose corner is `o` (a corner inside the array is not moved by the remainder). -/
def blkIdx (o : Fin 2 → ℕ) (j : S256x64.Idx) : S4096x128.Idx :=
  fun a => ⟨(o a + (j a).val) % S4096x128.size a, Nat.mod_lt _ (by fin_cases a <;> decide)⟩

/-- The block at corner `o`. -/
def getB {α : Type} (o : Fin 2 → ℕ) (A : S4096x128.Idx → α) : S256x64.Idx → α := fun j => A (blkIdx o j)

/-- The array with the block at corner `o` replaced. -/
def setB {α : Type} (o : Fin 2 → ℕ) (w : S256x64.Idx → α) (A : S4096x128.Idx → α) : S4096x128.Idx → α := fun y =>
  if h : ∀ a, o a ≤ (y a).val ∧ (y a).val < o a + S256x64.size a then
    w (Rect.unitLocal (s := S4096x128) (off := o) (size := S256x64.size) y h)
  else A y

variable {F : FTy → Type} [FloatOps F]

/-- Loading the block at a corner inside the array reads that block. -/
theorem readAt_getB {κ : Kind} {sp : Space} {e : EltTy} (v : View sig κ sp S4096x128 e) (f : v.ty.Contents (Elt F))
    (off o : Fin 2 → ℕ) (ho : off = o) (inb : ∀ a, off a + S256x64.size a ≤ S4096x128.size a) :
    v.readAt (Elt F) (Rect.unit (s := S4096x128) off S256x64.size inb).toLoadRect f = getB o (v.read (Elt F) f) := by
  subst ho
  funext j
  rw [View.readAt_apply]
  unfold getB
  congr 1
  funext a
  apply Fin.ext
  have h1 := inb a
  have h2 : (j a).val < S256x64.size a := (j a).isLt
  show off a + 1 * (j a).val = (off a + (j a).val) % S4096x128.size a
  rw [Nat.mod_eq_of_lt (by omega), Nat.one_mul]

/-- Storing the block at a corner inside the array replaces that block. -/
theorem read_writes_setB {κ : Kind} {sp : Space} {e : EltTy} (v : View sig κ sp S4096x128 e) (f : v.ty.Contents (Elt F))
    (off o : Fin 2 → ℕ) (ho : off = o) (inb : ∀ a, off a + S256x64.size a ≤ S4096x128.size a) (w : S256x64.Idx → Elt F e)
    (L : List (View.Piece (Elt F) S4096x128 e)) :
    v.read (Elt F) (v.writes (Elt F) f (⟨Rect.unit (s := S4096x128) off S256x64.size inb, w⟩ :: L))
      = setB o w (v.read (Elt F) (v.writes (Elt F) f L)) := by
  subst ho
  funext y
  rw [View.read_writes_cons_unit v f inb w L y rfl]
  rfl

/-! ## One head of one grid step -/

/-- What a walk carries: the rows of the gradient of q so far, and two running row sums. -/
abbrev Acc (F : FTy → Type) [FloatOps F] := FVec F S512x64 .f32 × FVec F S512x1 .f32 × FVec F S512x1 .f32

variable (q : Vec F S512x64 .bf16) (d : Vec F S512x64 .bf16) (l : Vec F S1x512x1 .f32)

/-- The block's weights before they are cut at the diagonal, their cotangents, the running sums and the score
    gradient's subtracted term, for key block `kb` and value block `vb`. -/
def mPre (kb : Vec F S256x64 .bf16) := k0_pay8 (F := F) k0_pay40 (k0_pay43 q) kb
def mAtt (pl : FVec F S512x1 .f32) (kb : Vec F S256x64 .bf16) := k0_pay9 (F := F) k0_pay40 (k0_pay43 q) (k0_pay44 l) pl kb
def mG (pl : FVec F S512x1 .f32) (kb vb : Vec F S256x64 .bf16) :=
  k0_pay10 (F := F) k0_pay40 (k0_pay43 q) d (k0_pay44 l) pl kb vb
def mGp (pl : FVec F S512x1 .f32) (kb vb : Vec F S256x64 .bf16) :=
  k0_pay11 (F := F) k0_pay40 k0_pay41 (k0_pay43 q) d (k0_pay44 l) pl kb vb
def mSg (pl pg : FVec F S512x1 .f32) (kb vb : Vec F S256x64 .bf16) :=
  k0_pay12 (F := F) k0_pay40 k0_pay41 (k0_pay43 q) d (k0_pay44 l) pl pg kb vb

variable (K V : Vec F S4096x128 .bf16)

/-- The carried values after `n` key blocks from block `lo`, in the columns from `col`. -/
def accs (lo col : ℕ) (a : Acc F) : ℕ → Acc F
  | 0 => a
  | n + 1 =>
    let s := accs lo col a n
    let kb := getB ![256 * (lo + n), col] K
    let vb := getB ![256 * (lo + n), col] V
    (k0_pay47 s.1 kb (mG q d l s.2.1 kb vb) (mSg q d l s.2.1 s.2.2 kb vb), k0_pay50 s.2.1 (mPre q kb),
      k0_pay51 s.2.2 (mG q d l s.2.1 kb vb) (mGp q d l s.2.1 kb vb))

/-- The gradient of k's accumulator after `n` key blocks, from `A`. -/
def dks (lo col : ℕ) (a : Acc F) (A : Vec F S4096x128 .f32) : ℕ → Vec F S4096x128 .f32
  | 0 => A
  | n + 1 =>
    let s := accs q d l K V lo col a n
    let o : Fin 2 → ℕ := ![256 * (lo + n), col]
    let D := dks lo col a A n
    setB o (k0_pay48 q (mG q d l s.2.1 (getB o K) (getB o V)) (mSg q d l s.2.1 s.2.2 (getB o K) (getB o V)) (getB o D)) D

/-- The gradient of v's accumulator after `n` key blocks, from `B`. -/
def dvs (lo col : ℕ) (a : Acc F) (B : Vec F S4096x128 .f32) : ℕ → Vec F S4096x128 .f32
  | 0 => B
  | n + 1 =>
    let s := accs q d l K V lo col a n
    let o : Fin 2 → ℕ := ![256 * (lo + n), col]
    let D := dvs lo col a B n
    setB o (k0_pay49 d (mAtt q l s.2.1 (getB o K)) (getB o D)) D

/-- The block at corner `o` of a resident array, for a corner that leaves the block inside the array. -/
def getR {α : Type} (o : Fin 2 → ℕ) (inb : ∀ a, o a + S256x64.size a ≤ S4096x128.size a) (A : S4096x128.Idx → α) :
    S256x64.Idx → α :=
  fun j => A ((Rect.unit (s := S4096x128) o S256x64.size inb).toLoadRect.idx j)

/-- What one head of one grid step leaves: its rows of the gradient of q, and the two resident accumulators. -/
structure Out (F : FTy → Type) [FloatOps F] where
  dq : FVec F S512x64 .bf16
  dk : Vec F S4096x128 .f32
  dv : Vec F S4096x128 .f32

/-- The two blocks on the diagonal, the tile's 512 rows against the key block at `o0` and its last 256 rows against the
    key block at `o1`, from what the walk before the diagonal leaves. -/
def diag (o0 o1 : Fin 2 → ℕ) (h0 : ∀ a, o0 a + S256x64.size a ≤ S4096x128.size a)
    (h1 : ∀ a, o1 a + S256x64.size a ≤ S4096x128.size a) (s : Acc F) (A B : Vec F S4096x128 .f32) : Out F :=
  let kb := getR o0 h0 K
  let vb := getR o0 h0 V
  let qs := k0_pay43 q
  let lt := k0_pay44 l
  let pl := s.2.1
  let pg := s.2.2
  let m := k0_pay58 k0_pay39
  let z := k0_pay61 qs kb
  let lg := k0_pay62 k0_pay39 k0_pay40 qs kb
  let att := k0_pay63 k0_pay39 k0_pay40 qs lt pl kb
  let g := k0_pay64 k0_pay39 k0_pay40 qs d lt pl kb vb
  let u := k0_pay65 k0_pay41
  let g1 := k0_pay66 k0_pay39 k0_pay40 qs d lt pl kb vb
  let g2 := k0_pay67 k0_pay39 k0_pay40 qs d lt pl kb vb
  let dqAll := k0_pay70 s.1 pg m kb z g u g1 g2
  let dqLow := k0_pay73 s.1 pg m kb z g u g1 g2
  let plLow := k0_pay74 pl lg
  let pgLow := k0_pay75 pg g u g1 g2
  let mLow := k0_pay76 k0_pay39
  let kb' := getR o1 h1 K
  let vb' := getR o1 h1 V
  let z' := k0_pay79 qs kb'
  let att' := k0_pay80 k0_pay40 qs lt plLow mLow kb'
  let g' := k0_pay81 k0_pay40 qs d lt plLow mLow kb' vb'
  let u' := k0_pay82 k0_pay41
  let g1' := k0_pay84 k0_pay40 qs d lt plLow mLow kb' vb'
  let g2' := k0_pay85 k0_pay40 k0_pay41 qs d lt plLow mLow kb' vb'
  ⟨k0_pay89 dqAll dqLow pgLow mLow kb' z' g' u' g1' g2',
   setB o1 (k0_pay87 qs pgLow mLow z' g' u' g1' g2' (getR o1 h1 A))
    (setB o0 (k0_pay71 qs pg m z g u g1 g2 (getR o0 h0 A)) A),
   setB o1 (k0_pay88 d att' (getR o1 h1 B)) (setB o0 (k0_pay72 d att (getR o0 h0 B)) B)⟩

/-! ## One grid step -/

/-- The 64 columns from column `col` of a tile of q or of the output's cotangent. -/
def colsL {α : Type} (A : S512x128.Idx → α) : S512x64.Idx → α :=
  fun j => A ((Rect.unit (s := S512x128) ![0, 0] S512x64.size inb_S512x128_S512x64_0_0).toLoadRect.idx j)
def colsR {α : Type} (A : S512x128.Idx → α) : S512x64.Idx → α :=
  fun j => A ((Rect.unit (s := S512x128) ![0, 64] S512x64.size inb_S512x128_S512x64_0_64).toLoadRect.idx j)

/-- Each head's row sums. -/
def rows0 {α : Type} (A : S2x512x1.Idx → α) : S1x512x1.Idx → α :=
  fun j => A ((Rect.unit (s := S2x512x1) ![0, 0, 0] S1x512x1.size inb_S2x512x1_S1x512x1_0_0_0).toLoadRect.idx j)
def rows1 {α : Type} (A : S2x512x1.Idx → α) : S1x512x1.Idx → α :=
  fun j => A ((Rect.unit (s := S2x512x1) ![1, 0, 0] S1x512x1.size inb_S2x512x1_S1x512x1_1_0_0).toLoadRect.idx j)

/-- The 128 columns of two heads. -/
def setCols {α : Type} (L R : S512x64.Idx → α) : S512x128.Idx → α := fun y =>
  if h : ∀ a, (![0, 64] : Fin 2 → ℕ) a ≤ (y a).val ∧ (y a).val < (![0, 64] : Fin 2 → ℕ) a + S512x64.size a then
    R (Rect.unitLocal (s := S512x128) (off := ![0, 64]) (size := S512x64.size) y h)
  else L fun a => ⟨(y a).val % S512x64.size a, Nat.mod_lt _ (by fin_cases a <;> decide)⟩

/-- Storing each head's 64 columns leaves both. -/
theorem read_writes_setCols {κ : Kind} {sp : Space} {e : EltTy} (v : View sig κ sp S512x128 e) (f : v.ty.Contents (Elt F))
    (L R : S512x64.Idx → Elt F e) :
    v.read (Elt F) (v.writes (Elt F) f
        [⟨Rect.unit (s := S512x128) ![0, 64] S512x64.size inb_S512x128_S512x64_0_64, R⟩,
         ⟨Rect.unit (s := S512x128) ![0, 0] S512x64.size inb_S512x128_S512x64_0_0, L⟩])
      = setCols L R := by
  funext y
  rw [View.read_writes_cons_unit v f inb_S512x128_S512x64_0_64 R _ y rfl]
  unfold setCols
  split
  · rfl
  · rename_i h
    have h0 : (y 0).val < 512 := (y 0).isLt
    have h1 : (y 1).val < 64 := by
      by_contra h1
      have h2 : (y 1).val < 128 := (y 1).isLt
      refine h fun a => ?_
      fin_cases a
      · exact ⟨Nat.zero_le _, by show (y 0).val < 0 + 512; omega⟩
      · exact ⟨by show 64 ≤ (y 1).val; omega, by show (y 1).val < 64 + 64; omega⟩
    have hin : ∀ a, (![0, 0] : Fin 2 → ℕ) a ≤ (y a).val ∧ (y a).val < (![0, 0] : Fin 2 → ℕ) a + S512x64.size a := by
      intro a
      fin_cases a
      · exact ⟨Nat.zero_le _, by show (y 0).val < 0 + 512; omega⟩
      · exact ⟨Nat.zero_le _, by show (y 1).val < 0 + 64; omega⟩
    rw [View.read_writes_cons_unit v f inb_S512x128_S512x64_0_0 L _ y rfl, dif_pos hin]
    congr 1
    funext a
    apply Fin.ext
    rw [Rect.unitLocal_val]
    fin_cases a
    · show (y 0).val - 0 = (y 0).val % 512
      rw [Nat.mod_eq_of_lt h0]; rfl
    · show (y 1).val - 0 = (y 1).val % 64
      rw [Nat.mod_eq_of_lt h1]; rfl

/-- The block each head's walk starts from, as the table of first blocks gives it. -/
def word0 (i : grid0.Coords) (W : Vec F S16x8 .i32) : BitVec 32 :=
  W ((Rect.unit (s := S16x8) (k0_off1 i) S1x1.size (k0_off1_inb i)).toLoadRect.idx (Shape.Idx.first (numel1_S1x1.symm ▸ Nat.one_pos)))
def word1 (i : grid0.Coords) (W : Vec F S16x8 .i32) : BitVec 32 :=
  W ((Rect.unit (s := S16x8) (k0_off5 i) S1x1.size (k0_off5_inb i)).toLoadRect.idx (Shape.Idx.first (numel1_S1x1.symm ▸ Nat.one_pos)))

section Step
variable (i : grid0.Coords) (Q : Vec F S512x128 .bf16) (L : Vec F S2x512x1 .f32) (W : Vec F S16x8 .i32)
  (D : Vec F S512x128 .bf16) (A B : Vec F S4096x128 .f32)

/-- The values every walk starts from. -/
abbrev acc0 : Acc F := (k0_pay45, k0_pay42, k0_pay42)

/-- The first head's walk. -/
def accsL : Acc F :=
  accs (colsL Q) (colsL D) (rows0 L) K V (lo (i 1).val (word0 i W)) 0 acc0 (k0_t1_loop i (word0 i W)).trips
def dksL : Vec F S4096x128 .f32 :=
  dks (colsL Q) (colsL D) (rows0 L) K V (lo (i 1).val (word0 i W)) 0 acc0 A (k0_t1_loop i (word0 i W)).trips
def dvsL : Vec F S4096x128 .f32 :=
  dvs (colsL Q) (colsL D) (rows0 L) K V (lo (i 1).val (word0 i W)) 0 acc0 B (k0_t1_loop i (word0 i W)).trips

/-- The first head's diagonal. -/
def diagL : Out F :=
  diag (colsL Q) (colsL D) (rows0 L) K V (k0_off4 i 0#32) (k0_off4 i 1#32) (k0_off4_inb i 0) (k0_off4_inb i 1)
    (accsL K V i Q L W D) A B

/-- The second head's walk. -/
def accsR : Acc F :=
  accs (colsR Q) (colsR D) (rows1 L) K V (lo (i 1).val (word1 i W)) 64 acc0 (k0_t3_loop i (word1 i W)).trips
def dksR : Vec F S4096x128 .f32 :=
  dks (colsR Q) (colsR D) (rows1 L) K V (lo (i 1).val (word1 i W)) 64 acc0 A (k0_t3_loop i (word1 i W)).trips
def dvsR : Vec F S4096x128 .f32 :=
  dvs (colsR Q) (colsR D) (rows1 L) K V (lo (i 1).val (word1 i W)) 64 acc0 B (k0_t3_loop i (word1 i W)).trips

/-- The second head's diagonal. -/
def diagR : Out F :=
  diag (colsR Q) (colsR D) (rows1 L) K V (k0_off8 i 0#32) (k0_off8 i 1#32) (k0_off8_inb i 0) (k0_off8_inb i 1)
    (accsR K V i Q L W D) A B

/-- What the first head of a grid step leaves, from the accumulators `A` and `B`. -/
def out0 : Out F := diagL K V i Q L W D (dksL K V i Q L W D A) (dvsL K V i Q L W D B)

/-- What the second head leaves. -/
def out1 : Out F :=
  diagR K V i Q L W D (dksR K V i Q L W D (out0 K V i Q L W D A B).dk) (dvsR K V i Q L W D (out0 K V i Q L W D A B).dv)

/-- The step's block of the gradient of q. -/
def stepQ : Vec F S512x128 .bf16 := setCols (out0 K V i Q L W D A B).dq (out1 K V i Q L W D A B).dq

end Step

end Cert.KernelIdeal.Attn
-- ==== Proof.Trip.lean ====
/- The kernel's loop over the key blocks before the diagonal, by its invariant: before trip `k` the carried values and the
   two resident accumulators are what the walk's first `k` blocks leave. -/
module
public import proofs.«01_k».proof.Proof.Model
public import Idealize.ShloMosaic.Lib.Tactic
public import Idealize.ShloMosaic.Lib.Pipeline.Kit
public import Idealize.ShloMosaic.Lib.LoopEntry
@[expose] public section
set_option maxRecDepth 16384
noncomputable section
namespace Cert.KernelIdeal.Attn
open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The resource algebra of the runs. -/
local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S2x512x1 .f32) (harg5 : arg5.IsWhole)
  (arg6 : Memref sig .tc .smem S16x8 .i32) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S4096x128 .f32) (harg12 : arg12.IsWhole)

/-- What holds of the key and value arrays and of the accumulators when the walk's carried values are `a` and the
    accumulators `A` and `B`. -/
abbrev inv (K : arg3.view.ty.Contents (Elt F)) (V : arg4.view.ty.Contents (Elt F)) (a : Acc F)
    (A B : Vec F S4096x128 .f32) (acc : Acc F) : sProp 𝕄G :=
  iprop((arg3.view.loc (c : Thread nD τ) ↦[arg3.view.set]{fullShare} K)
    ∗ (arg4.view.loc (c : Thread nD τ) ↦[arg4.view.set]{fullShare} V)
    ∗ (∃ f, (arg11.view.loc (c : Thread nD τ) ↦[arg11.view.set]{fullShare} f) ∗ ⌜arg11.view.read (Elt F) f = A⌝)
    ∗ (∃ f, (arg12.view.loc (c : Thread nD τ) ↦[arg12.view.set]{fullShare} f) ∗ ⌜arg12.view.read (Elt F) f = B⌝)
    ∗ ⌜acc = a⌝)

set_option maxHeartbeats 4000000 in
/-- The first head's loop. -/
@[sl_loop, instance_reducible] def loop1 (v16 v21 : Vec F S512x64 .bf16) (v22 : Vec F S1x512x1 .f32) (v28 : Elt F .i32) (k0_hw1 : k0_chk1 i v28)
    (v30 : BitVec 32) (K : arg3.view.ty.Contents (Elt F)) (V : arg4.view.ty.Contents (Elt F))
    (init : FVec F S512x64 .f32 × FVec F S512x1 .f32 × FVec F S512x1 .f32)
    (G11 : arg11.view.ty.Contents (Elt F)) (G12 : arg12.view.ty.Contents (Elt F)) :
    LoopInv (M := MT nD τ sig Unit (Elt F) ℕ (UR sig nD τ) ℕ) frame (wpE (defs₀ (F := F)) 𝒱 (c : Thread nD τ) bd) E
      (k0_t1_loop i v28).lb (k0_t1_loop i v28).ub (k0_t1_loop i v28).st (k0_t1_ok i v28 k0_hw1) init
      (k0_t1_body (F := F) i arg2 harg2 arg3 harg3 arg4 harg4 arg5 harg5 arg6 harg6 arg7 harg7 arg8 harg8 arg9 harg9
        arg10 harg10 arg11 harg11 arg12 harg12 v16 v21 v22 v28 k0_hw1 v30) where
  inv k acc := inv c arg3 arg4 arg11 arg12 K V
    (accs v16 v21 v22 (arg3.view.read (Elt F) K) (arg4.view.read (Elt F) V) (lo (i 1).val v28) 0 init k)
    (dks v16 v21 v22 (arg3.view.read (Elt F) K) (arg4.view.read (Elt F) V) (lo (i 1).val v28) 0 init (arg11.view.read (Elt F) G11) k)
    (dvs v16 v21 v22 (arg3.view.read (Elt F) K) (arg4.view.read (Elt F) V) (lo (i 1).val v28) 0 init (arg12.view.read (Elt F) G12) k) acc
  step k acc := by
    unfold k0_t1_body
    iintro ⟨HR3, HR4, ⟨%f11, HW11, %h11⟩, ⟨%f12, HW12, %h12⟩, %hacc⟩
    sl_exec
    sl_step
    have hK := readAt_getB arg3.view K _ _ (off2_eq i v28 k) (k0_off2_inb i v28 k0_hw1 k)
    have hV := readAt_getB arg4.view V _ _ (off2_eq i v28 k) (k0_off2_inb i v28 k0_hw1 k)
    have hD := readAt_getB arg11.view f11 _ _ (off2_eq i v28 k) (k0_off2_inb i v28 k0_hw1 k)
    have hE := readAt_getB arg12.view f12 _ _ (off2_eq i v28 k) (k0_off2_inb i v28 k0_hw1 k)
    rw [h11] at hD
    rw [h12] at hE
    subst hacc
    isplitl [HR3]; · iexact HR3
    isplitl [HR4]; · iexact HR4
    isplitl [HW11]
    · iexists _
      isplitl [HW11]; · iexact HW11
      ipureintro
      rw [read_writes_setB arg11.view f11 _ _ (off2_eq i v28 k) (k0_off2_inb i v28 k0_hw1 k), View.writes_nil, h11]
      delta loop1.sl.r loop1.sl.r_1 loop1.sl.r_2 loop1.sl.r_3 loop1.sl.r_4 loop1.sl.r_5; simp only [hK, hV, hD]
      rfl
    isplitl [HW12]
    · iexists _
      isplitl [HW12]; · iexact HW12
      ipureintro
      rw [read_writes_setB arg12.view f12 _ _ (off2_eq i v28 k) (k0_off2_inb i v28 k0_hw1 k), View.writes_nil, h12]
      delta loop1.sl.r loop1.sl.r_1 loop1.sl.r_2 loop1.sl.r_3 loop1.sl.r_4 loop1.sl.r_5; simp only [hK, hV, hE]
      rfl
    · ipureintro
      delta loop1.sl.r loop1.sl.r_1 loop1.sl.r_2 loop1.sl.r_3 loop1.sl.r_4 loop1.sl.r_5; simp only [hK, hV]
      rfl

set_option maxHeartbeats 4000000 in
/-- The second head's loop. -/
@[sl_loop, instance_reducible] def loop3 (arg0 arg1 : BitVec 32) (v14 : FVec F S512x1 .f32) (v15 : BitVec 32) (v214 v219 : Vec F S512x64 .bf16)
    (v220 : Vec F S1x512x1 .f32) (v226 : Elt F .i32) (k0_hw2 : k0_chk2 i v226) (v228 : BitVec 32) (K : arg3.view.ty.Contents (Elt F)) (V : arg4.view.ty.Contents (Elt F))
    (init : FVec F S512x64 .f32 × FVec F S512x1 .f32 × FVec F S512x1 .f32)
    (G11 : arg11.view.ty.Contents (Elt F)) (G12 : arg12.view.ty.Contents (Elt F)) :
    LoopInv (M := MT nD τ sig Unit (Elt F) ℕ (UR sig nD τ) ℕ) frame (wpE (defs₀ (F := F)) 𝒱 (c : Thread nD τ) bd) E
      (k0_t3_loop i v226).lb (k0_t3_loop i v226).ub (k0_t3_loop i v226).st (k0_t3_ok i v226 k0_hw2) init
      (k0_t3_body (F := F) i arg2 harg2 arg3 harg3 arg4 harg4 arg5 harg5 arg6 harg6 arg7 harg7 arg8 harg8 arg9 harg9
        arg10 harg10 arg11 harg11 arg12 harg12 arg0 arg1 k0_pay39 k0_pay40 k0_pay41 v14 v15 (k0_pay90 v214) v219 v220 v226 k0_hw2 v228) where
  inv k acc := inv c arg3 arg4 arg11 arg12 K V
    (accs v214 v219 v220 (arg3.view.read (Elt F) K) (arg4.view.read (Elt F) V) (lo (i 1).val v226) 64 init k)
    (dks v214 v219 v220 (arg3.view.read (Elt F) K) (arg4.view.read (Elt F) V) (lo (i 1).val v226) 64 init (arg11.view.read (Elt F) G11) k)
    (dvs v214 v219 v220 (arg3.view.read (Elt F) K) (arg4.view.read (Elt F) V) (lo (i 1).val v226) 64 init (arg12.view.read (Elt F) G12) k) acc
  step k acc := by
    unfold k0_t3_body
    iintro ⟨HR3, HR4, ⟨%f11, HW11, %h11⟩, ⟨%f12, HW12, %h12⟩, %hacc⟩
    sl_exec
    sl_step
    have hK := readAt_getB arg3.view K _ _ (off6_eq i v226 k) (k0_off6_inb i v226 k0_hw2 k)
    have hV := readAt_getB arg4.view V _ _ (off6_eq i v226 k) (k0_off6_inb i v226 k0_hw2 k)
    have hD := readAt_getB arg11.view f11 _ _ (off6_eq i v226 k) (k0_off6_inb i v226 k0_hw2 k)
    have hE := readAt_getB arg12.view f12 _ _ (off6_eq i v226 k) (k0_off6_inb i v226 k0_hw2 k)
    rw [h11] at hD
    rw [h12] at hE
    subst hacc
    isplitl [HR3]; · iexact HR3
    isplitl [HR4]; · iexact HR4
    isplitl [HW11]
    · iexists _
      isplitl [HW11]; · iexact HW11
      ipureintro
      rw [read_writes_setB arg11.view f11 _ _ (off6_eq i v226 k) (k0_off6_inb i v226 k0_hw2 k), View.writes_nil, h11]
      delta loop3.sl.r loop3.sl.r_1 loop3.sl.r_2 loop3.sl.r_3 loop3.sl.r_4 loop3.sl.r_5; simp only [hK, hV, hD]
      rfl
    isplitl [HW12]
    · iexists _
      isplitl [HW12]; · iexact HW12
      ipureintro
      rw [read_writes_setB arg12.view f12 _ _ (off6_eq i v226 k) (k0_off6_inb i v226 k0_hw2 k), View.writes_nil, h12]
      delta loop3.sl.r loop3.sl.r_1 loop3.sl.r_2 loop3.sl.r_3 loop3.sl.r_4 loop3.sl.r_5; simp only [hK, hV, hE]
      rfl
    · ipureintro
      delta loop3.sl.r loop3.sl.r_1 loop3.sl.r_2 loop3.sl.r_3 loop3.sl.r_4 loop3.sl.r_5; simp only [hK, hV]
      rfl

/-- The loops over the blocks left over after a walk run no trip. -/
@[sl_loop, instance_reducible] def loop2 (v : BitVec 32) (hok : Scf.OK (k0_t2_loop i v).lb (k0_t2_loop i v).ub (k0_t2_loop i v).st)
    (init : FVec F S512x64 .f32 × FVec F S512x1 .f32 × FVec F S512x1 .f32)
    (body : Fin (k0_t2_loop i v).trips → FVec F S512x64 .f32 × FVec F S512x1 .f32 × FVec F S512x1 .f32 →
      Prog (TpuEff nD τ sig (Elt F) Λ₀ .tc) (FVec F S512x64 .f32 × FVec F S512x1 .f32 × FVec F S512x1 .f32)) :
    LoopInv (M := MT nD τ sig Unit (Elt F) ℕ (UR sig nD τ) ℕ) frame (wpE (defs₀ (F := F)) 𝒱 (c : Thread nD τ) bd) E
      (k0_t2_loop i v).lb (k0_t2_loop i v).ub (k0_t2_loop i v).st hok init body :=
  LoopInv.ofNoTrips _ _ _ _ _ _ _ _ _ (t2_trips i v)

@[inherit_doc loop2, sl_loop, instance_reducible] def loop4 (v : BitVec 32)
    (hok : Scf.OK (k0_t4_loop i v).lb (k0_t4_loop i v).ub (k0_t4_loop i v).st)
    (init : FVec F S512x64 .f32 × FVec F S512x1 .f32 × FVec F S512x1 .f32)
    (body : Fin (k0_t4_loop i v).trips → FVec F S512x64 .f32 × FVec F S512x1 .f32 × FVec F S512x1 .f32 →
      Prog (TpuEff nD τ sig (Elt F) Λ₀ .tc) (FVec F S512x64 .f32 × FVec F S512x1 .f32 × FVec F S512x1 .f32)) :
    LoopInv (M := MT nD τ sig Unit (Elt F) ℕ (UR sig nD τ) ℕ) frame (wpE (defs₀ (F := F)) 𝒱 (c : Thread nD τ) bd) E
      (k0_t4_loop i v).lb (k0_t4_loop i v).ub (k0_t4_loop i v).st hok init body :=
  LoopInv.ofNoTrips _ _ _ _ _ _ _ _ _ (t2_trips i v)

end Cert.KernelIdeal.Attn
-- ==== Proof.Body.lean ====
/- One grid step of the kernel as a triple: from its blocks and the two resident accumulators to the step's block of the
   gradient of q and the accumulators as the step leaves them, written out at a pair's last step. -/
module
public import proofs.«01_k».proof.Proof.Model
public import proofs.«01_k».proof.Proof.Trip
public import Idealize.ShloMosaic.Lib.Tactic
public import Idealize.ShloMosaic.Lib.Pipeline.Kit
public import Idealize.ShloMosaic.Lib.LoopEntry
@[expose] public section
set_option maxRecDepth 16384
noncomputable section
namespace Cert.KernelIdeal.Attn
open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The resource algebra of the runs. -/
local notation "𝕄G" => MT nD τ sig Unit (Elt F) ℕ (UR sig nD τ) ℕ

variable (𝒱 : Variants) (c : Dev nD) (bd : Option 𝒱.V) (E : Set ℕ) (i : grid0.Coords)
  (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S2x512x1 .f32) (harg5 : arg5.IsWhole)
  (arg6 : Memref sig .tc .smem S16x8 .i32) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S4096x128 .f32) (harg12 : arg12.IsWhole)

/-- Whether a grid step is a pair's first (it zeroes the accumulators), and whether its last (it writes them out). -/
abbrev isFirst (i : grid0.Coords) : BitVec 1 :=
  Scalar.cmpi .ne (Scalar.extui (Scalar.cmpi .eq (BitVec.ofNat 32 (i 1).val) 0#32) : BitVec 32) 0#32
def fst {α : Type} (i : grid0.Coords) (a b : α) : α := if isFirst i = 1#1 then a else b
def lst {α : Type} (i : grid0.Coords) (a b : α) : α := if k0_cond2 i = 1#1 then a else b

/-- Storing a whole resident array leaves what was stored, and loading it whole reads it. -/
theorem read_writes_all {κ : Kind} {sp : Space} {e : EltTy} (v : View sig κ sp S4096x128 e) (f : v.ty.Contents (Elt F))
    (w : S4096x128.Idx → Elt F e) (L : List (View.Piece (Elt F) S4096x128 e)) :
    v.read (Elt F) (v.writes (Elt F) f
      (⟨Rect.unit (s := S4096x128) ![0, 0] S4096x128.size inb_S4096x128_S4096x128_0_0, w⟩ :: L)) = w := by
  funext y
  have h0 : (y 0).val < 4096 := (y 0).isLt
  have h1 : (y 1).val < 128 := (y 1).isLt
  have hin : ∀ a, (![0, 0] : Fin 2 → ℕ) a ≤ (y a).val ∧ (y a).val < (![0, 0] : Fin 2 → ℕ) a + S4096x128.size a := by
    intro a
    fin_cases a
    · exact ⟨Nat.zero_le _, by show (y 0).val < 0 + 4096; omega⟩
    · exact ⟨Nat.zero_le _, by show (y 1).val < 0 + 128; omega⟩
  rw [View.read_writes_cons_unit v f inb_S4096x128_S4096x128_0_0 w L y rfl, dif_pos hin]
  congr 1
  funext a
  apply Fin.ext
  rw [Rect.unitLocal_val]
  fin_cases a <;> rfl

@[inherit_doc read_writes_all]
theorem readAt_all {κ : Kind} {sp : Space} {e : EltTy} (v : View sig κ sp S4096x128 e) (f : v.ty.Contents (Elt F)) :
    v.readAt (Elt F) (Rect.unit (s := S4096x128) ![0, 0] S4096x128.size inb_S4096x128_S4096x128_0_0).toLoadRect f
      = v.read (Elt F) f := by
  funext j
  rw [View.readAt_apply]
  congr 1
  funext a
  apply Fin.ext
  show (![0, 0] : Fin 2 → ℕ) a + 1 * (j a).val = (j a).val
  fin_cases a <;> simp

set_option sl_exec.resultNames true in
set_option maxHeartbeats 40000000 in
/-- One grid step: from its blocks and the accumulators, the step's block of the gradient of q and the accumulators as the
    two heads leave them; the pair's last step also writes the accumulators out. -/
theorem body
    (X2 : arg2.view.ty.Contents (Elt F)) (X3 : arg3.view.ty.Contents (Elt F)) (X4 : arg4.view.ty.Contents (Elt F)) (X5 : arg5.view.ty.Contents (Elt F)) (X6 : arg6.view.ty.Contents (Elt F)) (X7 : arg7.view.ty.Contents (Elt F)) (X8 : arg8.view.ty.Contents (Elt F)) (X9 : arg9.view.ty.Contents (Elt F)) (X10 : arg10.view.ty.Contents (Elt F)) (X11 : arg11.view.ty.Contents (Elt F)) (X12 : arg12.view.ty.Contents (Elt F)) :
    iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} X9)
      ∗ (arg10.view.loc (c : Thread nD τ) ↦[arg10.view.set]{fullShare} X10)
      ∗ (arg11.view.loc (c : Thread nD τ) ↦[arg11.view.set]{fullShare} X11)
      ∗ (arg12.view.loc (c : Thread nD τ) ↦[arg12.view.set]{fullShare} X12))
    ⊢ wp (M := MT nD τ sig Unit (Elt F) ℕ (UR sig nD τ) ℕ) frame (wpE (defs₀ (F := F)) 𝒱 (c : Thread nD τ) bd) E
      (cc0_sb_bwd (F := F) i arg2 harg2 arg3 harg3 arg4 harg4 arg5 harg5 arg6 harg6 arg7 harg7 arg8 harg8 arg9 harg9
        arg10 harg10 arg11 harg11 arg12 harg12)
      (fun _ => iprop(owns (c : Thread nD τ) arg2 fullShare (arg2.view.read (Elt F) X2)
        ∗ owns (c : Thread nD τ) arg3 fullShare (arg3.view.read (Elt F) X3)
        ∗ owns (c : Thread nD τ) arg4 fullShare (arg4.view.read (Elt F) X4)
        ∗ owns (c : Thread nD τ) arg5 fullShare (arg5.view.read (Elt F) X5)
        ∗ owns (c : Thread nD τ) arg6 fullShare (arg6.view.read (Elt F) X6)
        ∗ owns (c : Thread nD τ) arg7 fullShare (arg7.view.read (Elt F) X7)
        ∗ owns (c : Thread nD τ) arg8 fullShare (stepQ (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) (fst i k0_pay38 (arg12.view.read (Elt F) X12)))
        ∗ owns (c : Thread nD τ) arg9 fullShare (lst i (k0_pay3 (out1 (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) (fst i k0_pay38 (arg12.view.read (Elt F) X12))).dk) (arg9.view.read (Elt F) X9))
        ∗ owns (c : Thread nD τ) arg10 fullShare (lst i (k0_pay4 (out1 (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) (fst i k0_pay38 (arg12.view.read (Elt F) X12))).dv) (arg10.view.read (Elt F) X10))
        ∗ owns (c : Thread nD τ) arg11 fullShare (out1 (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) (fst i k0_pay38 (arg12.view.read (Elt F) X12))).dk
        ∗ owns (c : Thread nD τ) arg12 fullShare (out1 (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) (fst i k0_pay38 (arg12.view.read (Elt F) X12))).dv)) := by
  have hw1 := chk1 i
  have hw2 := chk2 i
  simp only [cc0_sb_bwd_eq_skeleton]; unfold cc0_sb_bwd_skel
  by_cases h1 : isFirst i = 1#1 <;> by_cases h2 : k0_cond2 i = 1#1
  all_goals
    iintro ⟨H2, H3, H4, H5, H6, H7, H8, H9, H10, H11, H12⟩
    sl_exec
    sl_step
    rw [read_writes_setB arg11.view _ _ _ rfl, read_writes_setB arg11.view _ _ _ rfl, View.writes_nil] at hL11
    rw [read_writes_setB arg12.view _ _ _ rfl, read_writes_setB arg12.view _ _ _ rfl, View.writes_nil] at hL13
    have h3 : arg11.view.read (Elt F) fL0 = dksL (arg3.view.read (Elt F) X3) (arg4.view.read (Elt F) X4) i (arg2.view.read (Elt F) X2) (arg5.view.read (Elt F) X5) (arg6.view.read (Elt F) X6) (arg7.view.read (Elt F) X7) (fst i k0_pay37 (arg11.view.read (Elt F) X11)) := by
      first
      | exact hL3.trans (congrArg (dksL (arg3.view.read (Elt F) X3) (arg4.view.read (Elt F) X4) i (arg2.view.read (Elt F) X2) (arg5.view.read (Elt F) X5) (arg6.view.read (Elt F) X6) (arg7.view.read (Elt F) X7)) (show fst i k0_pay37 (arg11.view.read (Elt F) X11) = _ from if_neg h1).symm)
      | exact hL3.trans (congrArg (dksL (arg3.view.read (Elt F) X3) (arg4.view.read (Elt F) X4) i (arg2.view.read (Elt F) X2) (arg5.view.read (Elt F) X5) (arg6.view.read (Elt F) X6) (arg7.view.read (Elt F) X7))
          ((read_writes_all arg11.view _ _ _).trans (show fst i k0_pay37 (arg11.view.read (Elt F) X11) = _ from if_pos h1).symm))
    have h5 : arg12.view.read (Elt F) fL1 = dvsL (arg3.view.read (Elt F) X3) (arg4.view.read (Elt F) X4) i (arg2.view.read (Elt F) X2) (arg5.view.read (Elt F) X5) (arg6.view.read (Elt F) X6) (arg7.view.read (Elt F) X7) (fst i k0_pay38 (arg12.view.read (Elt F) X12)) := by
      first
      | exact hL5.trans (congrArg (dvsL (arg3.view.read (Elt F) X3) (arg4.view.read (Elt F) X4) i (arg2.view.read (Elt F) X2) (arg5.view.read (Elt F) X5) (arg6.view.read (Elt F) X6) (arg7.view.read (Elt F) X7)) (show fst i k0_pay38 (arg12.view.read (Elt F) X12) = _ from if_neg h1).symm)
      | exact hL5.trans (congrArg (dvsL (arg3.view.read (Elt F) X3) (arg4.view.read (Elt F) X4) i (arg2.view.read (Elt F) X2) (arg5.view.read (Elt F) X5) (arg6.view.read (Elt F) X6) (arg7.view.read (Elt F) X7))
          ((read_writes_all arg12.view _ _ _).trans (show fst i k0_pay38 (arg12.view.read (Elt F) X12) = _ from if_pos h1).symm))
    have h11 : arg11.view.read (Elt F) fL2 = dksR (arg3.view.read (Elt F) X3) (arg4.view.read (Elt F) X4) i (arg2.view.read (Elt F) X2) (arg5.view.read (Elt F) X5) (arg6.view.read (Elt F) X6) (arg7.view.read (Elt F) X7)
        (diagL (arg3.view.read (Elt F) X3) (arg4.view.read (Elt F) X4) i (arg2.view.read (Elt F) X2) (arg5.view.read (Elt F) X5) (arg6.view.read (Elt F) X6) (arg7.view.read (Elt F) X7) (arg11.view.read (Elt F) fL0) (arg12.view.read (Elt F) fL1)).dk := hL11
    have h13 : arg12.view.read (Elt F) fL3 = dvsR (arg3.view.read (Elt F) X3) (arg4.view.read (Elt F) X4) i (arg2.view.read (Elt F) X2) (arg5.view.read (Elt F) X5) (arg6.view.read (Elt F) X6) (arg7.view.read (Elt F) X7)
        (diagL (arg3.view.read (Elt F) X3) (arg4.view.read (Elt F) X4) i (arg2.view.read (Elt F) X2) (arg5.view.read (Elt F) X5) (arg6.view.read (Elt F) X6) (arg7.view.read (Elt F) X7) (arg11.view.read (Elt F) fL0) (arg12.view.read (Elt F) fL1)).dv := hL13
    rw [h3, h5] at h11 h13
    unfold owns
    isplitl [H2]; · iexists _; isplitr; ipureintro; rfl; iexact H2
    isplitl [H3]; · iexists _; isplitr; ipureintro; rfl; iexact H3
    isplitl [H4]; · iexists _; isplitr; ipureintro; rfl; iexact H4
    isplitl [H5]; · iexists _; isplitr; ipureintro; rfl; iexact H5
    isplitl [H6]; · iexists _; isplitr; ipureintro; rfl; iexact H6
    isplitl [H7]; · iexists _; isplitr; ipureintro; rfl; iexact H7
    isplitl [H8]
    · iexists _; isplitr; swap; iexact H8
      ipureintro
      refine (read_writes_setCols _ _ _ _).trans ?_
      unfold stepQ out1 out0
      rw [← h11, ← h13, ← h3, ← h5]
      rfl
    isplitl [H9]
    · iexists _; isplitr; swap; iexact H9
      ipureintro
      first
      | exact (if_neg h2).symm
      | refine Eq.trans ?_ (if_pos h2).symm
        refine (read_writes_all _ _ _ _).trans ((congrArg k0_pay3 ((readAt_all _ _).trans (
          (read_writes_setB arg11.view _ _ _ rfl _ _ _).trans
          ((congrArg (setB _ _) (read_writes_setB arg11.view _ _ _ rfl _ _ _)).trans ?_)))))
        unfold out1 out0
        rw [← h11, ← h13]
        rfl
    isplitl [H10]
    · iexists _; isplitr; swap; iexact H10
      ipureintro
      first
      | exact (if_neg h2).symm
      | refine Eq.trans ?_ (if_pos h2).symm
        refine (read_writes_all _ _ _ _).trans ((congrArg k0_pay4 ((readAt_all _ _).trans (
          (read_writes_setB arg12.view _ _ _ rfl _ _ _).trans
          ((congrArg (setB _ _) (read_writes_setB arg12.view _ _ _ rfl _ _ _)).trans ?_)))))
        unfold out1 out0
        rw [← h11, ← h13]
        rfl
    isplitl [H11]
    · iexists _; isplitr; swap; iexact H11
      ipureintro
      · refine (read_writes_setB arg11.view _ _ _ rfl _ _ _).trans
          ((congrArg (setB _ _) (read_writes_setB arg11.view _ _ _ rfl _ _ _)).trans ?_)
        unfold out1 out0
        rw [← h11, ← h13]
        rfl
    · iexists _; isplitr; swap; iexact H12
      ipureintro
      · refine (read_writes_setB arg12.view _ _ _ rfl _ _ _).trans
          ((congrArg (setB _ _) (read_writes_setB arg12.view _ _ _ rfl _ _ _)).trans ?_)
        unfold out1 out0
        rw [← h11, ← h13]
        rfl
-- ==== Proof.Run.lean ====
/- The kernel's pipeline over its grid: each step's triple, the accumulators from step to step, and the run of the whole
   program, over any interpretation of the floats. -/
module
public import proofs.«01_k».proof.Proof.Body
public import proofs.«01_k».proof.Proof.Gen.KernelIdeal.Frame
@[expose] public section
set_option maxRecDepth 16384
noncomputable section
namespace Cert.KernelIdeal.Attn
open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-- The resource algebra of the runs. -/
local notation "𝕄G" => MT nD τ sig Unit (Elt F) ℕ (UR sig nD τ) ℕ

section Step
variable (𝒱 : Variants) (c : Dev nD) (bd : Option 𝒱.V) (E : Set ℕ) (i : grid0.Coords)
  (arg2 : Memref sig .tc .vmem S512x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S2x512x1 .f32) (harg5 : arg5.IsWhole)
  (arg6 : Memref sig .tc .smem S16x8 .i32) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S4096x128 .f32) (harg12 : arg12.IsWhole)

/-- One grid step over what it owns, whatever follows it. -/
theorem step_owns (Y2 : S512x128.Idx → Elt F .bf16) (Y3 : S4096x128.Idx → Elt F .bf16) (Y4 : S4096x128.Idx → Elt F .bf16) (Y5 : S2x512x1.Idx → Elt F .f32) (Y6 : S16x8.Idx → Elt F .i32) (Y7 : S512x128.Idx → Elt F .bf16) (Y8 : S512x128.Idx → Elt F .bf16) (Y9 : S4096x128.Idx → Elt F .bf16) (Y10 : S4096x128.Idx → Elt F .bf16) (Y11 : S4096x128.Idx → Elt F .f32) (Y12 : S4096x128.Idx → Elt F .f32)
    (R : sProp 𝕄G) :
    iprop(owns (c : Thread nD τ) arg2 fullShare Y2
      ∗ owns (c : Thread nD τ) arg3 fullShare Y3
      ∗ owns (c : Thread nD τ) arg4 fullShare Y4
      ∗ owns (c : Thread nD τ) arg5 fullShare Y5
      ∗ owns (c : Thread nD τ) arg6 fullShare Y6
      ∗ owns (c : Thread nD τ) arg7 fullShare Y7
      ∗ owns (c : Thread nD τ) arg8 fullShare Y8
      ∗ owns (c : Thread nD τ) arg9 fullShare Y9
      ∗ owns (c : Thread nD τ) arg10 fullShare Y10
      ∗ owns (c : Thread nD τ) arg11 fullShare Y11
      ∗ owns (c : Thread nD τ) arg12 fullShare Y12
      ∗ ((owns (c : Thread nD τ) arg2 fullShare Y2
        ∗ owns (c : Thread nD τ) arg3 fullShare Y3
        ∗ owns (c : Thread nD τ) arg4 fullShare Y4
        ∗ owns (c : Thread nD τ) arg5 fullShare Y5
        ∗ owns (c : Thread nD τ) arg6 fullShare Y6
        ∗ owns (c : Thread nD τ) arg7 fullShare Y7
        ∗ owns (c : Thread nD τ) arg8 fullShare (stepQ Y3 Y4 i Y2 Y5 Y6 Y7 (fst i k0_pay37 Y11) (fst i k0_pay38 Y12))
        ∗ owns (c : Thread nD τ) arg9 fullShare (lst i (k0_pay3 (out1 Y3 Y4 i Y2 Y5 Y6 Y7 (fst i k0_pay37 Y11) (fst i k0_pay38 Y12)).dk) Y9)
        ∗ owns (c : Thread nD τ) arg10 fullShare (lst i (k0_pay4 (out1 Y3 Y4 i Y2 Y5 Y6 Y7 (fst i k0_pay37 Y11) (fst i k0_pay38 Y12)).dv) Y10)
        ∗ owns (c : Thread nD τ) arg11 fullShare (out1 Y3 Y4 i Y2 Y5 Y6 Y7 (fst i k0_pay37 Y11) (fst i k0_pay38 Y12)).dk
        ∗ owns (c : Thread nD τ) arg12 fullShare (out1 Y3 Y4 i Y2 Y5 Y6 Y7 (fst i k0_pay37 Y11) (fst i k0_pay38 Y12)).dv) -∗ R))
    ⊢ wp (M := 𝕄G) frame (wpE (defs₀ (F := F)) 𝒱 (c : Thread nD τ) bd) E
      (cc0_sb_bwd (F := F) i arg2 harg2 arg3 harg3 arg4 harg4 arg5 harg5 arg6 harg6 arg7 harg7 arg8 harg8 arg9 harg9 arg10 harg10 arg11 harg11 arg12 harg12) (fun _ => R) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, HR⟩
  subst e2 e3 e4 e5 e6 e7 e8 e9 e10 e11 e12
  iapply (wp_wand_r _ _ _)
  isplitr [HR]
  · iapply (body 𝒱 c bd E i arg2 harg2 arg3 harg3 arg4 harg4 arg5 harg5 arg6 harg6 arg7 harg7 arg8 harg8 arg9 harg9 arg10 harg10 arg11 harg11 arg12 harg12 f2 f3 f4 f5 f6 f7 f8 f9 f10 f11 f12)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %_ HP
  iapply HR
  unfold owns
  iexact HP

end Step

variable (m : (ℓ : Loc nD τ sig) → Buf (Elt F) ℓ) (ρ : Dev nD → PrngReg)

/-! ## The accumulators from step to step -/

/-- What step `t` leaves, from the accumulators it finds. -/
def pt (c : Dev nD) (t : Fin cfg0.N) (A B : S4096x128.Idx → Elt F .f32) : Out F :=
  out1 (iblk m c 1 t) (iblk m c 2 t) (grid0.coords t) (iblk m c 0 t) (iblk m c 3 t) (iblk m c 4 t) (iblk m c 5 t) (fst (grid0.coords t) k0_pay37 A) (fst (grid0.coords t) k0_pay38 B)

/-- The step's block of the gradient of q. -/
def ptQ (c : Dev nD) (t : Fin cfg0.N) (A B : S4096x128.Idx → Elt F .f32) : S512x128.Idx → Elt F .bf16 :=
  stepQ (iblk m c 1 t) (iblk m c 2 t) (grid0.coords t) (iblk m c 0 t) (iblk m c 3 t) (iblk m c 4 t) (iblk m c 5 t) (fst (grid0.coords t) k0_pay37 A) (fst (grid0.coords t) k0_pay38 B)

/-- The two accumulators after the first `n` steps (before any: zero, as every pair's first step makes them). -/
def st (c : Dev nD) : ℕ → (S4096x128.Idx → Elt F .f32) × (S4096x128.Idx → Elt F .f32)
  | 0 => (k0_pay37, k0_pay38)
  | n + 1 => if h : n < cfg0.N then ((pt m c ⟨n, h⟩ (st c n).1 (st c n).2).dk, (pt m c ⟨n, h⟩ (st c n).1 (st c n).2).dv)
    else st c n

theorem st_succ (c : Dev nD) (t : Fin cfg0.N) : st m c (t.val + 1)
    = ((pt m c t (st m c t.val).1 (st m c t.val).2).dk, (pt m c t (st m c t.val).1 (st m c t.val).2).dv) := by
  rw [st, dif_pos t.isLt]

theorem first_iff : ∀ t : Fin grid0.N, isFirst (grid0.coords t) = 1#1 ↔ t.val % 8 = 0 := by decide +kernel
theorem last_iff : ∀ t : Fin grid0.N, k0_cond2 (grid0.coords t) = 1#1 ↔ t.val % 8 = 7 := by decide +kernel

/-- At the very first step what the accumulators hold does not matter. -/
theorem fst_any (t : Fin cfg0.N) {α : Type} (z A A' : α) (h : t.val ≠ 0 → A = A') :
    fst (grid0.coords t) z A = fst (grid0.coords t) z A' := by
  by_cases ht : t.val = 0
  · unfold fst
    rw [if_pos ((first_iff t).mpr (by rw [ht])), if_pos ((first_iff t).mpr (by rw [ht]))]
  · rw [h ht]

/-! ## The pipeline's data -/

/-- Between steps: the accumulators, at their contents after the steps so far (before the first: at any). -/
def Inv (c : Dev nD) (n : ℕ) : sProp 𝕄G :=
  iprop(∃ A B, ⌜n ≠ 0 → A = (st m c n).1 ∧ B = (st m c n).2⌝
    ∗ owns (c : Thread nD τ) (Memref.whole cc0_scratch0) fullShare A
    ∗ owns (c : Thread nD τ) (Memref.whole cc0_scratch1) fullShare B ∗ ∃ r, prngReg c r)

/-- Each window's array at entry and what each step leaves in its block. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => ptQ m c t (st m c t.val).1 (st m c t.val).2
    | 7 => k0_pay3 (pt m c t (st m c t.val).1 (st m c t.val).2).dk
    | 8 => k0_pay4 (pt m c t (st m c t.val).1 (st m c t.val).2).dv
    | ⟨_ + 9, h⟩ => absurd h (Nat.not_lt.2 (Nat.le_add_left _ _))
  Φ n := Inv m c n.val
  q _ := fullShare
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) :
    (dats m 0 c).after 6 t = ptQ m c t (st m c t.val).1 (st m c t.val).2 := by dsimp only [dats]
theorem after7 (c : Dev nD) (t : Fin cfg0.N) :
    (dats m 0 c).after 7 t = k0_pay3 (pt m c t (st m c t.val).1 (st m c t.val).2).dk := by dsimp only [dats]
theorem after8 (c : Dev nD) (t : Fin cfg0.N) :
    (dats m 0 c).after 8 t = k0_pay4 (pt m c t (st m c t.val).1 (st m c t.val).2).dv := by dsimp only [dats]

theorem idle7 (t : Fin cfg0.N) : cfg0.idle 7 (cfg0.grid.coords t) = !(k0_cond2 (grid0.coords t) == 1#1) := rfl
theorem idle8 (t : Fin cfg0.N) : cfg0.idle 8 (cfg0.grid.coords t) = !(k0_cond2 (grid0.coords t) == 1#1) := rfl

/-- What a step leaves in window 7: the accumulator at a pair's last step, what was there otherwise. -/
theorem leaves7 (c : Dev nD) (t : Fin cfg0.N) (d) :
    owns (c : Thread nD τ) (st0_7 t) fullShare
        (lst (grid0.coords t) ((dats m 0 c).after 7 t) ((dats m 0 c).before 7 t d))
      ⊢ (match cfg0.idle 7 (cfg0.grid.coords t) with
        | true => match (cfg0.win 7).flush t with
          | false => iprop(∃ d, owns (c : Thread nD τ) (st0_7 t) fullShare ((dats m 0 c).before 7 t d))
          | true => owns (c : Thread nD τ) (st0_7 t) fullShare ((dats m 0 c).after 7 t)
        | false => owns (c : Thread nD τ) (st0_7 t) fullShare ((dats m 0 c).after 7 t) : sProp 𝕄G) := by
  unfold lst
  by_cases h : k0_cond2 (grid0.coords t) = 1#1
  · rw [idle7, show (!(k0_cond2 (grid0.coords t) == 1#1)) = false by rw [h]; rfl, if_pos h]
  · have hf : (cfg0.win 7).flush t = false :=
      Bool.eq_false_iff.mpr fun hf => h ((last_iff t).mpr ((flush0_7 t).mp hf))
    rw [idle7, show (!(k0_cond2 (grid0.coords t) == 1#1)) = true by simp [h], hf, if_neg h]
    iintro H
    iexists d
    iexact H

/-- What a step leaves in window 8: the accumulator at a pair's last step, what was there otherwise. -/
theorem leaves8 (c : Dev nD) (t : Fin cfg0.N) (d) :
    owns (c : Thread nD τ) (st0_8 t) fullShare
        (lst (grid0.coords t) ((dats m 0 c).after 8 t) ((dats m 0 c).before 8 t d))
      ⊢ (match cfg0.idle 8 (cfg0.grid.coords t) with
        | true => match (cfg0.win 8).flush t with
          | false => iprop(∃ d, owns (c : Thread nD τ) (st0_8 t) fullShare ((dats m 0 c).before 8 t d))
          | true => owns (c : Thread nD τ) (st0_8 t) fullShare ((dats m 0 c).after 8 t)
        | false => owns (c : Thread nD τ) (st0_8 t) fullShare ((dats m 0 c).after 8 t) : sProp 𝕄G) := by
  unfold lst
  by_cases h : k0_cond2 (grid0.coords t) = 1#1
  · rw [idle8, show (!(k0_cond2 (grid0.coords t) == 1#1)) = false by rw [h]; rfl, if_pos h]
  · have hf : (cfg0.win 8).flush t = false :=
      Bool.eq_false_iff.mpr fun hf => h ((last_iff t).mpr ((flush0_8 t).mp hf))
    rw [idle8, show (!(k0_cond2 (grid0.coords t) == 1#1)) = true by simp [h], hf, if_neg h]
    iintro H
    iexists d
    iexact H

/-- The table's row is the step the kernel's text names. -/
theorem defs₀_row (t : Fin cfg0.N) :
    (defs₀ (F := F)) .tc cfg0.body (cfg0.bodyArgs t (cfg0.slots t)) = bodyAt0 t := by
  unfold defs₀; rw [Defs.onTc_tc]

abbrev pre (c : Dev nD) (t : Fin cfg0.N) : sProp 𝕄G := iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
abbrev post (c : Dev nD) (t : Fin cfg0.N) : sProp 𝕄G := iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (match cfg0.idle 7 (cfg0.grid.coords t) with
        | true => match (cfg0.win 7).flush t with
          | false => iprop(∃ d, owns (c : Thread nD τ) (st0_7 t) fullShare ((dats m 0 c).before 7 t d))
          | true => owns (c : Thread nD τ) (st0_7 t) fullShare ((dats m 0 c).after 7 t)
        | false => owns (c : Thread nD τ) (st0_7 t) fullShare ((dats m 0 c).after 7 t)) ∗ (match cfg0.idle 8 (cfg0.grid.coords t) with
        | true => match (cfg0.win 8).flush t with
          | false => iprop(∃ d, owns (c : Thread nD τ) (st0_8 t) fullShare ((dats m 0 c).before 8 t d))
          | true => owns (c : Thread nD τ) (st0_8 t) fullShare ((dats m 0 c).after 8 t)
        | false => owns (c : Thread nD τ) (st0_8 t) fullShare ((dats m 0 c).after 8 t)))

set_option maxHeartbeats 4000000 in
theorem sound_step (c : Dev nD) (t : Fin cfg0.N) :
    pre m c t ⊢ wp (M := 𝕄G) frame (wpE (defs₀ (F := F)) Variants.none c none) Set.univ (bodyAt0 t) (fun _ => post m c t) := by
  unfold bodyAt0 pre post
  simp only [before0, after0, before1, after1, before2, after2, before3, after3, before4, after4, before5, after5, after6]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨%A, %B, %hAB, HA, HB, HG⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have e1 := fst_any t k0_pay37 A (st m c t.val).1 fun h => (hAB h).1
  have e2 := fst_any t k0_pay38 B (st m c t.val).2 fun h => (hAB h).2
  iapply (step_owns Variants.none c none Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) _ _ _ A B _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HB]; · iexact HB
  rw [e1, e2]
  iintro ⟨H0, H1, H2, H3, H4, H5, H6, H7, H8, HA, HB⟩
  isplitl [HA HB HG]
  · iexists _, _
    isplitr; swap
    · isplitl [HA]; · iexact HA
      isplitl [HB]; · iexact HB
      iexact HG
    · ipureintro
      intro _
      rw [st_succ]
      exact ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves7 m c t d7)
    rw [after7]
    iexact H7
  · iapply (leaves8 m c t d8)
    rw [after8]
    iexact H8

theorem obligation (c : Dev nD) : BodyObligation (dats (F := F) m 0 c) (defs₀ (F := F)) Variants.none () Set.univ := fun t => by
  rw [bigSep_W0, bigSep_W0, defs₀_row]
  exact triple_restated (sound_step m c t) rfl .rfl fun _ => .rfl

/-- Before the first step the accumulators hold anything. -/
theorem start (c : Dev nD) : Pipeline.ΦA spec0 c ⊢ (dats (F := F) m 0 c).Φ 0 := by
  rw [show (dats m 0 c).Φ 0 = Inv m c 0 from rfl]
  unfold Pipeline.ΦA Inv
  rw [scopedRest0_eq]
  simp only [owns_whole]
  iintro ⟨⟨⟨%f, HA⟩, ⟨%g, HB⟩⟩, HG⟩
  iexists f, g
  isplitr
  · ipureintro; exact fun h => absurd rfl h
  isplitl [HA]; · iexact HA
  isplitl [HB]; · iexact HB
  iexact HG

/-- After the last step what they hold is forgotten. -/
theorem finish (c : Dev nD) : (dats (F := F) m 0 c).Φ (Fin.last cfg0.N) ⊢ Pipeline.ΦA spec0 c := by
  rw [show (dats m 0 c).Φ (Fin.last cfg0.N) = Inv m c cfg0.N from rfl]
  unfold Pipeline.ΦA Inv
  rw [scopedRest0_eq]
  simp only [owns_whole]
  iintro ⟨%A, %B, -, HA, HB, HG⟩
  isplitl [HA HB]
  · isplitl [HA]
    · iexists A; iexact HA
    · iexists B; iexact HB
  iexact HG

/-- Every run of the program ends, the windows' arrays holding what the steps wrote back and every counter zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := start m) (hout := finish m)
    (hQ' := fun _ h => h)

end Cert.KernelIdeal.Attn

end
-- ==== Proof.Products.lean ====
/- A sum collected in two, four or eight steps: what an accumulator that is set at a run's first step, added to at the steps
   between, and handed out with the last part added at its last, hands out. -/
module
public import Idealize.ShloMosaic.Lib.Pipeline.ValueKit
@[expose] public section
noncomputable section
namespace Cert.Products
open Idealize.ShloMosaic

/-- The step `s` of the run of four steps that ends at `t`. -/
abbrev stepOf {N : ℕ} (t : Fin N) (ht : t.val % 4 = 3) (s : Fin 4) : Fin N := ⟨4 * (t.val / 4) + s.val, by omega⟩

/-- The step `s` of the run of two steps that ends at `t`. -/
abbrev stepOf2 {N : ℕ} (t : Fin N) (ht : t.val % 2 = 1) (s : Fin 2) : Fin N := ⟨2 * (t.val / 2) + s.val, by omega⟩

/-- `f` is what the result block and the accumulator hold after each step, `p` the part that a step adds, `e` where an entry
    of the result block lies in the accumulator: at a run's last step the result block holds the sum of the run's four parts. -/
theorem four_parts {I' I : Type} {N : ℕ} (f : ∀ n, n < N → (I' → EReal) × (I → EReal)) (p : Fin N → I → EReal) (e : I' → I)
    (h0 : ∀ t : Fin N, t.val % 4 = 0 → ∀ j, (f t.val t.isLt).2 j = p t j)
    (h1 : ∀ t : Fin N, 1 ≤ t.val % 4 ∧ t.val % 4 ≤ 2 → ∀ j,
      (f t.val t.isLt).2 j = (f (t.val - 1) (Nat.lt_of_le_of_lt (Nat.sub_le _ _) t.isLt)).2 j + p t j)
    (h2 : ∀ t : Fin N, t.val % 4 = 3 → ∀ j,
      (f t.val t.isLt).1 j = (f (t.val - 1) (Nat.lt_of_le_of_lt (Nat.sub_le _ _) t.isLt)).2 (e j) + p t (e j))
    (t : Fin N) (ht : t.val % 4 = 3) (j : I') : (f t.val t.isLt).1 j = ∑ s : Fin 4, p (stepOf t ht s) (e j) := by
  obtain ⟨n, hn⟩ := t
  obtain ⟨q, rfl⟩ : ∃ q, n = 4 * q + 3 := ⟨n / 4, by simp only at ht; omega⟩
  have e0 := h0 ⟨4 * q, by omega⟩ (by simp) (e j)
  have e1 := h1 ⟨4 * q + 1, by omega⟩ (by simp only; omega) (e j)
  have e2 := h1 ⟨4 * q + 2, by omega⟩ (by simp only; omega) (e j)
  have e3 := h2 ⟨4 * q + 3, hn⟩ (by simp only; omega) j
  simp only [show 4 * q + 1 - 1 = 4 * q from rfl, show 4 * q + 2 - 1 = 4 * q + 1 from rfl, show 4 * q + 3 - 1 = 4 * q + 2 from rfl] at e1 e2 e3
  rw [e3, e2, e1, e0, Fin.sum_univ_four]
  have hs (s : Fin 4) : stepOf ⟨4 * q + 3, hn⟩ ht s = ⟨4 * q + s.val, by omega⟩ := Fin.ext (by simp only; omega)
  simp only [hs]
  rfl

/-- What is set at the first of eight steps and added to at the others holds the sum of the eight parts at the last. -/
theorem eight_parts {I : Type} {N : ℕ} (hN : N = 8) (f : ∀ n, n < N → I → EReal) (p : Fin N → I → EReal)
    (h0 : ∀ t : Fin N, t.val = 0 → ∀ j, f t.val t.isLt j = p t j)
    (h1 : ∀ t : Fin N, 1 ≤ t.val → ∀ j,
      f t.val t.isLt j = f (t.val - 1) (Nat.lt_of_le_of_lt (Nat.sub_le _ _) t.isLt) j + p t j)
    (t : Fin N) (ht : t.val % 8 = 7) (j : I) : f t.val t.isLt j = ∑ s : Fin 8, p ⟨s.val, by omega⟩ j := by
  subst hN
  obtain rfl : t = 7 := Fin.ext (by show t.val = 7; omega)
  have step : ∀ n (h : n < 8), f n h j = ∑ s : Fin (n + 1), p ⟨s.val, by omega⟩ j := by
    intro n
    induction n with
    | zero => intro h; rw [Fin.sum_univ_one]; exact h0 ⟨0, h⟩ rfl j
    | succ n ih =>
      intro h
      rw [Fin.sum_univ_castSucc, h1 ⟨n + 1, h⟩ (by simp) j]
      exact congrArg (· + _) (ih (by omega))
  exact step 7 (by omega)

/-- Runs of two steps, where the last step also adds `g` to the result. -/
theorem two_parts {I : Type} {N : ℕ} (f : ∀ n, n < N → (I → EReal) × (I → EReal)) (p g : Fin N → I → EReal)
    (h0 : ∀ t : Fin N, t.val % 2 = 0 → ∀ j, (f t.val t.isLt).2 j = p t j)
    (h1 : ∀ t : Fin N, t.val % 2 = 1 → ∀ j,
      (f t.val t.isLt).1 j = (f (t.val - 1) (Nat.lt_of_le_of_lt (Nat.sub_le _ _) t.isLt)).2 j + p t j + g t j)
    (t : Fin N) (ht : t.val % 2 = 1) (j : I) : (f t.val t.isLt).1 j = g t j + ∑ s : Fin 2, p (stepOf2 t ht s) j := by
  obtain ⟨n, hn⟩ := t
  obtain ⟨q, rfl⟩ : ∃ q, n = 2 * q + 1 := ⟨n / 2, by simp only at ht; omega⟩
  have e0 := h0 ⟨2 * q, by omega⟩ (by simp) j
  have e1 := h1 ⟨2 * q + 1, hn⟩ (by simp only; omega) j
  simp only [show 2 * q + 1 - 1 = 2 * q from rfl] at e1
  rw [e1, e0, Fin.sum_univ_two, add_comm]
  have hs (s : Fin 2) : stepOf2 ⟨2 * q + 1, hn⟩ ht s = ⟨2 * q + s.val, by omega⟩ := Fin.ext (by simp only; omega)
  simp only [hs]
  rfl

end Cert.Products
end
-- ==== Proof.Reals.lean ====
/- The mathematics of the stick-breaking attention's backward pass over the real numbers, one head at a time, and the
   exact operations at real arguments. -/
module
public import Idealize.ShloMosaic.Lib.IdealHost
public import Idealize.ShloMosaic.Lib.Pointwise
public import Mathlib.Analysis.SpecialFunctions.Log.Basic
@[expose] public section
noncomputable section
namespace Cert.Stick
open Idealize.ShloMosaic

/-! ## Exact operations at real arguments -/

/-- A finite sum of real numbers is the real sum. -/
theorem coe_sum {ι : Type} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- The lesser of two real numbers. -/
theorem coe_min (a b : ℝ) : min (a : EReal) (b : EReal) = ((min a b : ℝ) : EReal) :=
  (Monotone.map_min (fun _ _ h => EReal.coe_le_coe_iff.2 h)).symm

/-- The greater of two real numbers. -/
theorem coe_max (a b : ℝ) : max (a : EReal) (b : EReal) = ((max a b : ℝ) : EReal) :=
  (Monotone.map_max (fun _ _ h => EReal.coe_le_coe_iff.2 h)).symm

/-- The exponential of a real number. -/
theorem exp_coe (a : ℝ) : Ideal.exp (a : EReal) = ((Real.exp a : ℝ) : EReal) := rfl

/-- The logarithm of a positive real number. -/
theorem log_coe (a : ℝ) (h : 0 < a) : Ideal.log (a : EReal) = ((Real.log a : ℝ) : EReal) := by
  show (if a ≤ 0 then (⊥ : EReal) else (Real.log a : EReal)) = _
  rw [if_neg (not_le.2 h)]

/-- A choice between two real numbers. -/
theorem ite_coe (p : Prop) [Decidable p] (a b : ℝ) :
    (if p then (a : EReal) else (b : EReal)) = ((if p then a else b : ℝ) : EReal) := by split <;> rfl

/-- One eighth, the scores' scale. -/
theorem eighth : Ideal.ofBits .f32 0x3E000000#32 = (((1 : ℝ) / 8 : ℝ) : EReal) := by
  simp [Ideal.ofBits, Ideal.ieee, -EReal.coe_mul]; norm_num

/-- The pattern of infinity. -/
theorem inf32 : Ideal.ofBits .f32 0x7F800000#32 = ⊤ := by simp [Ideal.ofBits, Ideal.ieee]
theorem inf16 : Ideal.ofBits .bf16 0x7F80#16 = ⊤ := by simp [Ideal.ofBits, Ideal.ieee]

/-! ## The logarithm of one minus the sigmoid -/

/-- The logarithm of one minus the sigmoid of `z`. -/
def lsm (z : ℝ) : ℝ := min (-z) 0 - Real.log (1 + Real.exp (min z (-z)))

theorem lsm_eq (z : ℝ) : lsm z = -Real.log (1 + Real.exp z) := by
  unfold lsm
  rcases le_total z 0 with h | h
  · rw [min_eq_right (by linarith), min_eq_left (by linarith)]; ring
  · rw [min_eq_left (by linarith), min_eq_right (by linarith)]
    have h1 : 1 + Real.exp z = Real.exp z * (1 + Real.exp (-z)) := by
      rw [mul_add, ← Real.exp_add]; simp [add_comm]
    rw [h1, Real.log_mul (Real.exp_pos _).ne' (by positivity), Real.log_exp]; ring

/-- The exact operations of the kernel at a real score. -/
theorem lsm_coe (z : ℝ) : min (0 - (z : EReal)) 0 - Ideal.log (1 + Ideal.exp (min (z : EReal) (0 - (z : EReal)))) = ((lsm z : ℝ) : EReal) := by
  rw [zero_sub, ← EReal.coe_neg, ← EReal.coe_zero, ← EReal.coe_one, coe_min, coe_min, exp_coe, ← EReal.coe_add,
    log_coe _ (by positivity), ← EReal.coe_sub]
  rfl

/-- Written with the greater of two and an absolute value, the same. -/
theorem lsm_max (z : ℝ) : -(max z 0 + Real.log (1 + Real.exp (-max z (-z)))) = lsm z := by
  unfold lsm
  rcases le_total z 0 with h | h
  · rw [max_eq_right h, max_eq_right (by linarith), min_eq_right (by linarith), min_eq_left (by linarith), neg_neg]; ring
  · rw [max_eq_left h, max_eq_left (by linarith), min_eq_left (by linarith), min_eq_right (by linarith)]; ring

/-- The exact operations of a softplus at a real number. -/
theorem softplus_coe (z : ℝ) :
    max (z : EReal) 0 + Ideal.log1p (Ideal.exp (-max (z : EReal) (-(z : EReal)))) = ((-lsm z : ℝ) : EReal) := by
  rw [← lsm_max, neg_neg, ← EReal.coe_neg, ← EReal.coe_zero, coe_max, coe_max, ← EReal.coe_neg, exp_coe]
  unfold Ideal.log1p
  rw [← EReal.coe_one, ← EReal.coe_add, log_coe _ (by positivity), ← EReal.coe_add]

/-- A choice by the bit of a proposition. -/
theorem select_bool {α : Type} (p : Prop) [Decidable p] (a b : α) :
    Scalar.select (BitVec.ofBool (decide p)) a b = if p then a else b := by
  by_cases h : p <;> simp [h, Scalar.select]

/-- The logarithm of the sigmoid. -/
theorem lsm_neg (z : ℝ) : lsm (-z) = z + lsm z := by
  rw [lsm_eq, lsm_eq]
  have h1 : 1 + Real.exp z = Real.exp z * (1 + Real.exp (-z)) := by
    rw [mul_add, ← Real.exp_add]; simp [add_comm]
  rw [h1, Real.log_mul (Real.exp_pos _).ne' (by positivity), Real.log_exp]; ring

/-- The sigmoid of `z` and of `-z` are together one. -/
theorem sigmoid_add (z : ℝ) : Real.exp (-z + lsm (-z)) = 1 - Real.exp (z + lsm z) := by
  rw [lsm_eq, lsm_eq, Real.exp_add, Real.exp_add, Real.exp_neg (Real.log _), Real.exp_neg (Real.log _),
    Real.exp_log (by positivity), Real.exp_log (by positivity)]
  have : Real.exp z * Real.exp (-z) = 1 := by rw [← Real.exp_add]; simp
  have h1 : (0 : ℝ) < 1 + Real.exp z := by positivity
  have h2 : (0 : ℝ) < 1 + Real.exp (-z) := by positivity
  field_simp
  nlinarith

/-! ## One head -/

/-- One head's queries, keys, values and cotangent, by row and column. -/
structure Head where
  q : ℕ → ℕ → ℝ
  k : ℕ → ℕ → ℝ
  v : ℕ → ℕ → ℝ
  d : ℕ → ℕ → ℝ

/-- Head `h` of arrays with 64 columns for every head. -/
def head (Q K V D : ℕ → ℕ → ℝ) (h : ℕ) : Head :=
  ⟨fun r x => Q r (64 * h + x), fun c x => K c (64 * h + x), fun c x => V c (64 * h + x), fun r x => D r (64 * h + x)⟩

namespace Head
variable (H : Head) (r c : ℕ)

/-- The score of query `r` against key `c`. -/
def z : ℝ := ∑ x ∈ Finset.range 64, H.q r x * (1 / 8) * H.k c x
/-- Scaling the sum of products is scaling the queries. -/
theorem _root_.Cert.Stick.score_eq : (∑ x ∈ Finset.range 64, H.q r x * H.k c x) * (1 / 8) = H.z r c := by
  unfold z
  rw [Finset.sum_mul]
  exact Finset.sum_congr rfl fun x _ => by ring
/-- The logarithm of one minus the score's sigmoid where the key is before the query, zero elsewhere. -/
def L : ℝ := if c < r then lsm (H.z r c) else 0
/-- The row sum of `L` before key `c`, and over the whole row. -/
def PL : ℝ := ∑ k ∈ Finset.range c, H.L r k
def lt : ℝ := ∑ k ∈ Finset.range 4096, H.L r k
/-- The attention weight. -/
def att : ℝ := if c < r then Real.exp (H.z r c + lsm (H.z r c) + (H.lt r - H.PL r (c + 1))) else 0
/-- The weight's cotangent, and its row sum before key `c`. -/
def dv : ℝ := ∑ x ∈ Finset.range 64, H.d r x * H.v c x
def g : ℝ := H.att r c * H.dv r c
def PG : ℝ := ∑ k ∈ Finset.range c, H.g r k
/-- The score's gradient. -/
def dz : ℝ := if c < r then H.g r c - Real.exp (H.z r c + lsm (H.z r c)) * (H.g r c + H.PG r c) else 0

/-- The gradient of q at row `r` and column `x` over the keys before `n` (not yet scaled). -/
def DQ (r x n : ℕ) : ℝ := ∑ c ∈ Finset.range n, H.dz r c * H.k c x
/-- The gradient of k at key `c` and column `x` over the `n` queries from `R`. -/
def DK (R n c x : ℕ) : ℝ := ∑ r ∈ Finset.range n, H.dz (R + r) c * (H.q (R + r) x * (1 / 8))
/-- The gradient of v likewise. -/
def DV (R n c x : ℕ) : ℝ := ∑ r ∈ Finset.range n, H.att (R + r) c * H.d (R + r) x

theorem dz_zero {r c : ℕ} (h : r ≤ c) : H.dz r c = 0 := if_neg (not_lt.2 h)
theorem att_zero {r c : ℕ} (h : r ≤ c) : H.att r c = 0 := if_neg (not_lt.2 h)
theorem g_zero {r c : ℕ} (h : r ≤ c) : H.g r c = 0 := by unfold g; rw [H.att_zero h, zero_mul]

theorem PL_add (C n : ℕ) : H.PL r (C + n) = H.PL r C + ∑ k ∈ Finset.range n, H.L r (C + k) := Finset.sum_range_add _ _ _
theorem PG_add (C n : ℕ) : H.PG r (C + n) = H.PG r C + ∑ k ∈ Finset.range n, H.g r (C + k) := Finset.sum_range_add _ _ _
theorem DQ_add (x C n : ℕ) : H.DQ r x (C + n) = H.DQ r x C + ∑ c ∈ Finset.range n, H.dz r (C + c) * H.k (C + c) x :=
  Finset.sum_range_add _ _ _
theorem DK_add (x n n' : ℕ) : H.DK 0 (n + n') c x = H.DK 0 n c x + H.DK n n' c x := by
  unfold DK; rw [Finset.sum_range_add]; simp
theorem DV_add (x n n' : ℕ) : H.DV 0 (n + n') c x = H.DV 0 n c x + H.DV n n' c x := by
  unfold DV; rw [Finset.sum_range_add]; simp

/-- Keys from the query on add nothing. -/
theorem DQ_stop {r n n' : ℕ} (x : ℕ) (h : r ≤ n) (hn : n ≤ n') : H.DQ r x n' = H.DQ r x n := by
  obtain ⟨k, rfl⟩ := Nat.exists_eq_add_of_le hn
  rw [DQ_add, Finset.sum_eq_zero, add_zero]
  intro c _
  rw [H.dz_zero (by omega), zero_mul]

end Head

/-- Taking a sum apart into the entries and the (zero) rest of each entry leaves the sum. -/
theorem coe_split {ι : Type} (s : Finset ι) (f w : ι → ℝ) :
    ∑ k ∈ s, (f k : EReal) * (w k : EReal) + ∑ k ∈ s, ((f k : EReal) - (f k : EReal)) * (w k : EReal)
      = ((∑ k ∈ s, f k * w k : ℝ) : EReal) := by
  simp only [← EReal.coe_sub, ← EReal.coe_mul, coe_sum, ← EReal.coe_add, sub_self, zero_mul, Finset.sum_const_zero, add_zero]

/-- A comparison's bit, as a number. -/
theorem bit_coe (p : Prop) [Decidable p] :
    FloatOps.sitofp (F := Ideal) FTy.f32 (BitVec.setWidth 32 (BitVec.ofBool (decide p))) = ((if p then 1 else 0 : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 by decide, Int.cast_one]
  · simp only [h, decide_false, if_false]
    show (((BitVec.setWidth 32 (BitVec.ofBool false)).toInt : ℝ) : EReal) = _
    rw [show (BitVec.setWidth 32 (BitVec.ofBool false)).toInt = 0 by decide, Int.cast_zero]

/-- A sum against an upper triangle of ones is the sum of the entries before. -/
theorem sum_tri {n : ℕ} (f : ℕ → ℝ) (c : ℕ) (hc : c ≤ n) :
    ∑ k : Fin n, f k * (if (k : ℕ) < c then 1 else 0) = ∑ k ∈ Finset.range c, f k := by
  rw [Fin.sum_univ_eq_sum_range (fun k => f k * (if k < c then 1 else 0)) n]
  simp only [mul_ite, mul_one, mul_zero]
  rw [← Finset.sum_filter]
  congr 1
  ext k; simp; omega

end Cert.Stick
-- ==== Proof.NormGrad.lean ====
/- The gradient of the root-mean-square norm of one row of entries, over the extended reals: the form that the
   kernels compute and the form that differentiating the norm gives are equal, infinite entries included. -/
module
public import proofs.«01_k».proof.Proof.Reals
@[expose] public section
noncomputable section
namespace Cert.NormGrad
open Idealize.ShloMosaic

/-- The constants: the two lengths of a row, what is added to the mean of squares, and minus one half. -/
abbrev len : EReal := Ideal.ofBits .f32 0x44800000#32
@[inherit_doc len]
abbrev len512 : EReal := Ideal.ofBits .f32 0x44000000#32

theorem len_eq : len = ((1024 : ℝ) : EReal) := by
  simp [Ideal.ofBits, Ideal.ieee, -EReal.coe_mul]; norm_num

theorem len512_eq : len512 = ((512 : ℝ) : EReal) := by
  simp [Ideal.ofBits, Ideal.ieee, -EReal.coe_mul]; norm_num
theorem eps : ∃ e : ℝ, 0 < e ∧ Ideal.ofBits .f32 0x358637BD#32 = ((e : ℝ) : EReal) := by
  refine ⟨_, ?_, by simp only [Ideal.ofBits, Ideal.ieee]; simp [-EReal.coe_mul]; rfl⟩
  norm_num
theorem minus_half : Ideal.ofBits .f32 0xBF000000#32 = ((-(1 / 2) : ℝ) : EReal) := by
  simp [Ideal.ofBits, Ideal.ieee, -EReal.coe_mul]; norm_num

variable {n : ℕ} (L : EReal) {l : ℝ} (hl : 0 < l) (hL : L = (l : EReal))

/-- The mean of a row's squares, with the small constant added. -/
abbrev ms (x : Fin n → EReal) : EReal :=
  Ideal.div (∑ k, x k * x k) L + Ideal.ofBits .f32 0x358637BD#32

/-- One over the root of it. -/
abbrev rs (x : Fin n → EReal) : EReal := Ideal.rsqrt (ms L x)

/-- The gradient as the kernels compute it: `g` is the cotangent times the norm's weight. -/
abbrev grad (x g : Fin n → EReal) (j : Fin n) : EReal :=
  rs L x * (g j - x j * rs L x * Ideal.div (∑ k, g k * (x k * rs L x)) L)

/-- What comes of the square root: the derivative of `rs` in the mean of squares, times what reaches it. -/
abbrev root (x g : Fin n → EReal) : EReal :=
  Ideal.div ((∑ k, x k * g k) * (Ideal.ofBits .f32 0xBF000000#32 * Ideal.div (rs L x) (ms L x))) L

theorem div_real (y : EReal) (a : ℝ) (h : a ≠ 0) : Ideal.div y (a : EReal) = ((a⁻¹ : ℝ) : EReal) * y := by
  rw [Ideal.div, if_neg (by simpa using h), ← EReal.coe_inv, mul_comm]

/-- A nonnegative real factor moves out of a sum of extended reals. -/
theorem mul_sum_real {ι : Type} (s : Finset ι) (c : ℝ) (hc : 0 ≤ c) (f : ι → EReal) :
    ∑ k ∈ s, (c : EReal) * f k = (c : EReal) * ∑ k ∈ s, f k := by
  classical
  induction s using Finset.induction with
  | empty => simp
  | insert a s ha ih => rw [Finset.sum_insert ha, Finset.sum_insert ha, ih,
      EReal.left_distrib_of_nonneg_of_ne_top (by exact_mod_cast hc) (EReal.coe_ne_top c)]

include hl hL in
/-- A row of real numbers has a positive mean of squares, a row with an infinite entry an infinite one. -/
theorem ms_cases (x : Fin n → EReal) : ms L x = ⊤ ∨ ∃ a : ℝ, 0 < a ∧ ms L x = (a : EReal) := by
  obtain ⟨e, he, ee⟩ := eps
  have hs : 0 ≤ ∑ k, x k * x k := Finset.sum_nonneg fun k _ => by
    induction x k with
    | bot => simp
    | top => simp
    | coe r => exact_mod_cast mul_self_nonneg r
  unfold ms
  rw [hL, ee, div_real _ _ hl.ne']
  generalize (∑ k, x k * x k) = s at hs ⊢
  induction s with
  | bot => simp at hs
  | top => left; rw [EReal.coe_mul_top_of_pos (inv_pos.2 hl), EReal.top_add_coe]
  | coe s =>
    right
    have : 0 ≤ s := by exact_mod_cast hs
    exact ⟨l⁻¹ * s + e, by positivity, by norm_cast⟩

include hl hL in
/-- The two forms of the gradient are equal. -/
theorem grad_eq (x g : Fin n → EReal) (j : Fin n) :
    grad L x g j = g j * rs L x + x j * root L x g + x j * root L x g := by
  unfold grad root rs
  rcases ms_cases L hl hL x with h | ⟨a, ha, h⟩
  · rw [h, hL]
    have h0 : Ideal.rsqrt ⊤ = 0 := rfl
    have h1 : Ideal.div 0 ⊤ = 0 := by rw [Ideal.div, if_neg (by simp), zero_mul]
    rw [h0, h1, mul_zero, mul_zero, mul_zero, zero_mul, div_real _ _ hl.ne', mul_zero, mul_zero, mul_zero, add_zero, add_zero]
  · rw [h, hL, minus_half]
    have hr : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.2 ha.le), if_neg ha.ne']
    have hp : 0 < (Real.sqrt a)⁻¹ := inv_pos.2 (Real.sqrt_pos.2 ha)
    have hq : (Real.sqrt a)⁻¹ * (Real.sqrt a)⁻¹ = a⁻¹ := by rw [← mul_inv, Real.mul_self_sqrt ha.le]
    rw [hr]
    generalize (Real.sqrt a)⁻¹ = p at hp hq ⊢
    rw [div_real _ _ hl.ne', div_real _ _ hl.ne', div_real _ _ ha.ne']
    have hsum : ∑ k, g k * (x k * (p : EReal)) = (p : EReal) * ∑ k, x k * g k := by
      rw [← mul_sum_real _ _ hp.le]
      exact Finset.sum_congr rfl fun k _ => by ac_rfl
    rw [hsum]
    generalize (∑ k, x k * g k) = S
    have e1 : x j * (p : EReal) * (((l⁻¹ : ℝ) : EReal) * ((p : EReal) * S))
        = ((p * p * l⁻¹ : ℝ) : EReal) * (x j * S) := by
      rw [EReal.coe_mul, EReal.coe_mul]; ac_rfl
    have e2 : x j * (((l⁻¹ : ℝ) : EReal) * (S * (((-(1 / 2) : ℝ) : EReal) * ((((a⁻¹ : ℝ)) : EReal) * (p : EReal)))))
        = ((p * a⁻¹ * l⁻¹ * (1 / 2) : ℝ) : EReal) * -(x j * S) := by
      rw [mul_neg, ← neg_mul, ← EReal.coe_neg, show -(p * a⁻¹ * l⁻¹ * (1 / 2)) = p * a⁻¹ * l⁻¹ * (-(1 / 2)) by ring,
        EReal.coe_mul, EReal.coe_mul, EReal.coe_mul]
      ac_rfl
    have hc : (0 : ℝ) ≤ p * a⁻¹ * l⁻¹ * (1 / 2) := by positivity
    rw [e1, e2, add_assoc, ← EReal.right_distrib_of_nonneg (by exact_mod_cast hc) (by exact_mod_cast hc), ← EReal.coe_add,
      sub_eq_add_neg, ← mul_neg, EReal.left_distrib_of_nonneg_of_ne_top (by exact_mod_cast hp.le) (EReal.coe_ne_top p),
      ← mul_assoc, ← EReal.coe_mul, mul_comm (g j)]
    congr 3
    rw [← hq]; ring

/-! ## Whole arrays -/

/-- A row of an array. -/
abbrev row (x : FVec Ideal (⟨2, ![4096, 1024]⟩ : Shape) .f32) (r : Fin 4096) (k : Fin 1024) : EReal := x (ix2 r k)

/-- A row of the cotangent, times the norm's weight. -/
abbrev cot (dy : FVec Ideal (⟨2, ![4096, 1024]⟩ : Shape) .f32) (w : FVec Ideal (⟨2, ![1, 1024]⟩ : Shape) .f32) (r : Fin 4096) (k : Fin 1024) :
    EReal := dy (ix2 r k) * w (ix2 0 k)

/-- The gradient of the norm's input, at every row, added to what passes the norm by. -/
def dxOf (res x dy : FVec Ideal (⟨2, ![4096, 1024]⟩ : Shape) .f32) (w : FVec Ideal (⟨2, ![1, 1024]⟩ : Shape) .f32) :
    FVec Ideal (⟨2, ![4096, 1024]⟩ : Shape) .f32 := fun j => res j + grad len (row x (j 0)) (cot dy w (j 0)) (j 1)

/-- The same as differentiating the norm leaves it: what passes the norm by, then the three terms of the gradient, two
    of them sums over an axis of length one. -/
theorem dx_terms (b : EReal) (x dy : FVec Ideal (⟨2, ![4096, 1024]⟩ : Shape) .f32) (w : FVec Ideal (⟨2, ![1, 1024]⟩ : Shape) .f32)
    (j : (⟨2, ![4096, 1024]⟩ : Shape).Idx) :
    b + dy j * w (ix2 0 (j 1)) * rs len (row x (j 0)) + x j * (∑ _k : Fin 1, root len (row x (j 0)) (cot dy w (j 0)))
      + (∑ _k : Fin 1, root len (row x (j 0)) (cot dy w (j 0))) * x j = b + grad len (row x (j 0)) (cot dy w (j 0)) (j 1) := by
  obtain ⟨i, k, rfl⟩ : ∃ (i : Fin 4096) (k : Fin 1024), j = ix2 i k := ⟨j 0, j 1, (ix2_eta (n0 := 4096) (n1 := 1024) j).symm⟩
  show b + cot dy w i k * rs len (row x i) + row x i k * (∑ _k : Fin 1, root len (row x i) (cot dy w i))
      + (∑ _k : Fin 1, root len (row x i) (cot dy w i)) * row x i k = b + grad len (row x i) (cot dy w i) k
  rw [grad_eq len (by norm_num) len_eq, Fin.sum_univ_one]
  ac_rfl

/-- The gradient of the norm's weight: the sum over the rows of the cotangent times the normed entry. -/
def dwOf (x dy : FVec Ideal (⟨2, ![4096, 1024]⟩ : Shape) .f32) : FVec Ideal (⟨2, ![1, 1024]⟩ : Shape) .f32 :=
  fun j => ∑ r : Fin 4096, dy (ix2 r (j 1)) * (x (ix2 r (j 1)) * rs len (row x r))
end Cert.NormGrad
end
-- ==== Proof.Norm.lean ====
/- The root-mean-square norms: the gradient of the input and of the weight, and the norm itself. -/
module
public import proofs.«01_k».proof.Proof.Products
public import proofs.«01_k».proof.Proof.NormGrad
public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
@[expose] public section
set_option maxRecDepth 16384
noncomputable section
open Idealize.ShloMosaic Idealize.ShloMosaic.TcCoe Cert.Products Cert.NormGrad

namespace Cert.Kernel24Ideal.Norm
open Cert.Kernel24Ideal Cert.Kernel24Ideal.Gen

/-- Which block of each array a grid step works on. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- What a grid step leaves of the input's gradient. -/
theorem step_dx (t : Fin cfg0.N) (j : S512x1024.Idx) : (outsAt0 m c t.val t.isLt).1 j
    = k0_pay3 (F := Ideal) (iblk m c 0 t) (iblk m c 3 t) (iblk m c 1 t) (iblk m c 2 t) j := by
  by_cases h : t.val % 8 = 0
  · rw [outsAt0_A m c t h (by have := lt_of_lt_of_eq t.isLt N_0; omega)]
    frame_out
  · rw [outsAt0_B m c t h (by omega)]
    frame_out

/-- The input's gradient after the run. -/
theorem final_dx : (dats m 0 c).arrAt 4 cfg0.N = dxOf (m ((c : Thread nD τ).loc main_arg3))
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, step_dx m c t]
  pointwise [k0_pay3, k0_pay2, k0_pay1, dxOf, grad, rs, ms, len, row, cot]
  blk_point [iblk, V, idx t]

/-- The weight's gradient after the run. -/
theorem final_dw : (dats m 0 c).arrAt 5 cfg0.N
    = dwOf (m ((c : Thread nD τ).loc main_arg0)) (m ((c : Thread nD τ).loc main_arg1)) := by
  refine (dats m 0 c).arrAt_eq_of_covers 5 _ (by decide +kernel) fun t hf y => ?_
  have ht := (flush0_5 t).mp hf
  blk_simp
  rw [after0_5]
  refine (eight_parts N_0 (fun n h => (outsAt0 m c n h).2) (fun t => k0_pay4 (F := Ideal) (iblk m c 0 t) (iblk m c 1 t))
    (fun t h j => by
      show (outsAt0 m c t.val t.isLt).2 j = _
      rw [outsAt0_A m c t (by omega) (by omega)]
      frame_out)
    (fun t h j => by
      show (outsAt0 m c t.val t.isLt).2 j = _
      rw [outsAt0_B m c t (by have := lt_of_lt_of_eq t.isLt N_0; omega) h]
      frame_out
      pointwise [k0_pay5]) t ht y).trans ?_
  pointwise [k0_pay4, k0_pay2, k0_pay1, dwOf, rs, ms, len, row]
  refine Fin.sum_mul_add_congr fun s k hl => ?_
  blk_point [iblk, V, idx t, idx (show Fin cfg0.N from s)]

/-- The kernel's two results are the reference's, of any arguments. -/
theorem same_values : Cert.algebraic_Kernel24Ideal_Reference24Ideal := fun m g m' g' _ hargs =>
  ⟨fun c => dxOf (m ((c.tc : Thread nD τ).loc main_arg3)) (m ((c.tc : Thread nD τ).loc main_arg0)) (m ((c.tc : Thread nD τ).loc main_arg1)) (m ((c.tc : Thread nD τ).loc main_arg2)),
    fun c => dwOf (m ((c.tc : Thread nD τ).loc main_arg0)) (m ((c.tc : Thread nD τ).loc main_arg1)),
    (θ_run defs _ _).mono (fun r h c => ⟨(h c).1.trans (final_dx m c), (h c).2.1.trans (final_dw m c), (h c).2.2⟩)
      (Cert.Kernel24Ideal.Value.run_blocks (F := Ideal) m g),
    (θ_run (Cert.Reference24Ideal.defs (F := Ideal)) _ _).mono
      (fun r h c => ⟨(h c).1.trans (by
          rw [(hargs c).1, (hargs c).2.1, (hargs c).2.2.1, (hargs c).2.2.2]
          funext j
          pointwise [dxOf]
          exact dx_terms _ _ _ _ j), (h c).2.1.trans (by
          rw [(hargs c).1, (hargs c).2.1]
          funext j
          pointwise [dwOf, rs, ms, len, row]
          exact Finset.sum_congr rfl fun _ _ => mul_comm _ _), (h c).2.2⟩) (Cert.Reference24Ideal.Value.run (F := Ideal) m' g')⟩

/-- The kernel runs and leaves its arguments as they were. -/
theorem frame_kernel : Cert.quiescent_Kernel24 := fun m ρ _ => Cert.Kernel24.Gen.frame m ρ

/-- The kernel over the extended reals. -/
theorem frame_kernel_ideal : Cert.quiescent_Kernel24Ideal := fun m ρ _ => frame m ρ

/-- The reference runs and leaves its arguments as they were. -/
theorem frame_reference : Cert.quiescent_Reference24Ideal := fun m ρ _ =>
  (θ_run (Cert.Reference24Ideal.defs (F := Ideal)) _ _).mono (fun r h => ⟨fun c => (h c).2.2, sem_eq_zero_of_no_sems (by decide) r.2⟩)
    (Cert.Reference24Ideal.Value.run (F := Ideal) m ρ)

end Cert.Kernel24Ideal.Norm

namespace Cert.Kernel25Ideal.Norm
open Cert.Kernel25Ideal Cert.Kernel25Ideal.Gen

/-- Which block of each array a grid step works on. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable (m : (ℓ : Loc nD τ sig) → Buf (Elt Ideal) ℓ) (c : Dev nD)

/-- What a grid step leaves of the input's gradient. -/
theorem step_dx (t : Fin cfg0.N) (j : S512x1024.Idx) : (outsAt0 m c t.val t.isLt).1 j
    = k0_pay1 (F := Ideal) (k0_pay4 (iblk m c 0 t)) (k0_pay5 (iblk m c 0 t)) (k0_pay6 (iblk m c 0 t) (iblk m c 5 t) (iblk m c 1 t) (iblk m c 3 t))
      (iblk m c 2 t) (iblk m c 4 t) j := by
  have := lt_of_lt_of_eq t.isLt N_0
  by_cases h : t.val % 8 = 0
  · rw [outsAt0_A m c t h (by omega) h (by omega)]
    frame_out
  · rw [outsAt0_B m c t h (by omega) h (by omega)]
    frame_out

/-- The input's gradient after the run: the two norms' gradients, added to what passes them by. -/
theorem final_dx : (dats m 0 c).arrAt 6 cfg0.N
    = dxOf (dxOf (m ((c : Thread nD τ).loc main_arg5)) (m ((c : Thread nD τ).loc main_arg0)) (m ((c : Thread nD τ).loc main_arg1)) (m ((c : Thread nD τ).loc main_arg3))) (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6, step_dx m c t]
  pointwise [k0_pay1, k0_pay4, k0_pay5, k0_pay6, dxOf, grad, rs, ms, len, row, cot]
  blk_point [iblk, V, idx t]

/-- The first weight's gradient after the run. -/
theorem final_dw0 : (dats m 0 c).arrAt 7 cfg0.N = dwOf (m ((c : Thread nD τ).loc main_arg0)) (m ((c : Thread nD τ).loc main_arg1)) := by
  refine (dats m 0 c).arrAt_eq_of_covers 7 _ (by decide +kernel) fun t hf y => ?_
  have ht := (flush0_7 t).mp hf
  blk_simp
  rw [after0_7]
  refine (eight_parts N_0 (fun n h => (outsAt0 m c n h).2.1) (fun t => k0_pay7 (F := Ideal) (iblk m c 0 t) (iblk m c 1 t))
    (fun t h j => by
      show (outsAt0 m c t.val t.isLt).2.1 j = _
      rw [outsAt0_A m c t (by omega) (by omega) (by omega) (by omega)]
      frame_out)
    (fun t h j => by
      show (outsAt0 m c t.val t.isLt).2.1 j = _
      have := lt_of_lt_of_eq t.isLt N_0
      rw [outsAt0_B m c t (by omega) h (by omega) h]
      frame_out
      pointwise [k0_pay8]) t ht y).trans ?_
  pointwise [k0_pay7, k0_pay5, k0_pay4, dwOf, rs, ms, len, row]
  refine Fin.sum_mul_add_congr fun s k hl => ?_
  blk_point [iblk, V, idx t, idx (show Fin cfg0.N from s)]

/-- The second weight's gradient after the run. -/
theorem final_dw1 : (dats m 0 c).arrAt 8 cfg0.N = dwOf (m ((c : Thread nD τ).loc main_arg0)) (m ((c : Thread nD τ).loc main_arg2)) := by
  refine (dats m 0 c).arrAt_eq_of_covers 8 _ (by decide +kernel) fun t hf y => ?_
  have ht := (flush0_8 t).mp hf
  blk_simp
  rw [after0_8]
  refine (eight_parts N_0 (fun n h => (outsAt0 m c n h).2.2) (fun t => k0_pay2 (F := Ideal) (k0_pay5 (iblk m c 0 t)) (iblk m c 2 t))
    (fun t h j => by
      show (outsAt0 m c t.val t.isLt).2.2 j = _
      rw [outsAt0_A m c t (by omega) (by omega) (by omega) (by omega)]
      frame_out)
    (fun t h j => by
      show (outsAt0 m c t.val t.isLt).2.2 j = _
      have := lt_of_lt_of_eq t.isLt N_0
      rw [outsAt0_B m c t (by omega) h (by omega) h]
      frame_out
      pointwise [k0_pay3]) t ht y).trans ?_
  pointwise [k0_pay2, k0_pay5, k0_pay4, dwOf, rs, ms, len, row]
  refine Fin.sum_mul_add_congr fun s k hl => ?_
  blk_point [iblk, V, idx t, idx (show Fin cfg0.N from s)]

/-- The kernel's three results are the reference's, of any arguments. -/
theorem same_values : Cert.algebraic_Kernel25Ideal_Reference25Ideal := fun m g m' g' _ hargs =>
  ⟨fun c => dxOf (dxOf (m ((c.tc : Thread nD τ).loc main_arg5)) (m ((c.tc : Thread nD τ).loc main_arg0)) (m ((c.tc : Thread nD τ).loc main_arg1)) (m ((c.tc : Thread nD τ).loc main_arg3))) (m ((c.tc : Thread nD τ).loc main_arg0)) (m ((c.tc : Thread nD τ).loc main_arg2)) (m ((c.tc : Thread nD τ).loc main_arg4)),
    fun c => dwOf (m ((c.tc : Thread nD τ).loc main_arg0)) (m ((c.tc : Thread nD τ).loc main_arg1)), fun c => dwOf (m ((c.tc : Thread nD τ).loc main_arg0)) (m ((c.tc : Thread nD τ).loc main_arg2)),
    (θ_run defs _ _).mono (fun r h c => ⟨(h c).1.trans (final_dx m c), (h c).2.1.trans (final_dw0 m c), (h c).2.2.1.trans (final_dw1 m c), (h c).2.2.2⟩)
      (Cert.Kernel25Ideal.Value.run_blocks (F := Ideal) m g),
    (θ_run (Cert.Reference25Ideal.defs (F := Ideal)) _ _).mono
      (fun r h c => ⟨(h c).1.trans (by
          show Cert.Reference25Ideal.Value.res_main_v69 m' c = _
          unfold Cert.Reference25Ideal.Value.res_main_v69
          rw [(hargs c).1, (hargs c).2.1, (hargs c).2.2.1, (hargs c).2.2.2.1, (hargs c).2.2.2.2.1, (hargs c).2.2.2.2.2]
          funext j
          pointwise [dxOf]
          refine Eq.trans ?_ (add_right_comm _ _ _)
          refine (dx_terms _ _ _ _ j).trans ?_
          exact congrArg (· + _) (dx_terms _ _ _ _ j)), (h c).2.1.trans (by
          rw [(hargs c).1, (hargs c).2.1]
          funext j
          pointwise [dwOf, rs, ms, len, row]
          exact Finset.sum_congr rfl fun _ _ => mul_comm _ _), (h c).2.2.1.trans (by
          rw [(hargs c).1, (hargs c).2.2.1]
          funext j
          pointwise [dwOf, rs, ms, len, row]
          exact Finset.sum_congr rfl fun _ _ => mul_comm _ _), (h c).2.2.2⟩) (Cert.Reference25Ideal.Value.run (F := Ideal) m' g')⟩

/-- The kernel runs and leaves its arguments as they were. -/
theorem frame_kernel : Cert.quiescent_Kernel25 := fun m ρ _ => Cert.Kernel25.Gen.frame m ρ

/-- The kernel over the extended reals. -/
theorem frame_kernel_ideal : Cert.quiescent_Kernel25Ideal := fun m ρ _ => frame m ρ

/-- The reference runs and leaves its arguments as they were. -/
theorem frame_reference : Cert.quiescent_Reference25Ideal := fun m ρ _ =>
  (θ_run (Cert.Reference25Ideal.defs (F := Ideal)) _ _).mono (fun r h => ⟨fun c => (h c).2.2.2, sem_eq_zero_of_no_sems (by decide) r.2⟩)
    (Cert.Reference25Ideal.Value.run (F := Ideal) m ρ)

end Cert.Kernel25Ideal.Norm

namespace Cert.Kernel26Ideal.Norm
open Cert.Kernel26Ideal Cert.Kernel26Ideal.Gen

/-- Which block of each array a grid step works on. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The norm: every row over the root of its mean square, times the weight. -/
def target (x : FVec Ideal S4096x1024 .f32) (w : FVec Ideal S1x1024 .f32) : FVec Ideal S4096x1024 .bf16 :=
  fun j => x j * rs len (row x (j 0)) * w (ix2 0 (j 1))

/-- The output after the run. -/
theorem final : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target, rs, ms, len, row]
  blk_point [iblk, V, idx t]

/-- The kernel's output is the reference's, of any arguments. -/
theorem same_values : Cert.algebraic_Kernel26Ideal_Reference26Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩)
      (Cert.Kernel26Ideal.Value.run_blocks (F := Ideal) m g),
    (θ_run (Cert.Reference26Ideal.defs (F := Ideal)) _ _).mono
      (fun r h c => ⟨(h c).1.trans (by
          rw [(hargs c).1, (hargs c).2]
          funext j
          pointwise [target, rs, ms, len, row]), (h c).2⟩) (Cert.Reference26Ideal.Value.run (F := Ideal) m' g')⟩

/-- The kernel runs and leaves its arguments as they were. -/
theorem frame_kernel : Cert.quiescent_Kernel26 := fun m ρ _ => Cert.Kernel26.Gen.frame m ρ

/-- The kernel over the extended reals. -/
theorem frame_kernel_ideal : Cert.quiescent_Kernel26Ideal := fun m ρ _ => frame m ρ

/-- The reference runs and leaves its arguments as they were. -/
theorem frame_reference : Cert.quiescent_Reference26Ideal := fun m ρ _ =>
  (θ_run (Cert.Reference26Ideal.defs (F := Ideal)) _ _).mono (fun r h => ⟨fun c => (h c).2, sem_eq_zero_of_no_sems (by decide) r.2⟩)
    (Cert.Reference26Ideal.Value.run (F := Ideal) m ρ)

end Cert.Kernel26Ideal.Norm

end
-- ==== Proof.FfnUp.lean ====
/- The products of the feed-forward block's up projection, forward and backward: every entry of each call's result is the reference's. -/
module
public import proofs.«01_k».proof.Proof.Products
public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel15.Frame
public import proofs.«01_k».proof.Proof.Gen.Kernel15Ideal.Value
public import proofs.«01_k».proof.Proof.Gen.Reference15Ideal.Run
@[expose] public section
set_option maxRecDepth 16384
noncomputable section
open Idealize.ShloMosaic Idealize.ShloMosaic.TcCoe Cert.Products

namespace Cert.Kernel2Ideal.Product
open Cert.Kernel2Ideal Cert.Kernel2Ideal.Gen

/-- What the reference computes of its arguments. -/
def target (x0 : FVec Ideal S2x4096x2816 .f32) (x1 : FVec Ideal S4x1024x1408 .bf16) : FVec Ideal S4096x1024 .f32 :=
  Host.dotGeneral Cert.Reference2Ideal.dot_S4096x5632_S1024x5632_S4096x1024_1_1_0_0_n_n none (shapeCast Cert.Reference2Ideal.S4096x5632 (transpose Cert.Reference2Ideal.S4096x2x2816 [1, 0, 2] x0 Cert.Reference2Ideal.Gen.transposes_S2x4096x2816_S4096x2x2816_1_0_2) Cert.Reference2Ideal.Gen.shapeCasts_S4096x2x2816_S4096x5632) (extf .f32 (shapeCast Cert.Reference2Ideal.S1024x5632 (transpose Cert.Reference2Ideal.S1024x4x1408 [1, 0, 2] x1 Cert.Reference2Ideal.Gen.transposes_S4x1024x1408_S1024x4x1408_1_0_2) Cert.Reference2Ideal.Gen.shapeCasts_S1024x4x1408_S1024x5632) Cert.Reference2Ideal.Gen.bitsLt_bf16_f32)

/-- Which block of each array a grid step works on. -/
theorem idx : ∀ t : Fin cfg0.N, win0_0.index t = ![t.val % 4 / 2, t.val / 4, t.val % 4 % 2] ∧ win0_1.index t = ![t.val % 4, 0, 0] ∧ win0_2.index t = ![t.val / 4, 0] :=
  (by decide +kernel : ∀ t : Fin grid0.N, _)

/-- The gradient of the up projection's input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  blk_point [iblk, V, idx t, idx (stepOf t ht s)]

/-- The kernel's result is the reference's, of any arguments. -/
theorem same_values : Cert.algebraic_Kernel2Ideal_Reference2Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel2Ideal.Value.run_blocks (F := Ideal) m g),
    (θ_run (Cert.Reference2Ideal.defs (F := Ideal)) _ _).mono
      (fun r h c => ⟨(h c).1.trans (by rw [(hargs c).1, (hargs c).2]; rfl), (h c).2⟩) (Cert.Reference2Ideal.Value.run (F := Ideal) m' g')⟩

/-- The kernel runs and leaves its arguments as they were. -/
theorem frame_kernel : Cert.quiescent_Kernel2 := fun m ρ _ => Cert.Kernel2.Gen.frame m ρ

/-- The kernel over the extended reals. -/
theorem frame_kernel_ideal : Cert.quiescent_Kernel2Ideal := fun m ρ _ => frame m ρ

/-- The reference runs and leaves its arguments as they were. -/
theorem frame_reference : Cert.quiescent_Reference2Ideal := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

end Cert.Kernel2Ideal.Product

namespace Cert.Kernel3Ideal.Product
open Cert.Kernel3Ideal Cert.Kernel3Ideal.Gen

/-- What the reference computes of its arguments. -/
def target (x0 : FVec Ideal S4096x1024 .bf16) (x1 : FVec Ideal S2x4096x2816 .f32) : FVec Ideal S4x1024x1408 .f32 :=
  transpose S4x1024x1408 [1, 0, 2] (shapeCast Cert.Reference3Ideal.S1024x4x1408 (transpose Cert.Reference3Ideal.S1024x5632 [1, 0]
    (Host.dotGeneral Cert.Reference3Ideal.dot_S4096x5632_S4096x1024_S5632x1024_0_0_1_1_n_n none (shapeCast Cert.Reference3Ideal.S4096x5632 (transpose Cert.Reference3Ideal.S4096x2x2816 [1, 0, 2] x1 Cert.Reference3Ideal.Gen.transposes_S2x4096x2816_S4096x2x2816_1_0_2) Cert.Reference3Ideal.Gen.shapeCasts_S4096x2x2816_S4096x5632) (extf .f32 x0 Cert.Reference3Ideal.Gen.bitsLt_bf16_f32)) Cert.Reference3Ideal.Gen.transposes_S5632x1024_S1024x5632_1_0) Cert.Reference3Ideal.Gen.shapeCasts_S1024x5632_S1024x4x1408) Cert.Reference3Ideal.Gen.transposes_S1024x4x1408_S4x1024x1408_1_0_2

/-- Which block of each array a grid step works on. -/
theorem idx : ∀ t : Fin cfg0.N, win0_0.index t = ![t.val % 4, 0] ∧ win0_1.index t = ![t.val / 4 / 2, t.val % 4, t.val / 4 % 2] ∧ win0_2.index t = ![t.val / 4, 0, 0] :=
  (by decide +kernel : ∀ t : Fin grid0.N, _)

/-- An entry of the weight's gradient: its column, counted over the shards, names the half of the cotangent and the column in it. -/
theorem target_apply (x0 : FVec Ideal S4096x1024 .bf16) (x1 : FVec Ideal S2x4096x2816 .f32) (z : S4x1024x1408.Idx) :
    target x0 x1 z = ∑ r : Fin 4096, x1 (ix3 (⟨(z 0).val / 2, by have : (z 0).val < 4 := (z 0).isLt; omega⟩ : Fin 2) r
      (⟨(z 0).val % 2 * 1408 + (z 2).val, by have : (z 2).val < 1408 := (z 2).isLt; omega⟩ : Fin 2816)) * x0 (ix2 r (z 1)) := by
  pointwise [target]
  have h0 : (z 0).val < 4 := (z 0).isLt
  have h2 : (z 2).val < 1408 := (z 2).isLt
  exact Finset.sum_congr rfl fun r _ => congrArg (· * _) (congrArg x1 (congrArg₂ (fun a b => ix3 a r b)
    (Fin.ext (by simp only; omega)) (Fin.ext (by simp only; omega))))

/-- The gradient of the up projection's weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j : S1x1024x1408.Idx => (ix2 (j 1) (j 2) : S1024x1408.Idx))
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1]
  rw [target_apply]
  refine Fin.sum_mul_add_congr fun s k hl => ?_
  rw [mul_comm]
  blk_point [iblk, V, idx t, idx (stepOf t ht s)]

/-- The kernel's result is the reference's, of any arguments. -/
theorem same_values : Cert.algebraic_Kernel3Ideal_Reference3Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel3Ideal.Value.run_blocks (F := Ideal) m g),
    (θ_run (Cert.Reference3Ideal.defs (F := Ideal)) _ _).mono
      (fun r h c => ⟨(h c).1.trans (by rw [(hargs c).1, (hargs c).2]; rfl), (h c).2⟩) (Cert.Reference3Ideal.Value.run (F := Ideal) m' g')⟩

/-- The kernel runs and leaves its arguments as they were. -/
theorem frame_kernel : Cert.quiescent_Kernel3 := fun m ρ _ => Cert.Kernel3.Gen.frame m ρ

/-- The kernel over the extended reals. -/
theorem frame_kernel_ideal : Cert.quiescent_Kernel3Ideal := fun m ρ _ => frame m ρ

/-- The reference runs and leaves its arguments as they were. -/
theorem frame_reference : Cert.quiescent_Reference3Ideal := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)

end Cert.Kernel3Ideal.Product

namespace Cert.Kernel15Ideal.Product
open Cert.Kernel15Ideal Cert.Kernel15Ideal.Gen

/-- What the reference computes of its arguments. -/
def target (x0 : FVec Ideal S4096x1024 .bf16) (x1 : FVec Ideal S4x1024x1408 .bf16) : FVec Ideal S4096x5632 .f32 :=
  Host.dotGeneral Cert.Reference15Ideal.dot_S4096x1024_S1024x5632_S4096x5632_1_0_0_1_n_n none (extf .f32 x0 Cert.Reference15Ideal.Gen.bitsLt_bf16_f32) (extf .f32 (shapeCast Cert.Reference15Ideal.S1024x5632 (transpose Cert.Reference15Ideal.S1024x4x1408 [1, 0, 2] x1 Cert.Reference15Ideal.Gen.transposes_S4x1024x1408_S1024x4x1408_1_0_2) Cert.Reference15Ideal.Gen.shapeCasts_S1024x4x1408_S1024x5632) Cert.Reference15Ideal.Gen.bitsLt_bf16_f32)

/-- Which block of each array a grid step works on. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The up projection itself. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel15Ideal_Reference15Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel15Ideal.Value.run_blocks (F := Ideal) m g),
    (θ_run (Cert.Reference15Ideal.defs (F := Ideal)) _ _).mono
      (fun r h c => ⟨(h c).1.trans (by rw [(hargs c).1, (hargs c).2]; rfl), (h c).2⟩) (Cert.Reference15Ideal.Value.run (F := Ideal) m' g')⟩

/-- The kernel runs and leaves its arguments as they were. -/
theorem frame_kernel : Cert.quiescent_Kernel15 := fun m ρ _ => Cert.Kernel15.Gen.frame m ρ

/-- The kernel over the extended reals. -/
theorem frame_kernel_ideal : Cert.quiescent_Kernel15Ideal := fun m ρ _ => frame m ρ

/-- The reference runs and leaves its arguments as they were. -/
theorem frame_reference : Cert.quiescent_Reference15Ideal := fun m ρ _ =>
  (θ_run (Cert.Reference15Ideal.defs (F := Ideal)) _ _).mono (fun r h => ⟨fun c => (h c).2, sem_eq_zero_of_no_sems (by decide) r.2⟩)
    (Cert.Reference15Ideal.Value.run (F := Ideal) m ρ)

end Cert.Kernel15Ideal.Product

end
-- ==== Proof.FfnDown.lean ====
/- The products of the feed-forward block's down projection, forward and backward: every entry of each call's result is the reference's. -/
module
public import proofs.«01_k».proof.Proof.Products
public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel16.Frame
public import proofs.«01_k».proof.Proof.Gen.Kernel16Ideal.Value
public import proofs.«01_k».proof.Proof.Gen.Reference16Ideal.Run
@[expose] public section
set_option maxRecDepth 16384
noncomputable section
open Idealize.ShloMosaic Idealize.ShloMosaic.TcCoe Cert.Products

namespace Cert.Kernel4Ideal.Product
open Cert.Kernel4Ideal Cert.Kernel4Ideal.Gen

/-- What the reference computes of its arguments. -/
def target (x0 : FVec Ideal S4096x1024 .f32) (x1 : FVec Ideal S2816x1024 .bf16) : FVec Ideal S4096x2816 .f32 :=
  Host.dotGeneral Cert.Reference4Ideal.dot_S4096x1024_S2816x1024_S4096x2816_1_1_0_0_n_n none x0 (extf .f32 x1 Cert.Reference4Ideal.Gen.bitsLt_bf16_f32)

/-- Which block of each array a grid step works on. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the down projection's input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel4Ideal_Reference4Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel4Ideal.Value.run_blocks (F := Ideal) m g),
    (θ_run (Cert.Reference4Ideal.defs (F := Ideal)) _ _).mono
      (fun r h c => ⟨(h c).1.trans (by rw [(hargs c).1, (hargs c).2]; rfl), (h c).2⟩) (Cert.Reference4Ideal.Value.run (F := Ideal) m' g')⟩

/-- The kernel runs and leaves its arguments as they were. -/
theorem frame_kernel : Cert.quiescent_Kernel4 := fun m ρ _ => Cert.Kernel4.Gen.frame m ρ

/-- The kernel over the extended reals. -/
theorem frame_kernel_ideal : Cert.quiescent_Kernel4Ideal := fun m ρ _ => frame m ρ

/-- The reference runs and leaves its arguments as they were. -/
theorem frame_reference : Cert.quiescent_Reference4Ideal := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

end Cert.Kernel4Ideal.Product

namespace Cert.Kernel5Ideal.Product
open Cert.Kernel5Ideal Cert.Kernel5Ideal.Gen

/-- What the reference computes of its arguments. -/
def target (x0 : FVec Ideal S4096x2816 .bf16) (x1 : FVec Ideal S4096x1024 .f32) : FVec Ideal S2816x1024 .f32 :=
  transpose S2816x1024 [1, 0]
    (Host.dotGeneral Cert.Reference5Ideal.dot_S4096x1024_S4096x2816_S1024x2816_0_0_1_1_n_n none x1 (extf .f32 x0 Cert.Reference5Ideal.Gen.bitsLt_bf16_f32)) Cert.Reference5Ideal.Gen.transposes_S1024x2816_S2816x1024_1_0

/-- Which block of each array a grid step works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The gradient of the down projection's weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel5Ideal_Reference5Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel5Ideal.Value.run_blocks (F := Ideal) m g),
    (θ_run (Cert.Reference5Ideal.defs (F := Ideal)) _ _).mono
      (fun r h c => ⟨(h c).1.trans (by rw [(hargs c).1, (hargs c).2]; rfl), (h c).2⟩) (Cert.Reference5Ideal.Value.run (F := Ideal) m' g')⟩

/-- The kernel runs and leaves its arguments as they were. -/
theorem frame_kernel : Cert.quiescent_Kernel5 := fun m ρ _ => Cert.Kernel5.Gen.frame m ρ

/-- The kernel over the extended reals. -/
theorem frame_kernel_ideal : Cert.quiescent_Kernel5Ideal := fun m ρ _ => frame m ρ

/-- The reference runs and leaves its arguments as they were. -/
theorem frame_reference : Cert.quiescent_Reference5Ideal := fun m ρ _ =>
  (θ_run (Cert.Reference5Ideal.defs (F := Ideal)) _ _).mono (fun r h => ⟨fun c => (h c).2, sem_eq_zero_of_no_sems (by decide) r.2⟩)
    (Cert.Reference5Ideal.Value.run (F := Ideal) m ρ)

end Cert.Kernel5Ideal.Product

namespace Cert.Kernel16Ideal.Product
open Cert.Kernel16Ideal Cert.Kernel16Ideal.Gen

/-- What the reference computes of its arguments. -/
def target (x0 : FVec Ideal S4096x2816 .bf16) (x1 : FVec Ideal S2816x1024 .bf16) (x2 : FVec Ideal S4096x1024 .f32) : FVec Ideal S4096x1024 .f32 :=
  addf x2 (Host.dotGeneral Cert.Reference16Ideal.dot_S4096x2816_S2816x1024_S4096x1024_1_0_0_1_n_n none (extf .f32 x0 Cert.Reference16Ideal.Gen.bitsLt_bf16_f32) (extf .f32 x1 Cert.Reference16Ideal.Gen.bitsLt_bf16_f32))

/-- Which block of each array a grid step works on. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The down projection itself, added to the block's input. The result array after the run is the reference's. -/
theorem final (m : (ℓ : Loc nD τ sig) → Buf (Elt Ideal) ℓ) (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  rw [after0_3, two_parts (outsAt0 m c) (fun t => k0_pay1 (F := Ideal) (iblk m c 0 t) (iblk m c 1 t)) (fun t => iblk m c 2 t)
    (fun t h j => by
      rw [outsAt0_A m c t h (by omega)]
      frame_out
      pointwise [k0_pay2])
    (fun t h j => by
      rw [outsAt0_B m c t (by omega) h]
      frame_out
      pointwise [k0_pay3]
      exact congrArg (· + _ + _) (congrFun ((Memref.isWhole_whole cc0_scratch0).read_unread _) _)) t ht y]
  pointwise [k0_pay1, target]
  refine congrArg₂ (· + ·) ?_ ?_
  · blk_ext [iblk, V, idx t]
  · refine Fin.sum_mul_add_congr fun s k hl => ?_
    blk_point [iblk, V, idx t, idx (stepOf2 t ht s)]

/-- The kernel's result is the reference's, of any arguments. -/
theorem same_values : Cert.algebraic_Kernel16Ideal_Reference16Ideal := fun m g m' g' _ hargs =>
  ⟨fun c => target (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel16Ideal.Value.run_blocks (F := Ideal) m g),
    (θ_run (Cert.Reference16Ideal.defs (F := Ideal)) _ _).mono
      (fun r h c => ⟨(h c).1.trans (by rw [(hargs c).1, (hargs c).2.1, (hargs c).2.2]; rfl), (h c).2⟩) (Cert.Reference16Ideal.Value.run (F := Ideal) m' g')⟩

/-- The kernel runs and leaves its arguments as they were. -/
theorem frame_kernel : Cert.quiescent_Kernel16 := fun m ρ _ => Cert.Kernel16.Gen.frame m ρ

/-- The kernel over the extended reals. -/
theorem frame_kernel_ideal : Cert.quiescent_Kernel16Ideal := fun m ρ _ => frame m ρ

/-- The reference runs and leaves its arguments as they were. -/
theorem frame_reference : Cert.quiescent_Reference16Ideal := fun m ρ _ =>
  (θ_run (Cert.Reference16Ideal.defs (F := Ideal)) _ _).mono (fun r h => ⟨fun c => (h c).2, sem_eq_zero_of_no_sems (by decide) r.2⟩)
    (Cert.Reference16Ideal.Value.run (F := Ideal) m ρ)

end Cert.Kernel16Ideal.Product

end
-- ==== Proof.SsmIn.lean ====
/- The products of the state-space mixer's input projection, forward and backward: every entry of each call's result is the reference's. -/
module
public import proofs.«01_k».proof.Proof.Products
public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
@[expose] public section
set_option maxRecDepth 16384
noncomputable section
open Idealize.ShloMosaic Idealize.ShloMosaic.TcCoe Cert.Products

namespace Cert.Kernel6Ideal.Product
open Cert.Kernel6Ideal Cert.Kernel6Ideal.Gen

/-- What the reference computes of its arguments. -/
def target (x0 : FVec Ideal S4096x5120 .f32) (x1 : FVec Ideal S1024x5120 .bf16) : FVec Ideal S4096x1024 .f32 :=
  Host.dotGeneral Cert.Reference6Ideal.dot_S4096x5120_S1024x5120_S4096x1024_1_1_0_0_n_n none x0 (extf .f32 x1 Cert.Reference6Ideal.Gen.bitsLt_bf16_f32)

/-- Which block of each array a grid step works on. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The gradient of the input projection's input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  blk_point [iblk, V, idx t, idx (stepOf t ht s)]

/-- The kernel's result is the reference's, of any arguments. -/
theorem same_values : Cert.algebraic_Kernel6Ideal_Reference6Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel6Ideal.Value.run_blocks (F := Ideal) m g),
    (θ_run (Cert.Reference6Ideal.defs (F := Ideal)) _ _).mono
      (fun r h c => ⟨(h c).1.trans (by rw [(hargs c).1, (hargs c).2]; rfl), (h c).2⟩) (Cert.Reference6Ideal.Value.run (F := Ideal) m' g')⟩

/-- The kernel runs and leaves its arguments as they were. -/
theorem frame_kernel : Cert.quiescent_Kernel6 := fun m ρ _ => Cert.Kernel6.Gen.frame m ρ

/-- The kernel over the extended reals. -/
theorem frame_kernel_ideal : Cert.quiescent_Kernel6Ideal := fun m ρ _ => frame m ρ

/-- The reference runs and leaves its arguments as they were. -/
theorem frame_reference : Cert.quiescent_Reference6Ideal := fun m ρ _ =>
  (θ_run (Cert.Reference6Ideal.defs (F := Ideal)) _ _).mono (fun r h => ⟨fun c => (h c).2, sem_eq_zero_of_no_sems (by decide) r.2⟩)
    (Cert.Reference6Ideal.Value.run (F := Ideal) m ρ)

end Cert.Kernel6Ideal.Product

namespace Cert.Kernel7Ideal.Product
open Cert.Kernel7Ideal Cert.Kernel7Ideal.Gen

/-- What the reference computes of its arguments. -/
def target (x0 : FVec Ideal S4096x1024 .bf16) (x1 : FVec Ideal S4096x5120 .f32) : FVec Ideal S1024x5120 .f32 :=
  transpose S1024x5120 [1, 0]
    (Host.dotGeneral Cert.Reference7Ideal.dot_S4096x5120_S4096x1024_S5120x1024_0_0_1_1_n_n none x1 (extf .f32 x0 Cert.Reference7Ideal.Gen.bitsLt_bf16_f32)) Cert.Reference7Ideal.Gen.transposes_S5120x1024_S1024x5120_1_0

/-- Which block of each array a grid step works on. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The gradient of the input projection's weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel7Ideal_Reference7Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel7Ideal.Value.run_blocks (F := Ideal) m g),
    (θ_run (Cert.Reference7Ideal.defs (F := Ideal)) _ _).mono
      (fun r h c => ⟨(h c).1.trans (by rw [(hargs c).1, (hargs c).2]; rfl), (h c).2⟩) (Cert.Reference7Ideal.Value.run (F := Ideal) m' g')⟩

/-- The kernel runs and leaves its arguments as they were. -/
theorem frame_kernel : Cert.quiescent_Kernel7 := fun m ρ _ => Cert.Kernel7.Gen.frame m ρ

/-- The kernel over the extended reals. -/
theorem frame_kernel_ideal : Cert.quiescent_Kernel7Ideal := fun m ρ _ => frame m ρ

/-- The reference runs and leaves its arguments as they were. -/
theorem frame_reference : Cert.quiescent_Reference7Ideal := fun m ρ _ =>
  (θ_run (Cert.Reference7Ideal.defs (F := Ideal)) _ _).mono (fun r h => ⟨fun c => (h c).2, sem_eq_zero_of_no_sems (by decide) r.2⟩)
    (Cert.Reference7Ideal.Value.run (F := Ideal) m ρ)

end Cert.Kernel7Ideal.Product

namespace Cert.Kernel17Ideal.Product
open Cert.Kernel17Ideal Cert.Kernel17Ideal.Gen

/-- What the reference computes of its arguments. -/
def target (x0 : FVec Ideal S4096x1024 .bf16) (x1 : FVec Ideal S1024x5120 .bf16) : FVec Ideal S4096x5120 .f32 :=
  Host.dotGeneral Cert.Reference17Ideal.dot_S4096x1024_S1024x5120_S4096x5120_1_0_0_1_n_n none (extf .f32 x0 Cert.Reference17Ideal.Gen.bitsLt_bf16_f32) (extf .f32 x1 Cert.Reference17Ideal.Gen.bitsLt_bf16_f32)

/-- Which block of each array a grid step works on. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The input projection itself. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel17Ideal_Reference17Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel17Ideal.Value.run_blocks (F := Ideal) m g),
    (θ_run (Cert.Reference17Ideal.defs (F := Ideal)) _ _).mono
      (fun r h c => ⟨(h c).1.trans (by rw [(hargs c).1, (hargs c).2]; rfl), (h c).2⟩) (Cert.Reference17Ideal.Value.run (F := Ideal) m' g')⟩

/-- The kernel runs and leaves its arguments as they were. -/
theorem frame_kernel : Cert.quiescent_Kernel17 := fun m ρ _ => Cert.Kernel17.Gen.frame m ρ

/-- The kernel over the extended reals. -/
theorem frame_kernel_ideal : Cert.quiescent_Kernel17Ideal := fun m ρ _ => frame m ρ

/-- The reference runs and leaves its arguments as they were. -/
theorem frame_reference : Cert.quiescent_Reference17Ideal := fun m ρ _ =>
  (θ_run (Cert.Reference17Ideal.defs (F := Ideal)) _ _).mono (fun r h => ⟨fun c => (h c).2, sem_eq_zero_of_no_sems (by decide) r.2⟩)
    (Cert.Reference17Ideal.Value.run (F := Ideal) m ρ)

end Cert.Kernel17Ideal.Product

namespace Cert.Kernel21Ideal.Product
open Cert.Kernel21Ideal Cert.Kernel21Ideal.Gen

/-- What the reference computes of its arguments. -/
def target (x0 : FVec Ideal S4096x1024 .bf16) (x1 : FVec Ideal S1024x128 .bf16) : FVec Ideal S4096x128 .f32 :=
  Host.dotGeneral Cert.Reference21Ideal.dot_S4096x1024_S1024x128_S4096x128_1_0_0_1_n_n none (extf .f32 x0 Cert.Reference21Ideal.Gen.bitsLt_bf16_f32) (extf .f32 x1 Cert.Reference21Ideal.Gen.bitsLt_bf16_f32)

/-- Which block of each array a grid step works on. -/
theorem idx : ∀ t : Fin cfg0.N, win0_0.index t = ![t.val, 0] ∧ win0_1.index t = ![0, 0] ∧ win0_2.index t = ![t.val, 0] :=
  (by decide +kernel : ∀ t : Fin grid0.N, _)

/-- The input projection's columns for the step sizes. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel21Ideal_Reference21Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel21Ideal.Value.run_blocks (F := Ideal) m g),
    (θ_run (Cert.Reference21Ideal.defs (F := Ideal)) _ _).mono
      (fun r h c => ⟨(h c).1.trans (by rw [(hargs c).1, (hargs c).2]; rfl), (h c).2⟩) (Cert.Reference21Ideal.Value.run (F := Ideal) m' g')⟩

/-- The kernel runs and leaves its arguments as they were. -/
theorem frame_kernel : Cert.quiescent_Kernel21 := fun m ρ _ => Cert.Kernel21.Gen.frame m ρ

/-- The kernel over the extended reals. -/
theorem frame_kernel_ideal : Cert.quiescent_Kernel21Ideal := fun m ρ _ => frame m ρ

/-- The reference runs and leaves its arguments as they were. -/
theorem frame_reference : Cert.quiescent_Reference21Ideal := fun m ρ _ =>
  (θ_run (Cert.Reference21Ideal.defs (F := Ideal)) _ _).mono (fun r h => ⟨fun c => (h c).2, sem_eq_zero_of_no_sems (by decide) r.2⟩)
    (Cert.Reference21Ideal.Value.run (F := Ideal) m ρ)

end Cert.Kernel21Ideal.Product

namespace Cert.Kernel22Ideal.Product
open Cert.Kernel22Ideal Cert.Kernel22Ideal.Gen

/-- What the reference computes of its arguments. -/
def target (x0 : FVec Ideal S4096x128 .f32) (x1 : FVec Ideal S1024x128 .bf16) (x2 : FVec Ideal S4096x1024 .f32) : FVec Ideal S4096x1024 .f32 :=
  addf x2 (Host.dotGeneral Cert.Reference22Ideal.dot_S4096x128_S1024x128_S4096x1024_1_1_0_0_n_n none x0 (extf .f32 x1 Cert.Reference22Ideal.Gen.bitsLt_bf16_f32))

/-- Which block of each array a grid step works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The gradient of the same columns' input, added to the gradient through the others. The result array after the run is the reference's. -/
theorem final (m : (ℓ : Loc nD τ sig) → Buf (Elt Ideal) ℓ) (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, target]
  blk_point [iblk, V, idx t]

/-- The kernel's result is the reference's, of any arguments. -/
theorem same_values : Cert.algebraic_Kernel22Ideal_Reference22Ideal := fun m g m' g' _ hargs =>
  ⟨fun c => target (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel22Ideal.Value.run_blocks (F := Ideal) m g),
    (θ_run (Cert.Reference22Ideal.defs (F := Ideal)) _ _).mono
      (fun r h c => ⟨(h c).1.trans (by rw [(hargs c).1, (hargs c).2.1, (hargs c).2.2]; rfl), (h c).2⟩) (Cert.Reference22Ideal.Value.run (F := Ideal) m' g')⟩

/-- The kernel runs and leaves its arguments as they were. -/
theorem frame_kernel : Cert.quiescent_Kernel22 := fun m ρ _ => Cert.Kernel22.Gen.frame m ρ

/-- The kernel over the extended reals. -/
theorem frame_kernel_ideal : Cert.quiescent_Kernel22Ideal := fun m ρ _ => frame m ρ

/-- The reference runs and leaves its arguments as they were. -/
theorem frame_reference : Cert.quiescent_Reference22Ideal := fun m ρ _ =>
  (θ_run (Cert.Reference22Ideal.defs (F := Ideal)) _ _).mono (fun r h => ⟨fun c => (h c).2, sem_eq_zero_of_no_sems (by decide) r.2⟩)
    (Cert.Reference22Ideal.Value.run (F := Ideal) m ρ)

end Cert.Kernel22Ideal.Product

namespace Cert.Kernel23Ideal.Product
open Cert.Kernel23Ideal Cert.Kernel23Ideal.Gen

/-- What the reference computes of its arguments. -/
def target (x0 : FVec Ideal S4096x1024 .bf16) (x1 : FVec Ideal S4096x128 .f32) : FVec Ideal S1024x128 .f32 :=
  transpose S1024x128 [1, 0]
    (Host.dotGeneral Cert.Reference23Ideal.dot_S4096x128_S4096x1024_S128x1024_0_0_1_1_n_n none x1 (extf .f32 x0 Cert.Reference23Ideal.Gen.bitsLt_bf16_f32)) Cert.Reference23Ideal.Gen.transposes_S128x1024_S1024x128_1_0

/-- Which block of each array a grid step works on. -/
theorem idx : ∀ t : Fin cfg0.N, win0_0.index t = ![t.val, 0] ∧ win0_1.index t = ![t.val, 0] ∧ win0_2.index t = ![0, 0] :=
  (by decide +kernel : ∀ t : Fin grid0.N, _)

/-- The gradient of the same columns' weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel23Ideal_Reference23Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel23Ideal.Value.run_blocks (F := Ideal) m g),
    (θ_run (Cert.Reference23Ideal.defs (F := Ideal)) _ _).mono
      (fun r h c => ⟨(h c).1.trans (by rw [(hargs c).1, (hargs c).2]; rfl), (h c).2⟩) (Cert.Reference23Ideal.Value.run (F := Ideal) m' g')⟩

/-- The kernel runs and leaves its arguments as they were. -/
theorem frame_kernel : Cert.quiescent_Kernel23 := fun m ρ _ => Cert.Kernel23.Gen.frame m ρ

/-- The kernel over the extended reals. -/
theorem frame_kernel_ideal : Cert.quiescent_Kernel23Ideal := fun m ρ _ => frame m ρ

/-- The reference runs and leaves its arguments as they were. -/
theorem frame_reference : Cert.quiescent_Reference23Ideal := fun m ρ _ =>
  (θ_run (Cert.Reference23Ideal.defs (F := Ideal)) _ _).mono (fun r h => ⟨fun c => (h c).2, sem_eq_zero_of_no_sems (by decide) r.2⟩)
    (Cert.Reference23Ideal.Value.run (F := Ideal) m ρ)

end Cert.Kernel23Ideal.Product

end
-- ==== Proof.SsmOut.lean ====
/- The products of the state-space mixer's output projection, forward and backward: every entry of each call's result is the reference's. -/
module
public import proofs.«01_k».proof.Proof.Products
public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel18.Frame
public import proofs.«01_k».proof.Proof.Gen.Kernel18Ideal.Value
public import proofs.«01_k».proof.Proof.Gen.Reference18Ideal.Run
@[expose] public section
set_option maxRecDepth 16384
noncomputable section
open Idealize.ShloMosaic Idealize.ShloMosaic.TcCoe Cert.Products

namespace Cert.Kernel8Ideal.Product
open Cert.Kernel8Ideal Cert.Kernel8Ideal.Gen

/-- What the reference computes of its arguments. -/
def target (x0 : FVec Ideal S4096x1024 .f32) (x1 : FVec Ideal S2048x1024 .bf16) : FVec Ideal S4096x2048 .f32 :=
  Host.dotGeneral Cert.Reference8Ideal.dot_S4096x1024_S2048x1024_S4096x2048_1_1_0_0_n_n none x0 (extf .f32 x1 Cert.Reference8Ideal.Gen.bitsLt_bf16_f32)

/-- Which block of each array a grid step works on. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the output projection's input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel8Ideal_Reference8Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel8Ideal.Value.run_blocks (F := Ideal) m g),
    (θ_run (Cert.Reference8Ideal.defs (F := Ideal)) _ _).mono
      (fun r h c => ⟨(h c).1.trans (by rw [(hargs c).1, (hargs c).2]; rfl), (h c).2⟩) (Cert.Reference8Ideal.Value.run (F := Ideal) m' g')⟩

/-- The kernel runs and leaves its arguments as they were. -/
theorem frame_kernel : Cert.quiescent_Kernel8 := fun m ρ _ => Cert.Kernel8.Gen.frame m ρ

/-- The kernel over the extended reals. -/
theorem frame_kernel_ideal : Cert.quiescent_Kernel8Ideal := fun m ρ _ => frame m ρ

/-- The reference runs and leaves its arguments as they were. -/
theorem frame_reference : Cert.quiescent_Reference8Ideal := fun m ρ _ =>
  (θ_run (Cert.Reference8Ideal.defs (F := Ideal)) _ _).mono (fun r h => ⟨fun c => (h c).2, sem_eq_zero_of_no_sems (by decide) r.2⟩)
    (Cert.Reference8Ideal.Value.run (F := Ideal) m ρ)

end Cert.Kernel8Ideal.Product

namespace Cert.Kernel9Ideal.Product
open Cert.Kernel9Ideal Cert.Kernel9Ideal.Gen

/-- What the reference computes of its arguments. -/
def target (x0 : FVec Ideal S4096x2048 .bf16) (x1 : FVec Ideal S4096x1024 .f32) : FVec Ideal S2048x1024 .f32 :=
  transpose S2048x1024 [1, 0]
    (Host.dotGeneral Cert.Reference9Ideal.dot_S4096x1024_S4096x2048_S1024x2048_0_0_1_1_n_n none x1 (extf .f32 x0 Cert.Reference9Ideal.Gen.bitsLt_bf16_f32)) Cert.Reference9Ideal.Gen.transposes_S1024x2048_S2048x1024_1_0

/-- Which block of each array a grid step works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The gradient of the output projection's weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel9Ideal_Reference9Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel9Ideal.Value.run_blocks (F := Ideal) m g),
    (θ_run (Cert.Reference9Ideal.defs (F := Ideal)) _ _).mono
      (fun r h c => ⟨(h c).1.trans (by rw [(hargs c).1, (hargs c).2]; rfl), (h c).2⟩) (Cert.Reference9Ideal.Value.run (F := Ideal) m' g')⟩

/-- The kernel runs and leaves its arguments as they were. -/
theorem frame_kernel : Cert.quiescent_Kernel9 := fun m ρ _ => Cert.Kernel9.Gen.frame m ρ

/-- The kernel over the extended reals. -/
theorem frame_kernel_ideal : Cert.quiescent_Kernel9Ideal := fun m ρ _ => frame m ρ

/-- The reference runs and leaves its arguments as they were. -/
theorem frame_reference : Cert.quiescent_Reference9Ideal := fun m ρ _ =>
  (θ_run (Cert.Reference9Ideal.defs (F := Ideal)) _ _).mono (fun r h => ⟨fun c => (h c).2, sem_eq_zero_of_no_sems (by decide) r.2⟩)
    (Cert.Reference9Ideal.Value.run (F := Ideal) m ρ)

end Cert.Kernel9Ideal.Product

namespace Cert.Kernel18Ideal.Product
open Cert.Kernel18Ideal Cert.Kernel18Ideal.Gen

/-- What the reference computes of its arguments. -/
def target (x0 : FVec Ideal S4096x2048 .bf16) (x1 : FVec Ideal S2048x1024 .bf16) (x2 : FVec Ideal S4096x1024 .f32) : FVec Ideal S4096x1024 .f32 :=
  addf x2 (Host.dotGeneral Cert.Reference18Ideal.dot_S4096x2048_S2048x1024_S4096x1024_1_0_0_1_n_n none (extf .f32 x0 Cert.Reference18Ideal.Gen.bitsLt_bf16_f32) (extf .f32 x1 Cert.Reference18Ideal.Gen.bitsLt_bf16_f32))

/-- Which block of each array a grid step works on. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The output projection itself, added to the layer's input. The result array after the run is the reference's. -/
theorem final (m : (ℓ : Loc nD τ sig) → Buf (Elt Ideal) ℓ) (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  rw [after0_3, two_parts (outsAt0 m c) (fun t => k0_pay1 (F := Ideal) (iblk m c 0 t) (iblk m c 1 t)) (fun t => iblk m c 2 t)
    (fun t h j => by
      rw [outsAt0_A m c t h (by omega)]
      frame_out
      pointwise [k0_pay2])
    (fun t h j => by
      rw [outsAt0_B m c t (by omega) h]
      frame_out
      pointwise [k0_pay3]
      exact congrArg (· + _ + _) (congrFun ((Memref.isWhole_whole cc0_scratch0).read_unread _) _)) t ht y]
  pointwise [k0_pay1, target]
  refine congrArg₂ (· + ·) ?_ ?_
  · blk_ext [iblk, V, idx t]
  · refine Fin.sum_mul_add_congr fun s k hl => ?_
    blk_point [iblk, V, idx t, idx (stepOf2 t ht s)]

/-- The kernel's result is the reference's, of any arguments. -/
theorem same_values : Cert.algebraic_Kernel18Ideal_Reference18Ideal := fun m g m' g' _ hargs =>
  ⟨fun c => target (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel18Ideal.Value.run_blocks (F := Ideal) m g),
    (θ_run (Cert.Reference18Ideal.defs (F := Ideal)) _ _).mono
      (fun r h c => ⟨(h c).1.trans (by rw [(hargs c).1, (hargs c).2.1, (hargs c).2.2]; rfl), (h c).2⟩) (Cert.Reference18Ideal.Value.run (F := Ideal) m' g')⟩

/-- The kernel runs and leaves its arguments as they were. -/
theorem frame_kernel : Cert.quiescent_Kernel18 := fun m ρ _ => Cert.Kernel18.Gen.frame m ρ

/-- The kernel over the extended reals. -/
theorem frame_kernel_ideal : Cert.quiescent_Kernel18Ideal := fun m ρ _ => frame m ρ

/-- The reference runs and leaves its arguments as they were. -/
theorem frame_reference : Cert.quiescent_Reference18Ideal := fun m ρ _ =>
  (θ_run (Cert.Reference18Ideal.defs (F := Ideal)) _ _).mono (fun r h => ⟨fun c => (h c).2, sem_eq_zero_of_no_sems (by decide) r.2⟩)
    (Cert.Reference18Ideal.Value.run (F := Ideal) m ρ)

end Cert.Kernel18Ideal.Product

end
-- ==== Proof.AttnIn.lean ====
/- The products of the attention's query, key and value projections, forward and backward: every entry of each call's result is the reference's. -/
module
public import proofs.«01_k».proof.Proof.Products
public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel19.Frame
public import proofs.«01_k».proof.Proof.Gen.Kernel19Ideal.Value
public import proofs.«01_k».proof.Proof.Gen.Reference19Ideal.Run
@[expose] public section
set_option maxRecDepth 16384
noncomputable section
open Idealize.ShloMosaic Idealize.ShloMosaic.TcCoe Cert.Products

namespace Cert.Kernel10Ideal.Product
open Cert.Kernel10Ideal Cert.Kernel10Ideal.Gen

/-- What the reference computes of its arguments. -/
def target (x0 : FVec Ideal S4096x1024 .bf16) (x1 : FVec Ideal S1024x1024 .bf16) : FVec Ideal S4096x1024 .f32 :=
  Host.dotGeneral Cert.Reference10Ideal.dot_S4096x1024_S1024x1024_S4096x1024_1_1_0_0_n_n none (extf .f32 x0 Cert.Reference10Ideal.Gen.bitsLt_bf16_f32) (extf .f32 x1 Cert.Reference10Ideal.Gen.bitsLt_bf16_f32)

/-- Which block of each array a grid step works on. -/
theorem idx : ∀ t : Fin cfg0.N, win0_0.index t = ![t.val, 0] ∧ win0_1.index t = ![0, 0] ∧ win0_2.index t = ![t.val, 0] :=
  (by decide +kernel : ∀ t : Fin grid0.N, _)

/-- The gradient of the query and key projections' input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel10Ideal_Reference10Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel10Ideal.Value.run_blocks (F := Ideal) m g),
    (θ_run (Cert.Reference10Ideal.defs (F := Ideal)) _ _).mono
      (fun r h c => ⟨(h c).1.trans (by rw [(hargs c).1, (hargs c).2]; rfl), (h c).2⟩) (Cert.Reference10Ideal.Value.run (F := Ideal) m' g')⟩

/-- The kernel runs and leaves its arguments as they were. -/
theorem frame_kernel : Cert.quiescent_Kernel10 := fun m ρ _ => Cert.Kernel10.Gen.frame m ρ

/-- The kernel over the extended reals. -/
theorem frame_kernel_ideal : Cert.quiescent_Kernel10Ideal := fun m ρ _ => frame m ρ

/-- The reference runs and leaves its arguments as they were. -/
theorem frame_reference : Cert.quiescent_Reference10Ideal := fun m ρ _ =>
  (θ_run (Cert.Reference10Ideal.defs (F := Ideal)) _ _).mono (fun r h => ⟨fun c => (h c).2, sem_eq_zero_of_no_sems (by decide) r.2⟩)
    (Cert.Reference10Ideal.Value.run (F := Ideal) m ρ)

end Cert.Kernel10Ideal.Product

namespace Cert.Kernel11Ideal.Product
open Cert.Kernel11Ideal Cert.Kernel11Ideal.Gen

/-- What the reference computes of its arguments. -/
def target (x0 : FVec Ideal S4096x1024 .bf16) (x1 : FVec Ideal S1024x1024 .bf16) (x2 : FVec Ideal S4096x1024 .f32) : FVec Ideal S4096x1024 .f32 :=
  addf x2 (Host.dotGeneral Cert.Reference11Ideal.dot_S4096x1024_S1024x1024_S4096x1024_1_1_0_0_n_n none (extf .f32 x0 Cert.Reference11Ideal.Gen.bitsLt_bf16_f32) (extf .f32 x1 Cert.Reference11Ideal.Gen.bitsLt_bf16_f32))

/-- Which block of each array a grid step works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The gradient of the value projection's input, added to the gradient through the keys. The result array after the run is the reference's. -/
theorem final (m : (ℓ : Loc nD τ sig) → Buf (Elt Ideal) ℓ) (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, target]
  blk_point [iblk, V, idx t]

/-- The kernel's result is the reference's, of any arguments. -/
theorem same_values : Cert.algebraic_Kernel11Ideal_Reference11Ideal := fun m g m' g' _ hargs =>
  ⟨fun c => target (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel11Ideal.Value.run_blocks (F := Ideal) m g),
    (θ_run (Cert.Reference11Ideal.defs (F := Ideal)) _ _).mono
      (fun r h c => ⟨(h c).1.trans (by rw [(hargs c).1, (hargs c).2.1, (hargs c).2.2]; rfl), (h c).2⟩) (Cert.Reference11Ideal.Value.run (F := Ideal) m' g')⟩

/-- The kernel runs and leaves its arguments as they were. -/
theorem frame_kernel : Cert.quiescent_Kernel11 := fun m ρ _ => Cert.Kernel11.Gen.frame m ρ

/-- The kernel over the extended reals. -/
theorem frame_kernel_ideal : Cert.quiescent_Kernel11Ideal := fun m ρ _ => frame m ρ

/-- The reference runs and leaves its arguments as they were. -/
theorem frame_reference : Cert.quiescent_Reference11Ideal := fun m ρ _ =>
  (θ_run (Cert.Reference11Ideal.defs (F := Ideal)) _ _).mono (fun r h => ⟨fun c => (h c).2, sem_eq_zero_of_no_sems (by decide) r.2⟩)
    (Cert.Reference11Ideal.Value.run (F := Ideal) m ρ)

end Cert.Kernel11Ideal.Product

namespace Cert.Kernel12Ideal.Product
open Cert.Kernel12Ideal Cert.Kernel12Ideal.Gen

/-- What the reference computes of its arguments. -/
def target (x0 : FVec Ideal S4096x1024 .bf16) (x1 : FVec Ideal S4096x1024 .bf16) : FVec Ideal S1024x1024 .f32 :=
  transpose S1024x1024 [1, 0]
    (Host.dotGeneral Cert.Reference12Ideal.dot_S4096x1024_S4096x1024_S1024x1024_0_0_1_1_n_n none (extf .f32 x1 Cert.Reference12Ideal.Gen.bitsLt_bf16_f32) (extf .f32 x0 Cert.Reference12Ideal.Gen.bitsLt_bf16_f32)) Cert.Reference12Ideal.Gen.transposes_S1024x1024_S1024x1024_1_0

/-- Which block of each array a grid step works on. -/
theorem idx : ∀ t : Fin cfg0.N, win0_0.index t = ![t.val, 0] ∧ win0_1.index t = ![t.val, 0] ∧ win0_2.index t = ![0, 0] :=
  (by decide +kernel : ∀ t : Fin grid0.N, _)

/-- The gradient of the query, key and value projections' weights. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel12Ideal_Reference12Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel12Ideal.Value.run_blocks (F := Ideal) m g),
    (θ_run (Cert.Reference12Ideal.defs (F := Ideal)) _ _).mono
      (fun r h c => ⟨(h c).1.trans (by rw [(hargs c).1, (hargs c).2]; rfl), (h c).2⟩) (Cert.Reference12Ideal.Value.run (F := Ideal) m' g')⟩

/-- The kernel runs and leaves its arguments as they were. -/
theorem frame_kernel : Cert.quiescent_Kernel12 := fun m ρ _ => Cert.Kernel12.Gen.frame m ρ

/-- The kernel over the extended reals. -/
theorem frame_kernel_ideal : Cert.quiescent_Kernel12Ideal := fun m ρ _ => frame m ρ

/-- The reference runs and leaves its arguments as they were. -/
theorem frame_reference : Cert.quiescent_Reference12Ideal := fun m ρ _ =>
  (θ_run (Cert.Reference12Ideal.defs (F := Ideal)) _ _).mono (fun r h => ⟨fun c => (h c).2, sem_eq_zero_of_no_sems (by decide) r.2⟩)
    (Cert.Reference12Ideal.Value.run (F := Ideal) m ρ)

end Cert.Kernel12Ideal.Product

namespace Cert.Kernel19Ideal.Product
open Cert.Kernel19Ideal Cert.Kernel19Ideal.Gen

/-- What the reference computes of its arguments. -/
def target (x0 : FVec Ideal S4096x1024 .bf16) (x1 : FVec Ideal S1024x1024 .bf16) : FVec Ideal S4096x1024 .bf16 :=
  truncf .bf16 (Host.dotGeneral Cert.Reference19Ideal.dot_S4096x1024_S1024x1024_S4096x1024_1_0_0_1_n_n none (extf .f32 x0 Cert.Reference19Ideal.Gen.bitsLt_bf16_f32) (extf .f32 x1 Cert.Reference19Ideal.Gen.bitsLt_bf16_f32)) Cert.Reference19Ideal.Gen.bitsLt_bf16_f32

/-- Which block of each array a grid step works on. -/
theorem idx : ∀ t : Fin cfg0.N, win0_0.index t = ![t.val, 0] ∧ win0_1.index t = ![0, 0] ∧ win0_2.index t = ![t.val, 0] :=
  (by decide +kernel : ∀ t : Fin grid0.N, _)

/-- The query, key and value projections themselves. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel19Ideal_Reference19Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel19Ideal.Value.run_blocks (F := Ideal) m g),
    (θ_run (Cert.Reference19Ideal.defs (F := Ideal)) _ _).mono
      (fun r h c => ⟨(h c).1.trans (by rw [(hargs c).1, (hargs c).2]; rfl), (h c).2⟩) (Cert.Reference19Ideal.Value.run (F := Ideal) m' g')⟩

/-- The kernel runs and leaves its arguments as they were. -/
theorem frame_kernel : Cert.quiescent_Kernel19 := fun m ρ _ => Cert.Kernel19.Gen.frame m ρ

/-- The kernel over the extended reals. -/
theorem frame_kernel_ideal : Cert.quiescent_Kernel19Ideal := fun m ρ _ => frame m ρ

/-- The reference runs and leaves its arguments as they were. -/
theorem frame_reference : Cert.quiescent_Reference19Ideal := fun m ρ _ =>
  (θ_run (Cert.Reference19Ideal.defs (F := Ideal)) _ _).mono (fun r h => ⟨fun c => (h c).2, sem_eq_zero_of_no_sems (by decide) r.2⟩)
    (Cert.Reference19Ideal.Value.run (F := Ideal) m ρ)

end Cert.Kernel19Ideal.Product

end
-- ==== Proof.AttnOut.lean ====
/- The products of the attention's output projection, forward and backward: every entry of each call's result is the reference's. -/
module
public import proofs.«01_k».proof.Proof.Products
public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel20.Frame
public import proofs.«01_k».proof.Proof.Gen.Kernel20Ideal.Value
public import proofs.«01_k».proof.Proof.Gen.Reference20Ideal.Run
@[expose] public section
set_option maxRecDepth 16384
noncomputable section
open Idealize.ShloMosaic Idealize.ShloMosaic.TcCoe Cert.Products

namespace Cert.Kernel13Ideal.Product
open Cert.Kernel13Ideal Cert.Kernel13Ideal.Gen

/-- What the reference computes of its arguments. -/
def target (x0 : FVec Ideal S4096x1024 .f32) (x1 : FVec Ideal S1024x1024 .bf16) : FVec Ideal S4096x1024 .bf16 :=
  truncf .bf16 (Host.dotGeneral Cert.Reference13Ideal.dot_S4096x1024_S1024x1024_S4096x1024_1_1_0_0_n_n none x0 (extf .f32 x1 Cert.Reference13Ideal.Gen.bitsLt_bf16_f32)) Cert.Reference13Ideal.Gen.bitsLt_bf16_f32

/-- Which block of each array a grid step works on. -/
theorem idx : ∀ t : Fin cfg0.N, win0_0.index t = ![t.val, 0] ∧ win0_1.index t = ![0, 0] ∧ win0_2.index t = ![t.val, 0] :=
  (by decide +kernel : ∀ t : Fin grid0.N, _)

/-- The gradient of the output projection's input. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, target]
  blk_point [iblk, V, idx t]

/-- The kernel's result is the reference's, of any arguments. -/
theorem same_values : Cert.algebraic_Kernel13Ideal_Reference13Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel13Ideal.Value.run_blocks (F := Ideal) m g),
    (θ_run (Cert.Reference13Ideal.defs (F := Ideal)) _ _).mono
      (fun r h c => ⟨(h c).1.trans (by rw [(hargs c).1, (hargs c).2]; rfl), (h c).2⟩) (Cert.Reference13Ideal.Value.run (F := Ideal) m' g')⟩

/-- The kernel runs and leaves its arguments as they were. -/
theorem frame_kernel : Cert.quiescent_Kernel13 := fun m ρ _ => Cert.Kernel13.Gen.frame m ρ

/-- The kernel over the extended reals. -/
theorem frame_kernel_ideal : Cert.quiescent_Kernel13Ideal := fun m ρ _ => frame m ρ

/-- The reference runs and leaves its arguments as they were. -/
theorem frame_reference : Cert.quiescent_Reference13Ideal := fun m ρ _ =>
  (θ_run (Cert.Reference13Ideal.defs (F := Ideal)) _ _).mono (fun r h => ⟨fun c => (h c).2, sem_eq_zero_of_no_sems (by decide) r.2⟩)
    (Cert.Reference13Ideal.Value.run (F := Ideal) m ρ)

end Cert.Kernel13Ideal.Product

namespace Cert.Kernel14Ideal.Product
open Cert.Kernel14Ideal Cert.Kernel14Ideal.Gen

/-- What the reference computes of its arguments. -/
def target (x0 : FVec Ideal S4096x1024 .bf16) (x1 : FVec Ideal S4096x1024 .f32) : FVec Ideal S1024x1024 .f32 :=
  transpose S1024x1024 [1, 0]
    (Host.dotGeneral Cert.Reference14Ideal.dot_S4096x1024_S4096x1024_S1024x1024_0_0_1_1_n_n none x1 (extf .f32 x0 Cert.Reference14Ideal.Gen.bitsLt_bf16_f32)) Cert.Reference14Ideal.Gen.transposes_S1024x1024_S1024x1024_1_0

/-- Which block of each array a grid step works on. -/
theorem idx : ∀ t : Fin cfg0.N, win0_0.index t = ![t.val, 0] ∧ win0_1.index t = ![t.val, 0] ∧ win0_2.index t = ![0, 0] :=
  (by decide +kernel : ∀ t : Fin grid0.N, _)

/-- The gradient of the output projection's weight. The result array after the run is the reference's. -/
theorem final (m : (ℓ : Loc nD τ sig) → Buf (Elt Ideal) ℓ) (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, four_parts (outsAt0 m c) (fun t => k0_pay1 (F := Ideal) (iblk m c 0 t) (iblk m c 1 t)) (fun j => j)
    (fun t h j => by
      rw [outsAt0_A m c t h (by omega) (by omega)]
      frame_out
      pointwise [k0_pay2])
    (fun t h j => by
      rw [outsAt0_B m c t (by omega) h (by omega)]
      frame_out
      pointwise [k0_pay3]
      exact congrArg (· + _) (congrFun ((Memref.isWhole_whole cc0_scratch0).read_unread _) _))
    (fun t h j => by
      rw [outsAt0_C m c t (by omega) (by omega) h]
      frame_out
      pointwise [k0_pay4]
      exact congrArg (· + _) (congrFun ((Memref.isWhole_whole cc0_scratch0).read_unread _) _)) t ht y]
  pointwise [k0_pay1, target]
  refine Fin.sum_mul_add_congr fun s k hl => ?_
  rw [mul_comm]
  blk_point [iblk, V, idx t, idx (stepOf t ht s)]

/-- The kernel's result is the reference's, of any arguments. -/
theorem same_values : Cert.algebraic_Kernel14Ideal_Reference14Ideal := fun m g m' g' _ hargs =>
  ⟨fun c => target (m ((c.tc : Thread nD τ).loc main_arg0)) (m ((c.tc : Thread nD τ).loc main_arg1)),
    (θ_run defs _ _).mono (fun r h c => ⟨(h c).1.trans (final m c), (h c).2⟩) (Cert.Kernel14Ideal.Value.run_blocks (F := Ideal) m g),
    (θ_run (Cert.Reference14Ideal.defs (F := Ideal)) _ _).mono
      (fun r h c => ⟨(h c).1.trans (by rw [(hargs c).1, (hargs c).2]; rfl), (h c).2⟩) (Cert.Reference14Ideal.Value.run (F := Ideal) m' g')⟩

/-- The kernel runs and leaves its arguments as they were. -/
theorem frame_kernel : Cert.quiescent_Kernel14 := fun m ρ _ => Cert.Kernel14.Gen.frame m ρ

/-- The kernel over the extended reals. -/
theorem frame_kernel_ideal : Cert.quiescent_Kernel14Ideal := fun m ρ _ => frame m ρ

/-- The reference runs and leaves its arguments as they were. -/
theorem frame_reference : Cert.quiescent_Reference14Ideal := fun m ρ _ =>
  (θ_run (Cert.Reference14Ideal.defs (F := Ideal)) _ _).mono (fun r h => ⟨fun c => (h c).2, sem_eq_zero_of_no_sems (by decide) r.2⟩)
    (Cert.Reference14Ideal.Value.run (F := Ideal) m ρ)

end Cert.Kernel14Ideal.Product

namespace Cert.Kernel20Ideal.Product
open Cert.Kernel20Ideal Cert.Kernel20Ideal.Gen

/-- What the reference computes of its arguments. -/
def target (x0 : FVec Ideal S4096x1024 .bf16) (x1 : FVec Ideal S1024x1024 .bf16) (x2 : FVec Ideal S4096x1024 .f32) : FVec Ideal S4096x1024 .f32 :=
  addf x2 (Host.dotGeneral Cert.Reference20Ideal.dot_S4096x1024_S1024x1024_S4096x1024_1_0_0_1_n_n none (extf .f32 x0 Cert.Reference20Ideal.Gen.bitsLt_bf16_f32) (extf .f32 x1 Cert.Reference20Ideal.Gen.bitsLt_bf16_f32))

/-- Which block of each array a grid step works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output projection itself, added to the layer's input. The result array after the run is the reference's. -/
theorem final (m : (ℓ : Loc nD τ sig) → Buf (Elt Ideal) ℓ) (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, target]
  blk_point [iblk, V, idx t]

/-- The kernel's result is the reference's, of any arguments. -/
theorem same_values : Cert.algebraic_Kernel20Ideal_Reference20Ideal := fun m g m' g' _ hargs =>
  ⟨fun c => target (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel20Ideal.Value.run_blocks (F := Ideal) m g),
    (θ_run (Cert.Reference20Ideal.defs (F := Ideal)) _ _).mono
      (fun r h c => ⟨(h c).1.trans (by rw [(hargs c).1, (hargs c).2.1, (hargs c).2.2]; rfl), (h c).2⟩) (Cert.Reference20Ideal.Value.run (F := Ideal) m' g')⟩

/-- The kernel runs and leaves its arguments as they were. -/
theorem frame_kernel : Cert.quiescent_Kernel20 := fun m ρ _ => Cert.Kernel20.Gen.frame m ρ

/-- The kernel over the extended reals. -/
theorem frame_kernel_ideal : Cert.quiescent_Kernel20Ideal := fun m ρ _ => frame m ρ

/-- The reference runs and leaves its arguments as they were. -/
theorem frame_reference : Cert.quiescent_Reference20Ideal := fun m ρ _ =>
  (θ_run (Cert.Reference20Ideal.defs (F := Ideal)) _ _).mono (fun r h => ⟨fun c => (h c).2, sem_eq_zero_of_no_sems (by decide) r.2⟩)
    (Cert.Reference20Ideal.Value.run (F := Ideal) m ρ)

end Cert.Kernel20Ideal.Product

end
-- ==== Proof.GateMath.lean ====
/- What the gate's proof needs of single entries and rows: the logistic function by the hyperbolic tangent, the gradient
   of `z · σ(z)`, and when the gradient of a norm is a real number. -/
module
public import proofs.«01_k».proof.Proof.NormGrad
@[expose] public section
noncomputable section
namespace Cert.Gate
open Idealize.ShloMosaic Cert.NormGrad

/-- The logistic function as the reference computes it. -/
abbrev sgm (z : EReal) : EReal := Ideal.div 1 (1 + Ideal.exp (-z))

/-- The logistic function as the kernel computes it. -/
abbrev sgmTanh (z : EReal) : EReal :=
  Ideal.ofBits .f32 0x3F000000#32 * Ideal.tanh (Ideal.ofBits .f32 0x3F000000#32 * z) + Ideal.ofBits .f32 0x3F000000#32

theorem half : Ideal.ofBits .f32 0x3F000000#32 = ((1 / 2 : ℝ) : EReal) := by
  simp [Ideal.ofBits, Ideal.ieee, -EReal.coe_mul]; norm_num

theorem sgm_real (z : ℝ) : sgm (z : EReal) = (((1 + Real.exp (-z))⁻¹ : ℝ) : EReal) := by
  have : (0 : ℝ) < 1 + Real.exp (-z) := by positivity
  show Ideal.div 1 (1 + ((Real.exp (-z) : ℝ) : EReal)) = _
  rw [← EReal.coe_one, ← EReal.coe_add, div_real _ _ this.ne', ← EReal.coe_mul, mul_one]

theorem sgm_top : sgm ⊤ = 1 := by
  show Ideal.div 1 (1 + 0) = 1
  rw [add_zero, ← EReal.coe_one, div_real _ _ one_ne_zero, ← EReal.coe_mul]
  norm_num

theorem sgm_bot : sgm ⊥ = 0 := by
  show Ideal.div 1 (1 + ⊤) = 0
  rw [← EReal.coe_one, EReal.coe_add_top, Ideal.div, if_neg (by simp)]
  simp

/-- The two ways to compute the logistic function agree at every extended real. -/
theorem sgmTanh_eq (z : EReal) : sgmTanh z = sgm z := by
  unfold sgmTanh
  rw [half]
  induction z with
  | top =>
    rw [sgm_top, EReal.coe_mul_top_of_pos (by norm_num)]
    show ((1 / 2 : ℝ) : EReal) * 1 + ((1 / 2 : ℝ) : EReal) = 1
    rw [mul_one, ← EReal.coe_add, ← EReal.coe_one]; norm_num
  | bot =>
    rw [sgm_bot, EReal.coe_mul_bot_of_pos (by norm_num)]
    show ((1 / 2 : ℝ) : EReal) * (-1) + ((1 / 2 : ℝ) : EReal) = 0
    rw [← EReal.coe_one, ← EReal.coe_neg, ← EReal.coe_mul, ← EReal.coe_add, ← EReal.coe_zero]; norm_num
  | coe z =>
    rw [sgm_real, ← EReal.coe_mul]
    show ((1 / 2 : ℝ) : EReal) * ((Real.tanh (1 / 2 * z) : ℝ) : EReal) + ((1 / 2 : ℝ) : EReal) = _
    rw [← EReal.coe_mul, ← EReal.coe_add]
    congr 1
    have h : Real.exp (-z) = (Real.exp (1 / 2 * z))⁻¹ * (Real.exp (1 / 2 * z))⁻¹ := by
      rw [← Real.exp_neg, ← Real.exp_add]; congr 1; ring
    rw [Real.tanh_eq_sinh_div_cosh, Real.sinh_eq, Real.cosh_eq, Real.exp_neg (1 / 2 * z), h]
    have ha := Real.exp_pos (1 / 2 * z)
    generalize Real.exp (1 / 2 * z) = a at ha
    field_simp
    ring

/-- The gradient of `z · σ(z)` in `z`, in one product and in the two terms of the product rule. -/
theorem silu_grad (z : EReal) (G : ℝ) :
    (G : EReal) * (sgm z * (1 + z * (1 - sgm z))) = (G : EReal) * sgm z + z * (G : EReal) * (sgm z * (1 - sgm z)) := by
  induction z with
  | top => rw [sgm_top, show (1 : EReal) - 1 = 0 from by rw [← EReal.coe_one, ← EReal.coe_sub, sub_self, EReal.coe_zero]]; simp
  | bot => rw [sgm_bot]; simp
  | coe z => rw [sgm_real]; norm_cast; ring

/-- The gradient of `y · z · σ(z)` in `z`, in the same two ways, where the factor that comes from outside is a real number, and zero unless
the gated value is a real number: `y` itself may be infinite. -/
theorem gate_grad (z y : EReal) (b : ℝ) (h : b = 0 ∨ ∃ x : ℝ, y * (z * sgm z) = (x : EReal)) :
    (b : EReal) * y * (sgm z * (1 + z * (1 - sgm z))) = y * (b : EReal) * sgm z + z * (y * (b : EReal)) * (sgm z * (1 - sgm z)) := by
  rcases h with rfl | ⟨x, hx⟩
  · simp
  have real (y : ℝ) : (b : EReal) * (y : EReal) * (sgm z * (1 + z * (1 - sgm z)))
      = (y : EReal) * (b : EReal) * sgm z + z * ((y : EReal) * (b : EReal)) * (sgm z * (1 - sgm z)) := by
    rw [mul_comm (b : EReal), ← EReal.coe_mul]
    exact silu_grad _ _
  have inf (hy : y = ⊤ ∨ y = ⊥) : z = 0 ∨ z = ⊥ := by
    induction z with
    | bot => exact Or.inr rfl
    | top => rcases hy with rfl | rfl <;> rw [sgm_top] at hx <;> simp at hx
    | coe z =>
      have hs : (0 : ℝ) < (1 + Real.exp (-z))⁻¹ := by positivity
      rw [sgm_real, ← EReal.coe_mul] at hx
      rcases lt_trichotomy z 0 with hz | rfl | hz
      · have := mul_neg_of_neg_of_pos hz hs
        rcases hy with rfl | rfl
        · rw [EReal.top_mul_coe_of_neg this] at hx; simp at hx
        · rw [EReal.bot_mul_coe_of_neg this] at hx; simp at hx
      · exact Or.inl EReal.coe_zero
      · have := mul_pos hz hs
        rcases hy with rfl | rfl
        · rw [EReal.top_mul_coe_of_pos this] at hx; simp at hx
        · rw [EReal.bot_mul_coe_of_pos this] at hx; simp at hx
  have both (hz : z = 0 ∨ z = ⊥) : (b : EReal) * y * (sgm z * (1 + z * (1 - sgm z)))
      = y * (b : EReal) * sgm z + z * (y * (b : EReal)) * (sgm z * (1 - sgm z)) := by
    rcases hz with rfl | rfl
    · rw [zero_mul, zero_mul, zero_mul, add_zero, add_zero, mul_one, mul_comm (b : EReal)]
    · rw [sgm_bot]; simp
  induction y with
  | top => exact both (inf (Or.inl rfl))
  | bot => exact both (inf (Or.inr rfl))
  | coe y => exact real y

/-- A row either has a real mean square and real entries, or every entry of a norm's gradient at it is zero. -/
theorem row_cases {n : ℕ} (L : EReal) {l : ℝ} (hl : 0 < l) (hL : L = (l : EReal)) (x g : Fin n → EReal) :
    (∀ j, grad L x g j = 0) ∨ (∃ a : ℝ, 0 < a ∧ ms L x = (a : EReal)) ∧ ∀ k, ∃ r : ℝ, x k = (r : EReal) := by
  rcases ms_cases L hl hL x with h | ⟨a, ha, h⟩
  · refine Or.inl fun j => ?_
    unfold grad rs
    rw [h]
    show 0 * _ = _
    rw [zero_mul]
  · refine Or.inr ⟨⟨a, ha, h⟩, fun k => ?_⟩
    by_contra hn
    have hk : x k * x k = ⊤ := by
      have : x k = ⊤ ∨ x k = ⊥ := by
        revert hn
        induction x k with
        | bot => simp
        | top => simp
        | coe r => intro hn; exact absurd ⟨r, rfl⟩ hn
      rcases this with e | e <;> rw [e] <;> simp
    have hs : ∑ k, x k * x k = ⊤ := by
      refine top_le_iff.1 (hk ▸ Finset.single_le_sum (f := fun k => x k * x k) (fun k _ => ?_) (Finset.mem_univ k))
      show 0 ≤ x k * x k
      induction x k with
      | bot => simp
      | top => simp
      | coe r => exact_mod_cast mul_self_nonneg r
    obtain ⟨e, _, ee⟩ := eps
    unfold ms at h
    rw [hs, hL, div_real _ _ hl.ne', EReal.coe_mul_top_of_pos (inv_pos.2 hl), ee, EReal.top_add_coe] at h
    exact EReal.coe_ne_top a h.symm

/-- A norm's gradient is a real number where what reaches it is, whatever the row; it is zero unless the row's entries are real numbers. -/
theorem grad_real {n : ℕ} (L : EReal) {l : ℝ} (hl : 0 < l) (hL : L = (l : EReal)) (x g : Fin n → EReal)
    (hg : ∀ k, ∃ a : ℝ, g k = (a : EReal)) (j : Fin n) :
    ∃ a : ℝ, grad L x g j = (a : EReal) ∧ (a = 0 ∨ ∀ k, ∃ r : ℝ, x k = (r : EReal)) := by
  rcases row_cases L hl hL x g with h | ⟨⟨a, ha, h⟩, hx⟩
  · exact ⟨0, by rw [h, EReal.coe_zero], Or.inl rfl⟩
  · have hx' := hx
    choose g' hg using hg
    choose x' hx using hx
    have hr : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.2 ha.le), if_neg ha.ne']
    unfold grad rs
    rw [h, hr]
    simp only [hx, hg, hL]
    rw [div_real _ _ hl.ne']
    simp only [← EReal.coe_mul, Cert.Stick.coe_sum, ← EReal.coe_sub]
    refine ⟨_, rfl, Or.inr ?_⟩
    simpa only [hx] using hx'

/-! ## Whole arrays -/

/-- The activations, and the array whose first 2048 columns are the gate. -/
abbrev Act : Type := FVec Ideal (⟨2, ![4096, 2048]⟩ : Shape) .f32
@[inherit_doc Act]
abbrev Wide : Type := FVec Ideal (⟨2, ![4096, 5120]⟩ : Shape) .f32
@[inherit_doc Act]
abbrev Weight : Type := FVec Ideal (⟨2, ![1, 2048]⟩ : Shape) .f32

/-- The gate's argument at an entry. -/
abbrev zAt (z : Wide) (r : Fin 4096) (k : Fin 2048) : EReal := z (ix2 r (⟨k.val, by omega⟩ : Fin 5120))

/-- A gated entry. -/
abbrev gated (y : Act) (z : Wide) (r : Fin 4096) (k : Fin 2048) : EReal := y (ix2 r k) * (zAt z r k * sgm (zAt z r k))

/-- The entries of the group of 512 columns that a column lies in, and the column's place in its group. -/
abbrev grp (k : Fin 2048) (i : Fin 512) : Fin 2048 := ⟨k.val / 512 * 512 + i.val, by omega⟩
@[inherit_doc grp]
abbrev pos (k : Fin 2048) : Fin 512 := ⟨k.val % 512, by omega⟩

/-- The gated entries of a column's group. -/
abbrev gatedRow (y : Act) (z : Wide) (r : Fin 4096) (k : Fin 2048) (i : Fin 512) : EReal := gated y z r (grp k i)

/-- The cotangent times the weight, over a column's group. -/
abbrev gatedCot (w : Weight) (d : Act) (r : Fin 4096) (k : Fin 2048) (i : Fin 512) : EReal :=
  d (ix2 r (grp k i)) * w (ix2 0 (grp k i))

/-- The gradient of the gated entries. -/
abbrev dgated (y : Act) (z : Wide) (w : Weight) (d : Act) (r : Fin 4096) (k : Fin 2048) : EReal :=
  grad len512 (gatedRow y z r k) (gatedCot w d r k) (pos k)

theorem grp_pos (k : Fin 2048) : grp k (pos k) = k := Fin.ext (by show k.val / 512 * 512 + k.val % 512 = k.val; omega)

/-- The same gradient in the three terms of the product rule. -/
theorem dgated_eq (y : Act) (z : Wide) (w : Weight) (d : Act) (r : Fin 4096) (k : Fin 2048) :
    dgated y z w d r k = d (ix2 r k) * w (ix2 0 k) * rs len512 (gatedRow y z r k)
      + gated y z r k * (∑ _i : Fin 1, root len512 (gatedRow y z r k) (gatedCot w d r k))
      + (∑ _i : Fin 1, root len512 (gatedRow y z r k) (gatedCot w d r k)) * gated y z r k := by
  have h : gatedRow y z r k (pos k) = gated y z r k := congrArg (gated y z r) (grp_pos k)
  have h' : gatedCot w d r k (pos k) = d (ix2 r k) * w (ix2 0 k) :=
    congrArg (fun i => d (ix2 r i) * w (ix2 0 i)) (grp_pos k)
  unfold dgated
  rw [grad_eq len512 (by norm_num) len512_eq, h, h', Fin.sum_univ_one, mul_comm (root _ _ _) (gated y z r k)]

/-- The forward pass: the gated entries, normed by groups, times the weight. -/
def outOf (y : Act) (z : Wide) (w : Weight) : FVec Ideal (⟨2, ![4096, 2048]⟩ : Shape) .bf16 := fun j =>
  gated y z (j 0) (j 1) * rs len512 (gatedRow y z (j 0) (j 1)) * w (ix2 0 (j 1))

/-- The gradient of the activations. -/
def dyOf (y : Act) (z : Wide) (w : Weight) (d : Act) : Act := fun j =>
  dgated y z w d (j 0) (j 1) * (zAt z (j 0) (j 1) * sgm (zAt z (j 0) (j 1)))

/-- The gradient of the gate's argument. -/
def dzOf (y : Act) (z : Wide) (w : Weight) (d : Act) : Act := fun j =>
  dgated y z w d (j 0) (j 1) * y j * (sgm (zAt z (j 0) (j 1)) * (1 + zAt z (j 0) (j 1) * (1 - sgm (zAt z (j 0) (j 1)))))

/-- What a row adds to the gradient of the norm's weight. -/
abbrev dwAt (y : Act) (z : Wide) (d : Act) (r : Fin 4096) (k : Fin 2048) : EReal :=
  d (ix2 r k) * (gated y z r k * rs len512 (gatedRow y z r k))

/-- The gradient of the norm's weight. -/
def dwOf (y : Act) (z : Wide) (d : Act) : Weight := fun j => ∑ r : Fin 4096, dwAt y z d r (j 1)

/-- What is set at the first step and added to at the others holds the sum of the parts at the last. -/
theorem all_parts {I : Type} {N n : ℕ} (hN : N = n + 1) (f : ∀ n, n < N → I → EReal) (p : Fin N → I → EReal)
    (h0 : ∀ t : Fin N, t.val = 0 → ∀ j, f t.val t.isLt j = p t j)
    (h1 : ∀ t : Fin N, 1 ≤ t.val → ∀ j,
      f t.val t.isLt j = f (t.val - 1) (Nat.lt_of_le_of_lt (Nat.sub_le _ _) t.isLt) j + p t j)
    (t : Fin N) (ht : t.val = n) (j : I) : f t.val t.isLt j = ∑ s : Fin (n + 1), p ⟨s.val, by omega⟩ j := by
  subst hN
  have step : ∀ k (h : k < n + 1), f k h j = ∑ s : Fin (k + 1), p ⟨s.val, by omega⟩ j := by
    intro k
    induction k with
    | zero => intro h; rw [Fin.sum_univ_one]; exact h0 ⟨0, h⟩ rfl j
    | succ k ih =>
      intro h
      rw [Fin.sum_univ_castSucc, h1 ⟨k + 1, h⟩ (by simp) j]
      exact congrArg (· + _) (ih (by omega))
  obtain ⟨t, h⟩ := t
  obtain rfl : t = n := ht
  exact step t h
end Cert.Gate
end
-- ==== Proof.Finite.lean ====
/- The precondition: every entry of the arguments is a real number. -/
module
public import proofs.«01_k».proof.Pre_finite
public import proofs.«01_k».proof.Proof.Reals
public import Idealize.ShloMosaic.Lib.Claim
@[expose] public section
noncomputable section
namespace Cert.Stick
open Idealize.ShloMosaic Idealize.ShloMosaic.TcCoe

/-- The precondition's one fact about shapes. -/
theorem finite_facts : Cert.Pre_finite.Facts := ⟨by decide⟩

/-- The real entries of an array, zero outside it. -/
def realsOf (x : FVec Ideal (⟨2, ![4096, 1024]⟩ : Shape) .bf16) (r y : ℕ) : ℝ :=
  if h : r < 4096 ∧ y < 1024 then (x (ix2 (⟨r, h.1⟩ : Fin 4096) (⟨y, h.2⟩ : Fin 1024))).toReal else 0

/-- An extended real whose absolute value is below infinity is a real number. -/
theorem real_of_abs (x : EReal) (h : max x (-x) < ⊤) : x = ((x.toReal : ℝ) : EReal) := by
  refine (EReal.coe_toReal ?_ ?_).symm
  · rintro rfl; simp at h
  · rintro rfl; simp at h

theorem realsOf_at (x : FVec Ideal (⟨2, ![4096, 1024]⟩ : Shape) .bf16) (r : Fin 4096) (y : Fin 1024)
    (h : max (x (ix2 r y)) (-x (ix2 r y)) < ⊤) : x (ix2 r y) = ((realsOf x r y : ℝ) : EReal) := by
  unfold realsOf
  rw [dif_pos ⟨r.isLt, y.isLt⟩]
  exact real_of_abs _ h

theorem and_bits (p q r s : Prop) [Decidable p] [Decidable q] [Decidable r] [Decidable s]
    (h : ((BitVec.ofBool (decide p) &&& BitVec.ofBool (decide q)) &&& BitVec.ofBool (decide r)) &&& BitVec.ofBool (decide s) = 1#1) :
    p ∧ q ∧ r ∧ s := by
  by_cases hp : p <;> by_cases hq : q <;> by_cases hr : r <;> by_cases hs : s <;> simp_all

/-- Arrays that meet the precondition hold real numbers. -/
theorem reals_of_finite [Cert.Pre_finite.Facts] (q k v d : FVec Ideal (⟨2, ![4096, 1024]⟩ : Shape) .bf16)
    (h : Cert.Pre_finite.fn (F := Ideal) q k v d = fun _ => 1#1) (r : Fin 4096) (y : Fin 1024) :
    q (ix2 r y) = ((realsOf q r y : ℝ) : EReal) ∧ k (ix2 r y) = ((realsOf k r y : ℝ) : EReal)
      ∧ v (ix2 r y) = ((realsOf v r y : ℝ) : EReal) ∧ d (ix2 r y) = ((realsOf d r y : ℝ) : EReal) := by
  have e := congrFun h (ix2 r y)
  change ((BitVec.ofBool (decide (max (q (ix2 r y)) (-q (ix2 r y)) < Ideal.ofBits .bf16 0x7F80#16))
    &&& BitVec.ofBool (decide (max (k (ix2 r y)) (-k (ix2 r y)) < Ideal.ofBits .bf16 0x7F80#16)))
    &&& BitVec.ofBool (decide (max (v (ix2 r y)) (-v (ix2 r y)) < Ideal.ofBits .bf16 0x7F80#16)))
    &&& BitVec.ofBool (decide (max (d (ix2 r y)) (-d (ix2 r y)) < Ideal.ofBits .bf16 0x7F80#16)) = 1#1 at e
  rw [inf16] at e
  obtain ⟨a, b, c, d'⟩ := and_bits _ _ _ _ e
  exact ⟨realsOf_at q r y a, realsOf_at k r y b, realsOf_at v r y c, realsOf_at d r y d'⟩
end Cert.Stick
-- ==== Proof.GateGrad.lean ====
/- The gradients of the gate and the norm by groups at the end of the state-space mixer. -/
module

public import proofs.«01_k».proof.Proof.Products
public import proofs.«01_k».proof.Proof.GateMath
public import proofs.«01_k».proof.Proof.Finite
public import proofs.«01_k».proof.Pre_gate_finite
public import proofs.«01_k».proof.Defs
public import proofs.«01_k».proof.Proof.Gen.Kernel27.Frame
public import proofs.«01_k».proof.Proof.Gen.Kernel27Ideal.Frame
public import proofs.«01_k».proof.Proof.Gen.Reference27Ideal.Run

@[expose] public section

set_option maxRecDepth 16384

noncomputable section

open Idealize.ShloMosaic Idealize.ShloMosaic.TcCoe Cert.Products Cert.NormGrad Cert.Gate

namespace Cert.Reference27Ideal.Gate
open Cert.Reference27Ideal Cert.Reference27Ideal.Gen
variable (Y : FVec Ideal S4096x2048 .f32) (Z : FVec Ideal S4096x5120 .f32) (W : FVec Ideal S1x2048 .f32) (D : FVec Ideal S4096x2048 .f32)

/-! The reference's intermediate arrays: the gate's argument, its logistic function, the gated entries by groups, their
    mean of squares and its inverse root, the cotangent times the weight, what comes of the square root, and the
    gradient of the gated entries. -/

abbrev zArr : FVec Ideal S4096x2048 .f32 := extractStridedSlice S4096x2048 ![0, 0] Z slices_S4096x5120_S4096x2048_0_0
abbrev one : FVec Ideal S4096x2048 .f32 := broadcastInDim S4096x2048 ![] bcast_S_S4096x2048 (constant S_ .f32 0x3F800000#32)
abbrev sArr : FVec Ideal S4096x2048 .f32 := Host.divf one (addf one (Host.exp (Host.negf (zArr Z))))
abbrev gArr : FVec Ideal S4096x4x512 .f32 :=
  shapeCast S4096x4x512 (mulf Y (mulf (zArr Z) (sArr Z))) shapeCasts_S4096x2048_S4096x4x512
abbrev len512Arr : FVec Ideal S4096x4x1 .f32 := broadcastInDim S4096x4x1 ![] bcast_S_S4096x4x1 (constant S_ .f32 0x44000000#32)
abbrev msArr : FVec Ideal S4096x4x1 .f32 := addf
  (Host.divf (broadcastInDim S4096x4x1 ![0, 1] bcast_S4096x4_S4096x4x1_0_1
    (Host.reduceAdd (mulf (gArr Y Z) (gArr Y Z)) (constant S_ .f32 0x00000000#32) reducesTo_S4096x4x512_S4096x4_d2 h_S_)) len512Arr)
  (broadcastInDim S4096x4x1 ![] bcast_S_S4096x4x1 (constant S_ .f32 0x358637BD#32))
abbrev rsArr : FVec Ideal S4096x4x1 .f32 := Host.rsqrt (msArr Y Z)
abbrev rsAll : FVec Ideal S4096x4x512 .f32 := broadcastInDim S4096x4x512 ![0, 1, 2] bcast_S4096x4x1_S4096x4x512_0_1_2 (rsArr Y Z)
abbrev dArr : FVec Ideal S4096x4x512 .f32 := shapeCast S4096x4x512 D shapeCasts_S4096x2048_S4096x4x512
abbrev qArr : FVec Ideal S4096x4x512 .f32 := mulf (dArr D)
  (broadcastInDim S4096x4x512 ![0, 1, 2] bcast_S1x4x512_S4096x4x512_0_1_2
    (broadcastInDim S1x4x512 ![1, 2] bcast_S4x512_S1x4x512_1_2 (shapeCast S4x512 W shapeCasts_S1x2048_S4x512)))
abbrev rootArr : FVec Ideal S4096x4x512 .f32 := broadcastInDim S4096x4x512 ![0, 1] bcast_S4096x4_S4096x4x512_0_1
  (Host.reduceAdd (Host.divf (mulf
      (shapeCast S4096x4x1 (Host.reduceAdd (mulf (gArr Y Z) (qArr W D)) (constant S_ .f32 0x00000000#32)
        reducesTo_S4096x4x512_S4096x4_d2 h_S_) shapeCasts_S4096x4_S4096x4x1)
      (mulf (broadcastInDim S4096x4x1 ![] bcast_S_S4096x4x1 (constant S_ .f32 0xBF000000#32)) (Host.divf (rsArr Y Z) (msArr Y Z))))
    len512Arr) (constant S_ .f32 0x00000000#32) reducesTo_S4096x4x1_S4096x4_d2 h_S_)
abbrev dgArr : FVec Ideal S4096x2048 .f32 := shapeCast S4096x2048
  (addf (addf (mulf (qArr W D) (rsAll Y Z)) (mulf (gArr Y Z) (rootArr Y Z W D))) (mulf (rootArr Y Z W D) (gArr Y Z)))
  shapeCasts_S4096x4x512_S4096x2048

/-- The reference's gradient of the gated entries is the kernel's form of it. -/
theorem dg_at (j : S4096x2048.Idx) : dgArr Y Z W D j = dgated Y Z W D (j 0) (j 1) := by
  refine Eq.trans ?_ (dgated_eq Y Z W D (j 0) (j 1)).symm
  pointwise [zArr, one, sArr, gArr, len512Arr, msArr, rsArr, rsAll, dArr, qArr, rootArr, dgArr,
    gatedRow, gatedCot, gated, zAt, rs, ms, root, len512, sgm]

/-- The reference's gradient of the activations. -/
theorem ref_dy : mulf (dgArr Y Z W D) (mulf (zArr Z) (sArr Z)) = dyOf Y Z W D := by
  funext j
  show dgArr Y Z W D j * mulf (zArr Z) (sArr Z) j = _
  rw [dg_at]
  refine congrArg (fun a : EReal => dgated Y Z W D (j 0) (j 1) * a) ?_
  pointwise [zArr, one, sArr, zAt, sgm]

/-- The reference's gradient of the gate's argument, where the weight and the cotangent are real numbers. -/
theorem ref_dz (hD : ∀ (r : Fin 4096) (k : Fin 2048), ∃ a : ℝ, D (ix2 r k) = (a : EReal)) (hW : ∀ k : Fin 2048, ∃ a : ℝ, W (ix2 0 k) = (a : EReal)) :
    addf (mulf (mulf Y (dgArr Y Z W D)) (sArr Z)) (mulf (mulf (zArr Z) (mulf Y (dgArr Y Z W D))) (mulf (sArr Z) (subf one (sArr Z)))) = dzOf Y Z W D := by
  funext j
  obtain ⟨r, k, rfl⟩ : ∃ (r : Fin 4096) (k : Fin 2048), j = ix2 r k := ⟨j 0, j 1, (ix2_eta (n0 := 4096) (n1 := 2048) j).symm⟩
  obtain ⟨b, hb, hr⟩ := grad_real len512 (by norm_num) len512_eq (gatedRow Y Z r k) (gatedCot W D r k) (fun i => by
    obtain ⟨u, hu⟩ := hD r (grp k i)
    obtain ⟨v, hv⟩ := hW (grp k i)
    exact ⟨u * v, by show D _ * W _ = _; rw [hu, hv, EReal.coe_mul]⟩) (pos k)
  have hs : sArr Z (ix2 r k) = sgm (zAt Z r k) := by pointwise [zArr, one, sArr, zAt, sgm]
  have hz : zArr Z (ix2 r k) = zAt Z r k := by pointwise [zArr, zAt]
  have h1 : one (ix2 r k) = 1 := by pointwise [one]
  have hg : dgArr Y Z W D (ix2 r k) = (b : EReal) := (dg_at Y Z W D (ix2 r k)).trans hb
  show Y (ix2 r k) * dgArr Y Z W D (ix2 r k) * sArr Z (ix2 r k) + zArr Z (ix2 r k) * (Y (ix2 r k) * dgArr Y Z W D (ix2 r k))
    * (sArr Z (ix2 r k) * (one (ix2 r k) - sArr Z (ix2 r k))) = dgated Y Z W D r k * Y (ix2 r k) * (sgm (zAt Z r k) * (1 + zAt Z r k * (1 - sgm (zAt Z r k))))
  rw [hs, hz, h1, hg, show dgated Y Z W D r k = (b : EReal) from hb]
  exact (gate_grad _ _ b (hr.imp_right fun h => by
    have := h (pos k)
    rwa [show gatedRow Y Z r k (pos k) = gated Y Z r k from congrArg _ (grp_pos k)] at this)).symm

/-- The reference's gradient of the norm's weight. -/
theorem ref_dw : shapeCast S1x2048 (Host.reduceAdd (shapeCast S1x4x512 (Host.reduceAdd (mulf (mulf (gArr Y Z) (rsAll Y Z)) (dArr D))
      (constant S_ .f32 0x00000000#32) reducesTo_S4096x4x512_S4x512_d0 h_S_) shapeCasts_S4x512_S1x4x512)
    (constant S_ .f32 0x00000000#32) reducesTo_S1x4x512_S4x512_d0 h_S_) shapeCasts_S4x512_S1x2048 = Cert.Gate.dwOf Y Z D := by
  funext j
  pointwise [zArr, one, sArr, gArr, len512Arr, msArr, rsArr, rsAll, dArr, Cert.Gate.dwOf, dwAt,
    gatedRow, gated, zAt, rs, ms, len512, sgm]
  rw [Fin.sum_univ_one]
  exact Finset.sum_congr rfl fun (r : Fin 4096) _ => mul_comm (G := EReal) _ _

end Cert.Reference27Ideal.Gate

namespace Cert.Gate

/-- The precondition's facts about shapes. -/
theorem finite_facts : Cert.Pre_gate_finite.Facts := ⟨by decide, by decide, by decide⟩

/-- Two truth values whose conjunction is the bit one are both true. -/
theorem and_bits (p q : Prop) [Decidable p] [Decidable q] (h : BitVec.ofBool (decide p) &&& BitVec.ofBool (decide q) = 1#1) : p ∧ q := by
  by_cases hp : p <;> by_cases hq : q <;> simp_all

/-- Arguments that meet the precondition: the weight and the cotangent hold real numbers. -/
theorem reals_of_finite [Cert.Pre_gate_finite.Facts] (y : Act) (z : Wide) (w : Weight) (d : Act)
    (h : Cert.Pre_gate_finite.fn (F := Ideal) y z w d = fun _ => 1#1) (r : Fin 4096) (k : Fin 2048) :
    (∃ a : ℝ, w (ix2 0 k) = (a : EReal)) ∧ ∃ a : ℝ, d (ix2 r k) = (a : EReal) := by
  have e := congrFun h (ix2 r k)
  have hw : broadcastInDim Cert.Pre_gate_finite.S4096x2048 ![0, 1] Cert.Pre_gate_finite.Facts.bcast_S1x2048_S4096x2048_0_1 w (ix2 r k) = w (ix2 0 k) := by
    pointwise
  change (BitVec.ofBool (decide (max (broadcastInDim Cert.Pre_gate_finite.S4096x2048 ![0, 1] Cert.Pre_gate_finite.Facts.bcast_S1x2048_S4096x2048_0_1 w (ix2 r k))
      (-broadcastInDim Cert.Pre_gate_finite.S4096x2048 ![0, 1] Cert.Pre_gate_finite.Facts.bcast_S1x2048_S4096x2048_0_1 w (ix2 r k)) < Ideal.ofBits .f32 0x7F800000#32))
    &&& BitVec.ofBool (decide (max (d (ix2 r k)) (-d (ix2 r k)) < Ideal.ofBits .f32 0x7F800000#32))) = 1#1 at e
  rw [hw, Cert.Stick.inf32] at e
  obtain ⟨a, b⟩ := and_bits _ _ e
  exact ⟨⟨_, Cert.Stick.real_of_abs _ a⟩, ⟨_, Cert.Stick.real_of_abs _ b⟩⟩

end Cert.Gate

namespace Cert.Kernel27Ideal.Gate
open Cert.Kernel27Ideal Cert.Kernel27Ideal.Gen

/-- Which block of each array a grid step works on. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- A grid step's block of the gate's argument. -/
theorem zblk (t : Fin cfg0.N) (x : S256x2048.Idx) : X0_1 m c t x
    = m ((c : Thread nD τ).loc main_arg1) (ix2 (⟨256 * t.val + (x 0).val, by have := lt_of_lt_of_eq t.isLt N_0; have := (x 0).isLt; simp at this; omega⟩ : Fin 4096)
      (⟨(x 1).val, by have := (x 1).isLt; simp at this; omega⟩ : Fin 5120)) := by
  unfold X0_1 Pipeline.Window.fill
  rw [dif_pos (moved0_1 t _)]
  blk_point [iblk, V, idx t]

/-- The gradient of the activations after the run. -/
theorem final_dy : (dats m 0 c).arrAt 4 cfg0.N = dyOf
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := lt_of_lt_of_eq t.isLt N_0
  blk_simp
  rw [after0_4]
  by_cases h : t.val % 16 = 0
  on_goal 1 => rw [outsAt0_A m c t h (by omega) h (by omega) h (by omega) h (by omega)]
  on_goal 2 => rw [outsAt0_B m c t h (by omega) h (by omega) h (by omega) h (by omega)]
  all_goals
    frame_out
    simp only [dyOf, dgated, grad, gatedRow, gatedCot, gated, zAt, len512, rs, ms, ← sgmTanh_eq]
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, sgmTanh]
      simp only [zblk]
      blk_point [iblk, V, idx t]
      all_goals
        first | omega | (blk_simp [idx t]; omega)

/-- The gradient of the gate's argument, over an array whose columns repeat it. -/
def dzWide (y : Act) (z : Wide) (w : Weight) (d : Act) : Wide := fun j =>
  dzOf y z w d (ix2 (j 0) (⟨(j 1).val % 2048, by omega⟩ : Fin 2048))

set_option maxHeartbeats 1000000 in
/-- What a grid step leaves of the gradient of the gate's argument. -/
theorem step_dz (t : Fin cfg0.N) (y : S256x2048.Idx) : (outsAt0 m c t.val t.isLt).2.1 y = dzOf (m ((c : Thread nD τ).loc main_arg0)) (m ((c : Thread nD τ).loc main_arg1)) (m ((c : Thread nD τ).loc main_arg2)) (m ((c : Thread nD τ).loc main_arg3))
    (ix2 (⟨256 * t.val + (y 0).val, by have := lt_of_lt_of_eq t.isLt N_0; have := (y 0).isLt; simp at this; omega⟩ : Fin 4096)
      (⟨(y 1).val, (y 1).isLt⟩ : Fin 2048)) := by
  have ht := lt_of_lt_of_eq t.isLt N_0
  by_cases h : t.val % 16 = 0
  on_goal 1 => rw [outsAt0_A m c t h (by omega) h (by omega) h (by omega) h (by omega)]
  on_goal 2 => rw [outsAt0_B m c t h (by omega) h (by omega) h (by omega) h (by omega)]
  all_goals
    frame_out
    simp only [dzOf, dgated, grad, gatedRow, gatedCot, gated, zAt, len512, rs, ms, ← sgmTanh_eq]
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, sgmTanh]
      simp only [zblk]
      blk_point [iblk, V, idx t]
      all_goals omega

/-- The gradient of the gate's argument after the run: the first 2048 columns of the array that holds it. -/
theorem final_dz (i : S4096x5120.Idx) (hi : (i 1).val < 2048) : (dats m 0 c).arrAt 5 cfg0.N i = dzWide (m ((c : Thread nD τ).loc main_arg0)) (m ((c : Thread nD τ).loc main_arg1)) (m ((c : Thread nD τ).loc main_arg2)) (m ((c : Thread nD τ).loc main_arg3)) i := by
  refine ((dats m 0 c).arrAt_apply_of_coversWhere 5 _ (P := fun i => (i 1).val / 2048 = 0) (fun β => β (1 : Fin 2) = 0) (by decide +kernel) (fun t hf y => ?_)
    (fun j => Iff.rfl) i).trans (if_pos (by omega))
  have hy : (y 1).val < 2048 := ((cfg0.win 5).xinj (cfg0.grid.coords t) y 1).isLt
  blk_simp
  rw [after0_5, step_dz]
  unfold dzWide
  refine congrArg _ (congrArg₂ ix2 (Fin.ext ?_) (Fin.ext ?_))
  · show 256 * t.val + (y 0).val = _
    blk_simp [idx t]
    omega
  · show (y 1).val = _ % 2048
    blk_simp [idx t]
    omega

/-- What a grid step adds to the gradient of the norm's weight. -/
def dwPart (t : Fin cfg0.N) (j : S1x2048.Idx) : EReal := ∑ a : Fin 256,
  dwAt (m ((c : Thread nD τ).loc main_arg0)) (m ((c : Thread nD τ).loc main_arg1)) (m ((c : Thread nD τ).loc main_arg3)) (⟨256 * t.val + a.val, by have := lt_of_lt_of_eq t.isLt N_0; omega⟩ : Fin 4096) (j 1)

/-- The gradient of the norm's weight after the run. -/
theorem final_dw : (dats m 0 c).arrAt 6 cfg0.N = Cert.Gate.dwOf (m ((c : Thread nD τ).loc main_arg0)) (m ((c : Thread nD τ).loc main_arg1)) (m ((c : Thread nD τ).loc main_arg3)) := by
  refine (dats m 0 c).arrAt_eq_of_covers 6 _ (by decide +kernel) fun t hf y => ?_
  have ht := (flush0_6 t).mp hf
  have hN := lt_of_lt_of_eq t.isLt N_0
  blk_simp
  rw [after0_6]
  refine (all_parts (n := 15) N_0 (fun n h => (outsAt0 m c n h).2.2) (dwPart m c) (fun t h j => ?_) (fun t h j => ?_) t (by omega) y).trans ?_
  · show (outsAt0 m c t.val t.isLt).2.2 j = _
    rw [outsAt0_A m c t (by omega) (by omega) (by omega) (by omega) (by omega) (by omega) (by omega) (by omega)]
    frame_out
    simp only [dwPart, dwAt, gatedRow, gated, zAt, len512, rs, ms, ← sgmTanh_eq]
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, sgmTanh]
      simp only [zblk]
      blk_point [iblk, V, idx t]
  · have := lt_of_lt_of_eq t.isLt N_0
    show (outsAt0 m c t.val t.isLt).2.2 j = _
    rw [outsAt0_B m c t (by omega) h (by omega) h (by omega) h (by omega) h]
    frame_out
    simp only [dwPart, dwAt, gatedRow, gated, zAt, len512, rs, ms, ← sgmTanh_eq]
    canon_tiles x h
    all_goals
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, sgmTanh]
      simp only [zblk]
      blk_point [iblk, V, idx t]
  · simp only [dwPart, Cert.Gate.dwOf]
    refine Fin.sum_mul_add_congr fun s k hl => ?_
    refine congrArg₂ (dwAt _ _ _) (Fin.ext ?_) (Fin.ext ?_)
    · show 256 * s.val + k.val = s.val * 256 + k.val
      omega
    · blk_simp [idx t]

/-- The gradient of the gate's argument as the program returns it. -/
theorem tail_dz : Pipeline.afterTail₀ cfgs (dats m) 0 (V0 m) [hostOps1] c main_v1 = dzOf (m ((c : Thread nD τ).loc main_arg0)) (m ((c : Thread nD τ).loc main_arg1)) (m ((c : Thread nD τ).loc main_arg2)) (m ((c : Thread nD τ).loc main_arg3)) := by
  have e : Pipeline.afterTail₀ cfgs (dats m) 0 (V0 m) [hostOps1] c main_v1
      = extractStridedSlice S4096x2048 ![0, 0] ((dats m 0 c).arrAt 5 cfg0.N) slices_S4096x5120_S4096x2048_0_0 := by
    unfold Pipeline.afterTail₀
    simp only [hostOps1, List.flatten_cons, List.flatten_nil, List.cons_append, List.nil_append]
    after_results_simp
    exact congrArg (extractStridedSlice S4096x2048 ![0, 0] · slices_S4096x5120_S4096x2048_0_0)
      (Pipeline.withArrays_arr (cfgs 0).spec (by decide) c (V0 m c) (fun w => (dats m 0 c).arrAt w (cfgs 0).N) 5)
  rw [e]
  funext j
  have h0 : (j 0).val < 4096 := (j 0).isLt
  have h1 : (j 1).val < 2048 := (j 1).isLt
  refine (extractStridedSlice_apply _ _ _ j (ix2 (⟨(j 0).val, h0⟩ : Fin 4096) (⟨(j 1).val, by omega⟩ : Fin 5120)) (fun a => by fin_cases a <;> simp [ix2])).trans ?_
  rw [final_dz m c _ h1]
  unfold dzWide
  refine congrArg _ (funext fun a => ?_)
  match a with
  | 0 => rfl
  | 1 => exact Fin.ext (Nat.mod_eq_of_lt h1)

/-- The kernel runs; its results are the three gradients, and its arguments stay as they were. -/
theorem run_values (g : Dev nD → PrngReg) : θ_run defs (onTc (τ := τ) (main (F := Ideal))) ⟨m, fun _ => 0, g⟩ (fun r => ∀ c : Dev nD,
      r.2.mem ((c.tc : Thread nD τ).loc main_v0_0) = dyOf (m ((c : Thread nD τ).loc main_arg0)) (m ((c : Thread nD τ).loc main_arg1)) (m ((c : Thread nD τ).loc main_arg2)) (m ((c : Thread nD τ).loc main_arg3))
      ∧ r.2.mem ((c.tc : Thread nD τ).loc main_v1) = dzOf (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = Cert.Gate.dwOf (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (final_dy m c), ((h c).2 main_v1 (by decide)).trans (tail_dz m c), ((h c).1 6).trans (final_dw m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m g)

/-- The kernel and the reference leave the same values: the gradients of the activations, of the gate's argument and of the norm's weight. -/
theorem same_values [Cert.Pre_gate_finite.Facts] : Cert.algebraic_Kernel27Ideal_Reference27Ideal_pre_gate_finite := fun m g m' g' hpre hargs =>
  ⟨fun c => dyOf (m ((c : Thread nD τ).loc main_arg0)) (m ((c : Thread nD τ).loc main_arg1)) (m ((c : Thread nD τ).loc main_arg2)) (m ((c : Thread nD τ).loc main_arg3)),
    fun c => dzOf (m ((c : Thread nD τ).loc main_arg0)) (m ((c : Thread nD τ).loc main_arg1)) (m ((c : Thread nD τ).loc main_arg2)) (m ((c : Thread nD τ).loc main_arg3)),
    fun c => Cert.Gate.dwOf (m ((c : Thread nD τ).loc main_arg0)) (m ((c : Thread nD τ).loc main_arg1)) (m ((c : Thread nD τ).loc main_arg3)),
    run_values m g,
    (θ_run (Cert.Reference27Ideal.defs (F := Ideal)) _ _).mono
      (fun r h c => ⟨(h c).1.trans (by
          unfold Cert.Reference27Ideal.Value.res_main_v46
          rw [(hargs c).1, (hargs c).2.1, (hargs c).2.2.1, (hargs c).2.2.2]
          exact Cert.Reference27Ideal.Gate.ref_dy _ _ _ _),
        (h c).2.1.trans (by
          unfold Cert.Reference27Ideal.Value.res_main_v47
          rw [(hargs c).1, (hargs c).2.1, (hargs c).2.2.1, (hargs c).2.2.2]
          exact Cert.Reference27Ideal.Gate.ref_dz _ _ _ _ (fun r k => (reals_of_finite _ _ _ _ (hpre c) r k).2)
            (fun k => (reals_of_finite _ _ _ _ (hpre c) 0 k).1)),
        (h c).2.2.1.trans (by
          rw [(hargs c).1, (hargs c).2.1, (hargs c).2.2.2]
          exact Cert.Reference27Ideal.Gate.ref_dw _ _ _), (h c).2.2.2⟩) (Cert.Reference27Ideal.Value.run (F := Ideal) m' g')⟩

/-- The kernel runs and leaves its arguments as they were. -/
theorem frame_kernel : Cert.quiescent_Kernel27 := fun m ρ _ => Cert.Kernel27.Gen.frame m ρ

/-- The kernel over the extended reals. -/
theorem frame_kernel_ideal : Cert.quiescent_Kernel27Ideal := fun m ρ _ => frame m ρ

/-- The same where the precondition holds. -/
theorem frame_kernel_finite [Cert.Pre_gate_finite.Facts] : Cert.quiescent_Kernel27Ideal_pre_gate_finite := fun m ρ _ => frame m ρ

/-- The reference runs and leaves its arguments as they were. -/
theorem frame_reference : Cert.quiescent_Reference27Ideal := fun m ρ _ =>
  (θ_run (Cert.Reference27Ideal.defs (F := Ideal)) _ _).mono (fun r h => ⟨fun c => (h c).2.2.2, sem_eq_zero_of_no_sems (by decide) r.2⟩)
    (Cert.Reference27Ideal.Value.run (F := Ideal) m ρ)

/-- The same where the precondition holds. -/
theorem frame_reference_finite [Cert.Pre_gate_finite.Facts] : Cert.quiescent_Reference27Ideal_pre_gate_finite := fun m ρ _ =>
  frame_reference m ρ trivial

end Cert.Kernel27Ideal.Gate
end
-- ==== Proof.Gate.lean ====
/- The gate and the norm by groups at the end of the state-space mixer: the forward pass. -/
module

public import proofs.«01_k».proof.Proof.Products
public import proofs.«01_k».proof.Proof.GateMath
public import proofs.«01_k».proof.Defs
public import proofs.«01_k».proof.Proof.Gen.Kernel28.Frame
public import proofs.«01_k».proof.Proof.Gen.Kernel28Ideal.Value
public import proofs.«01_k».proof.Proof.Gen.Reference28Ideal.Run

@[expose] public section

set_option maxRecDepth 16384

noncomputable section

open Idealize.ShloMosaic Idealize.ShloMosaic.TcCoe Cert.Products Cert.NormGrad Cert.Gate

namespace Cert.Reference28Ideal.Gate
open Cert.Reference28Ideal Cert.Reference28Ideal.Gen

/-- The reference's result, operation by operation. -/
theorem ref_out (Y : FVec Ideal S4096x2048 .f32) (Z : FVec Ideal S4096x5120 .f32) (W : FVec Ideal S1x2048 .f32) :
    (let z : FVec Ideal S4096x2048 .f32 := extractStridedSlice S4096x2048 ![0, 0] Z slices_S4096x5120_S4096x2048_0_0
     let one : FVec Ideal S4096x2048 .f32 := broadcastInDim S4096x2048 ![] bcast_S_S4096x2048 (constant S_ .f32 0x3F800000#32)
     let g : FVec Ideal S4096x4x512 .f32 :=
       shapeCast S4096x4x512 (mulf Y (mulf z (Host.divf one (addf one (Host.exp (Host.negf z)))))) shapeCasts_S4096x2048_S4096x4x512
     let ss := Host.reduceAdd (mulf g g) (constant S_ .f32 0x00000000#32) reducesTo_S4096x4x512_S4096x4_d2 h_S_
     let r : FVec Ideal S4096x4x1 .f32 := Host.rsqrt (addf
       (Host.divf (broadcastInDim S4096x4x1 ![0, 1] bcast_S4096x4_S4096x4x1_0_1 ss)
         (broadcastInDim S4096x4x1 ![] bcast_S_S4096x4x1 (constant S_ .f32 0x44000000#32)))
       (broadcastInDim S4096x4x1 ![] bcast_S_S4096x4x1 (constant S_ .f32 0x358637BD#32)))
     let w := broadcastInDim S4096x4x512 ![0, 1, 2] bcast_S1x4x512_S4096x4x512_0_1_2
       (broadcastInDim S1x4x512 ![1, 2] bcast_S4x512_S1x4x512_1_2 (shapeCast S4x512 W shapeCasts_S1x2048_S4x512))
     truncf .bf16 (shapeCast S4096x2048
       (mulf (mulf g (broadcastInDim S4096x4x512 ![0, 1, 2] bcast_S4096x4x1_S4096x4x512_0_1_2 r)) w)
       shapeCasts_S4096x4x512_S4096x2048) bitsLt_bf16_f32) = outOf Y Z W := by
  funext j
  pointwise [outOf, gatedRow, gated, zAt, rs, ms, len512, sgm]
end Cert.Reference28Ideal.Gate

namespace Cert.Kernel28Ideal.Gate
open Cert.Kernel28Ideal Cert.Kernel28Ideal.Gen

/-- Which block of each array a grid step works on. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

variable (m : (ℓ : Loc nD τ sig) → Buf (Elt Ideal) ℓ) (c : Dev nD)

/-- A grid step's block of the gate's argument. -/
theorem zblk (t : Fin cfg0.N) (x : S256x2048.Idx) : X0_1 m c t x
    = m ((c : Thread nD τ).loc main_arg1) (ix2 (⟨256 * t.val + (x 0).val, by have := lt_of_lt_of_eq t.isLt N_0; have := (x 0).isLt; simp at this; omega⟩ : Fin 4096)
      (⟨(x 1).val, by have := (x 1).isLt; simp at this; omega⟩ : Fin 5120)) := by
  unfold X0_1 Pipeline.Window.fill
  rw [dif_pos (moved0_1 t _)]
  blk_point [iblk, V, idx t]

/-- The result after the run. -/
theorem final : (dats m 0 c).arrAt 3 cfg0.N = outOf (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  simp only [outOf, gatedRow, gated, zAt, len512, rs, ms, ← sgmTanh_eq]
  canon_tiles x h
  all_goals
    pointwise [k0_pay1, k0_pay2, k0_pay3, k0_pay4, k0_pay5, outOf, gatedRow, gated, zAt, len512, rs, ms, sgmTanh]
    simp only [zblk]
    blk_point [iblk, V, idx t]
    blk_simp [idx t]
    omega

/-- The kernel's result is the reference's, of any arguments. -/
theorem same_values : Cert.algebraic_Kernel28Ideal_Reference28Ideal := fun m g m' g' _ hargs =>
  ⟨fun c => outOf (m ((c.tc : Thread nD τ).loc main_arg0)) (m ((c.tc : Thread nD τ).loc main_arg1)) (m ((c.tc : Thread nD τ).loc main_arg2)),
    (θ_run defs _ _).mono (fun r h c => ⟨(h c).1.trans (final m c), (h c).2⟩) (Cert.Kernel28Ideal.Value.run_blocks (F := Ideal) m g),
    (θ_run (Cert.Reference28Ideal.defs (F := Ideal)) _ _).mono
      (fun r h c => ⟨(h c).1.trans (by
          rw [(hargs c).1, (hargs c).2.1, (hargs c).2.2]
          exact Cert.Reference28Ideal.Gate.ref_out _ _ _), (h c).2⟩) (Cert.Reference28Ideal.Value.run (F := Ideal) m' g')⟩

/-- The kernel runs and leaves its arguments as they were. -/
theorem frame_kernel : Cert.quiescent_Kernel28 := fun m ρ _ => Cert.Kernel28.Gen.frame m ρ

/-- The kernel over the extended reals. -/
theorem frame_kernel_ideal : Cert.quiescent_Kernel28Ideal := fun m ρ _ => frame m ρ

/-- The reference runs and leaves its arguments as they were. -/
theorem frame_reference : Cert.quiescent_Reference28Ideal := fun m ρ _ =>
  (θ_run (Cert.Reference28Ideal.defs (F := Ideal)) _ _).mono (fun r h => ⟨fun c => (h c).2, sem_eq_zero_of_no_sems (by decide) r.2⟩)
    (Cert.Reference28Ideal.Value.run (F := Ideal) m ρ)

end Cert.Kernel28Ideal.Gate
end
-- ==== Proof.Same.lean ====
/- The kernel as printed and the kernel read at the ideal instance are one program: the same text twice. -/
module
public import proofs.«01_k».proof.Defs
public import proofs.«01_k».proof.Proof.Gen.Kernel
public import proofs.«01_k».proof.Proof.Gen.KernelIdeal
@[expose] public section
set_option maxRecDepth 16384
noncomputable section
namespace Cert.Same
open Idealize.ShloMosaic Idealize.SL.Sem
variable {F : FTy → Type} [FloatOps F]

/-- The two bodies are one. -/
theorem body_eq : @Cert.Kernel.cc0_sb_bwd F _ _ = @Cert.KernelIdeal.cc0_sb_bwd F _ _ := rfl

set_option maxHeartbeats 1000000 in
/-- The two tables of bodies are one. -/
theorem bodies_eq : (Cert.Kernel.defs₀ : Defs Cert.Kernel.nD Cert.Kernel.τ Cert.Kernel.sig (Elt F) Cert.Kernel.Λ₀)
    = Cert.KernelIdeal.defs₀ := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun
      (congrFun (congrFun (congrFun (congrFun (congrFun (congrFun (congrFun (congrFun (congrFun (congrFun (congrFun (congrFun
      (congrFun body_eq _) _) _) _) _) _) _) _) _) _) _) _) _) _) _) _) _) _) _) _) _) _) _
  | ⟨_ + 1, h⟩, _ => exact absurd h (Nat.not_lt.2 (Nat.le_add_left _ _))

set_option maxHeartbeats 4000000 in
/-- The two tables of programs are one. -/
theorem defs_eq : @Cert.Kernel.defs F _ _ = @Cert.KernelIdeal.defs F _ _ :=
  congrArg (Pipeline.defs (Cert.Kernel.pcfgs (F := F))) bodies_eq

set_option maxHeartbeats 4000000 in
/-- The two main programs are one. -/
theorem main_eq : @Cert.Kernel.main F _ _ = @Cert.KernelIdeal.main F _ _ := rfl

end Cert.Same

end
-- ==== Proof.Pay.lean ====
/- The payloads of the walk over the key blocks before the diagonal, at real arrays: the real sums of the mathematics. -/
module
public import proofs.«01_k».proof.Proof.Model
public import proofs.«01_k».proof.Proof.Reals
public import Idealize.ShloMosaic.Lib.WordCmp
@[expose] public section
set_option maxRecDepth 16384
noncomputable section
namespace Cert.KernelIdeal.Attn
open Idealize.ShloMosaic Cert.KernelIdeal.Gen Cert.Stick

/-- The kernel's two triangles of ones. -/
theorem tri_le (a b : Fin 256) : k0_pay40 (F := Ideal) (ix2 a b) = ((if (a : ℕ) < b + 1 then 1 else 0 : ℝ) : EReal) := by
  pointwise [k0_pay40]
  simp (disch := word_cmp_side) only [hlo_ix]
  rw [bit_coe]; simp only [Nat.lt_succ_iff]
theorem tri_lt (a b : Fin 256) : k0_pay41 (F := Ideal) (ix2 a b) = ((if (a : ℕ) < b then 1 else 0 : ℝ) : EReal) := by
  pointwise [k0_pay41]
  simp (disch := word_cmp_side) only [hlo_ix]
  rw [bit_coe]

section Walk
variable (H : Head) (R C : ℕ) (q d : FVec Ideal S512x64 .bf16) (l : FVec Ideal S1x512x1 .f32) (kb vb : FVec Ideal S256x64 .bf16)
  (pl pg : FVec Ideal S512x1 .f32)
  (hq : ∀ (r : Fin 512) (x : Fin 64), q (ix2 r x) = ((H.q (R + r) x : ℝ) : EReal))
  (hd : ∀ (r : Fin 512) (x : Fin 64), d (ix2 r x) = ((H.d (R + r) x : ℝ) : EReal))
  (hl : ∀ (r : Fin 512), l (ix3 0 r 0) = ((H.lt (R + r) : ℝ) : EReal))
  (hk : ∀ (c : Fin 256) (x : Fin 64), kb (ix2 c x) = ((H.k (C + c) x : ℝ) : EReal))
  (hv : ∀ (c : Fin 256) (x : Fin 64), vb (ix2 c x) = ((H.v (C + c) x : ℝ) : EReal))
  (hpl : ∀ (r : Fin 512), pl (ix2 r 0) = ((H.PL (R + r) C : ℝ) : EReal))
  (hpg : ∀ (r : Fin 512), pg (ix2 r 0) = ((H.PG (R + r) C : ℝ) : EReal))
  (hRC : C + 256 ≤ R)

include hq hk in
theorem pay5_real (r : Fin 512) (c : Fin 256) :
    k0_pay5 (F := Ideal) (k0_pay43 q) kb (ix2 r c) = ((H.z (R + r) (C + c) : ℝ) : EReal) := by
  pointwise [k0_pay5, k0_pay43]
  simp only [hq, hk, eighth, ← EReal.coe_mul, coe_sum, zero_add]
  unfold Head.z
  rw [Finset.sum_range]

include hq hk in
theorem pay6_real (r : Fin 512) (c : Fin 256) :
    k0_pay6 (F := Ideal) (k0_pay43 q) kb (ix2 r c) = ((lsm (H.z (R + r) (C + c)) : ℝ) : EReal) := by
  pointwise [k0_pay6]
  rw [pay5_real H R C q kb hq hk, lsm_coe]

include hq hk in
theorem pay7_real (r : Fin 512) (c : Fin 256) :
    k0_pay7 (F := Ideal) (k0_pay43 q) kb (ix2 r c)
      = ((H.z (R + r) (C + c) + lsm (H.z (R + r) (C + c)) : ℝ) : EReal) := by
  pointwise [k0_pay7]
  rw [pay5_real H R C q kb hq hk, pay6_real H R C q kb hq hk, EReal.coe_add]

include hq hk hRC in
/-- The running sum within a block before the diagonal. -/
theorem mPre_real (r : Fin 512) (c : Fin 256) :
    mPre (F := Ideal) q kb (ix2 r c) = ((∑ k ∈ Finset.range (c + 1), H.L (R + r) (C + k) : ℝ) : EReal) := by
  unfold mPre
  pointwise [k0_pay8]
  simp only [pay6_real H R C q kb hq hk, tri_le, zero_add]
  rw [coe_split, ← sum_tri _ _ (show (c : ℕ) + 1 ≤ 256 from c.isLt)]
  congr 1
  refine Finset.sum_congr rfl fun k _ => ?_
  rw [Head.L, if_pos (show C + (k : ℕ) < R + r by omega)]

include hq hk hl hpl hRC in
/-- The weights of a block before the diagonal. -/
theorem mAtt_real (r : Fin 512) (c : Fin 256) :
    mAtt (F := Ideal) q l pl kb (ix2 r c) = ((H.att (R + r) (C + c) : ℝ) : EReal) := by
  unfold mAtt
  pointwise [k0_pay9, k0_pay44]
  rw [pay7_real H R C q kb hq hk, show k0_pay8 (F := Ideal) k0_pay40 (k0_pay43 q) kb (ix2 r c) = _ from mPre_real H R C q kb hq hk hRC r c]
  rw [hl, hpl]
  simp only [← EReal.coe_add, ← EReal.coe_sub, exp_coe]
  rw [Head.att, if_pos (show C + (c : ℕ) < R + r by omega), show C + (c : ℕ) + 1 = C + (c + 1) by omega, H.PL_add]
  simp only [add_comm]

include hq hd hl hk hv hpl hRC in
/-- The weights' cotangents. -/
theorem mG_real (r : Fin 512) (c : Fin 256) :
    mG (F := Ideal) q d l pl kb vb (ix2 r c) = ((H.g (R + r) (C + c) : ℝ) : EReal) := by
  unfold mG
  pointwise [k0_pay10]
  rw [show k0_pay9 (F := Ideal) k0_pay40 (k0_pay43 q) (k0_pay44 l) pl kb (ix2 r c) = _ from
    mAtt_real H R C q l kb pl hq hl hk hpl hRC r c]
  simp only [hd, hv, ← EReal.coe_mul, coe_sum, zero_add]
  unfold Head.g Head.dv
  rw [Finset.sum_range]

include hq hd hl hk hv hpl hRC in
/-- Their running sum within the block. -/
theorem mGp_real (r : Fin 512) (c : Fin 256) :
    mGp (F := Ideal) q d l pl kb vb (ix2 r c) = ((∑ k ∈ Finset.range c, H.g (R + r) (C + k) : ℝ) : EReal) := by
  unfold mGp
  pointwise [k0_pay11]
  simp only [show ∀ k : Fin 256, k0_pay10 (F := Ideal) k0_pay40 (k0_pay43 q) d (k0_pay44 l) pl kb vb (ix2 r k) = _ from
    mG_real H R C q d l kb vb pl hq hd hl hk hv hpl hRC r, tri_lt, zero_add]
  rw [coe_split, sum_tri (fun k => H.g (R + r) (C + k)) _ c.isLt.le]

include hq hd hl hk hv hpl hpg hRC in
/-- The term the score's gradient subtracts. -/
theorem mSg_real (r : Fin 512) (c : Fin 256) :
    mSg (F := Ideal) q d l pl pg kb vb (ix2 r c)
      = ((Real.exp (H.z (R + r) (C + c) + lsm (H.z (R + r) (C + c))) * (H.g (R + r) (C + c) + H.PG (R + r) (C + c)) : ℝ) : EReal) := by
  unfold mSg
  pointwise [k0_pay12]
  rw [pay7_real H R C q kb hq hk,
    show k0_pay10 (F := Ideal) k0_pay40 (k0_pay43 q) d (k0_pay44 l) pl kb vb (ix2 r c) = _ from
      mG_real H R C q d l kb vb pl hq hd hl hk hv hpl hRC r c,
    show k0_pay11 (F := Ideal) k0_pay40 k0_pay41 (k0_pay43 q) d (k0_pay44 l) pl kb vb (ix2 r c) = _ from
      mGp_real H R C q d l kb vb pl hq hd hl hk hv hpl hRC r c, hpg]
  simp only [← EReal.coe_add, ← EReal.coe_mul, exp_coe]
  rw [H.PG_add, add_comm (H.PG _ _)]

include hq hd hl hk hv hpl hpg hRC in
/-- The score's gradient. -/
theorem dz_real (r : Fin 512) (c : Fin 256) :
    k0_pay46 (F := Ideal) (mG q d l pl kb vb) (mSg q d l pl pg kb vb) (ix2 r c) = ((H.dz (R + r) (C + c) : ℝ) : EReal) := by
  pointwise [k0_pay46]
  rw [mG_real H R C q d l kb vb pl hq hd hl hk hv hpl hRC r c, mSg_real H R C q d l kb vb pl pg hq hd hl hk hv hpl hpg hRC r c,
    ← EReal.coe_sub, Head.dz, if_pos (show C + (c : ℕ) < R + r by omega)]

include hq hd hl hk hv hpl hpg hRC in
/-- One more block of the rows of the gradient of q. -/
theorem dq_real (a : FVec Ideal S512x64 .f32) (ha : ∀ (r : Fin 512) (x : Fin 64), a (ix2 r x) = ((H.DQ (R + r) x C : ℝ) : EReal))
    (r : Fin 512) (x : Fin 64) :
    k0_pay47 (F := Ideal) a kb (mG q d l pl kb vb) (mSg q d l pl pg kb vb) (ix2 r x)
      = ((H.DQ (R + r) x (C + 256) : ℝ) : EReal) := by
  pointwise [k0_pay47]
  simp only [dz_real H R C q d l kb vb pl pg hq hd hl hk hv hpl hpg hRC, ha, hk, ← EReal.coe_mul, coe_sum, zero_add,
    ← EReal.coe_add]
  rw [H.DQ_add, Finset.sum_range]

include hq hd hl hk hv hpl hpg hRC in
/-- The block's share of the gradient of k. -/
theorem dk_real (D : FVec Ideal S256x64 .f32) (a : Fin 256 → Fin 64 → ℝ) (hD : ∀ c x, D (ix2 c x) = ((a c x : ℝ) : EReal))
    (c : Fin 256) (x : Fin 64) :
    k0_pay48 (F := Ideal) q (mG q d l pl kb vb) (mSg q d l pl pg kb vb) D (ix2 c x)
      = ((a c x + H.DK R 512 (C + c) x : ℝ) : EReal) := by
  pointwise [k0_pay48, k0_pay43]
  simp only [dz_real H R C q d l kb vb pl pg hq hd hl hk hv hpl hpg hRC, hD, hq, eighth, ← EReal.coe_mul, coe_sum, zero_add,
    ← EReal.coe_add]
  unfold Head.DK
  rw [Finset.sum_range]

include hq hd hl hk hpl hRC in
/-- The block's share of the gradient of v. -/
theorem dv_real (D : FVec Ideal S256x64 .f32) (a : Fin 256 → Fin 64 → ℝ) (hD : ∀ c x, D (ix2 c x) = ((a c x : ℝ) : EReal))
    (c : Fin 256) (x : Fin 64) :
    k0_pay49 (F := Ideal) d (mAtt q l pl kb) D (ix2 c x) = ((a c x + H.DV R 512 (C + c) x : ℝ) : EReal) := by
  pointwise [k0_pay49]
  simp only [mAtt_real H R C q l kb pl hq hl hk hpl hRC, hD, hd, ← EReal.coe_mul, coe_sum, zero_add, ← EReal.coe_add]
  unfold Head.DV
  rw [Finset.sum_range]

include hq hk hpl hRC in
/-- The row sums after the block. -/
theorem pl_real (r : Fin 512) : k0_pay50 (F := Ideal) pl (mPre q kb) (ix2 r 0) = ((H.PL (R + r) (C + 256) : ℝ) : EReal) := by
  pointwise [k0_pay50]
  rw [hpl, mPre_real H R C q kb hq hk hRC r 255, ← EReal.coe_add, H.PL_add]
  rfl

include hq hd hl hk hv hpl hpg hRC in
theorem pg_real (r : Fin 512) :
    k0_pay51 (F := Ideal) pg (mG q d l pl kb vb) (mGp q d l pl kb vb) (ix2 r 0) = ((H.PG (R + r) (C + 256) : ℝ) : EReal) := by
  pointwise [k0_pay51]
  rw [hpg, mGp_real H R C q d l kb vb pl hq hd hl hk hv hpl hRC r 255,
    mG_real H R C q d l kb vb pl hq hd hl hk hv hpl hRC r 255, ← EReal.coe_add, ← EReal.coe_add, H.PG_add,
    ← Finset.sum_range_succ (fun k => H.g (R + r) (C + k))]
  rfl

end Walk

end Cert.KernelIdeal.Attn
-- ==== Proof.Diag.lean ====
/- The payloads of the two blocks on the diagonal, at real arrays. -/
module
public import proofs.«01_k».proof.Proof.Pay
public import Idealize.ShloMosaic.Lib.WordCmp
@[expose] public section
set_option maxRecDepth 16384
noncomputable section
namespace Cert.KernelIdeal.Attn
open Idealize.ShloMosaic Cert.KernelIdeal.Gen Cert.Stick

theorem sub_toInt (a b : ℕ) (ha : a < 1000) (hb : b < 1000) :
    (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat']
  simp only [Int.bmod]
  norm_num
  omega

/-- The masks of the two blocks on the diagonal. -/
theorem mask0 (r : Fin 512) (c : Fin 256) : k0_pay58 k0_pay39 (ix2 r c) = BitVec.ofBool (decide ((c : ℕ) < r)) := by
  pointwise [k0_pay58, k0_pay39]
  rw [show ∀ x y : BitVec 32, IntOp.cmpi .slt x y = BitVec.ofBool (decide (x.toInt < y.toInt)) from fun _ _ => rfl,
    sub_toInt _ _ (by omega) (by omega)]
  congr 2
  show ((c : ℤ) - r < 0) = _
  simp
theorem mask1 (r : Fin 256) (c : Fin 256) : k0_pay76 k0_pay39 (ix2 r c) = BitVec.ofBool (decide ((c : ℕ) < r)) := by
  pointwise [k0_pay76, k0_pay39]
  rw [show ∀ x y : BitVec 32, IntOp.cmpi .slt x y = BitVec.ofBool (decide (x.toInt < y.toInt)) from fun _ _ => rfl,
    sub_toInt _ _ (by omega) (by omega), show (4294967040#32 : BitVec 32).toInt = -256 by decide]
  congr 2
  refine propext ⟨fun h => ?_, fun h => ?_⟩ <;> push_cast at * <;> omega

/-- A choice by a comparison's bit. -/
theorem select_coe (p : Prop) [Decidable p] (a b : ℝ) :
    Scalar.select (BitVec.ofBool (decide p)) (a : EReal) (b : EReal) = ((if p then a else b : ℝ) : EReal) := by
  by_cases h : p <;> simp [h, Scalar.select]

section Diag
variable (H : Head) (R : ℕ) (q d : FVec Ideal S512x64 .bf16) (l : FVec Ideal S1x512x1 .f32) (kb vb : FVec Ideal S256x64 .bf16)
  (pl pg : FVec Ideal S512x1 .f32)
  (hq : ∀ (r : Fin 512) (x : Fin 64), q (ix2 r x) = ((H.q (R + r) x : ℝ) : EReal))
  (hd : ∀ (r : Fin 512) (x : Fin 64), d (ix2 r x) = ((H.d (R + r) x : ℝ) : EReal))
  (hl : ∀ (r : Fin 512), l (ix3 0 r 0) = ((H.lt (R + r) : ℝ) : EReal))
  (hk : ∀ (c : Fin 256) (x : Fin 64), kb (ix2 c x) = ((H.k (R + c) x : ℝ) : EReal))
  (hv : ∀ (c : Fin 256) (x : Fin 64), vb (ix2 c x) = ((H.v (R + c) x : ℝ) : EReal))
  (hpl : ∀ (r : Fin 512), pl (ix2 r 0) = ((H.PL (R + r) R : ℝ) : EReal))
  (hpg : ∀ (r : Fin 512), pg (ix2 r 0) = ((H.PG (R + r) R : ℝ) : EReal))

include hq in
theorem pay43_real (r : Fin 512) (x : Fin 64) :
    k0_pay43 (F := Ideal) q (ix2 r x) = ((H.q (R + r) x * (1 / 8) : ℝ) : EReal) := by
  pointwise [k0_pay43]
  rw [hq, eighth, EReal.coe_mul]

include hq hk in
theorem pay59_real (r : Fin 512) (c : Fin 256) :
    k0_pay59 (F := Ideal) (k0_pay43 q) kb (ix2 r c) = ((H.z (R + r) (R + c) : ℝ) : EReal) := by
  pointwise [k0_pay59, k0_pay43]
  simp only [hq, hk, eighth, ← EReal.coe_mul, coe_sum, zero_add]
  unfold Head.z
  rw [Finset.sum_range]

include hq hk in
theorem pay60_real (r : Fin 512) (c : Fin 256) :
    k0_pay60 (F := Ideal) (k0_pay43 q) kb (ix2 r c) = ((lsm (H.z (R + r) (R + c)) : ℝ) : EReal) := by
  pointwise [k0_pay60]
  rw [pay59_real H R q kb hq hk, lsm_coe]

include hq hk in
theorem pay61_real (r : Fin 512) (c : Fin 256) :
    k0_pay61 (F := Ideal) (k0_pay43 q) kb (ix2 r c)
      = ((H.z (R + r) (R + c) + lsm (H.z (R + r) (R + c)) : ℝ) : EReal) := by
  pointwise [k0_pay61]
  rw [pay59_real H R q kb hq hk, pay60_real H R q kb hq hk, EReal.coe_add]

include hq hk in
theorem pay62_real (r : Fin 512) (c : Fin 256) :
    k0_pay62 (F := Ideal) k0_pay39 k0_pay40 (k0_pay43 q) kb (ix2 r c)
      = ((∑ k ∈ Finset.range (c + 1), H.L (R + r) (R + k) : ℝ) : EReal) := by
  pointwise [k0_pay62]
  simp only [mask0, pay60_real H R q kb hq hk, tri_le, zero_add, ← EReal.coe_zero, ← EReal.coe_mul, select_coe, ← EReal.coe_sub,
    sub_self, zero_mul, coe_sum, ← EReal.coe_add, Finset.sum_const_zero, add_zero]
  rw [← sum_tri _ _ (show (c : ℕ) + 1 ≤ 256 from c.isLt)]
  simp only [Head.L, Nat.add_lt_add_iff_left, ite_mul, zero_mul]

include hq hk hl hpl in
theorem pay63_real (r : Fin 512) (c : Fin 256) :
    k0_pay63 (F := Ideal) k0_pay39 k0_pay40 (k0_pay43 q) (k0_pay44 l) pl kb (ix2 r c) = ((H.att (R + r) (R + c) : ℝ) : EReal) := by
  pointwise [k0_pay63, k0_pay44]
  rw [pay61_real H R q kb hq hk, pay62_real H R q kb hq hk, hl, hpl, mask0]
  simp only [← EReal.coe_add, ← EReal.coe_sub, exp_coe, ← EReal.coe_zero, select_coe]
  simp only [Head.att, Nat.add_lt_add_iff_left]
  rw [show R + (c : ℕ) + 1 = R + (c + 1) by omega, H.PL_add, add_comm (H.PL _ _)]

include hq hd hl hk hv hpl in
theorem pay64_real (r : Fin 512) (c : Fin 256) :
    k0_pay64 (F := Ideal) k0_pay39 k0_pay40 (k0_pay43 q) d (k0_pay44 l) pl kb vb (ix2 r c) = ((H.g (R + r) (R + c) : ℝ) : EReal) := by
  pointwise [k0_pay64]
  rw [pay63_real H R q l kb pl hq hl hk hpl]
  simp only [hd, hv, ← EReal.coe_mul, coe_sum, zero_add]
  unfold Head.g Head.dv
  rw [Finset.sum_range]

/-- The values the diagonal's first block hands on. -/
abbrev dg (q d : FVec Ideal S512x64 .bf16) (l : FVec Ideal S1x512x1 .f32) (kb vb : FVec Ideal S256x64 .bf16)
    (pl : FVec Ideal S512x1 .f32) := k0_pay64 (F := Ideal) k0_pay39 k0_pay40 (k0_pay43 q) d (k0_pay44 l) pl kb vb
abbrev dg1 (q d : FVec Ideal S512x64 .bf16) (l : FVec Ideal S1x512x1 .f32) (kb vb : FVec Ideal S256x64 .bf16)
    (pl : FVec Ideal S512x1 .f32) := k0_pay66 (F := Ideal) k0_pay39 k0_pay40 (k0_pay43 q) d (k0_pay44 l) pl kb vb
abbrev dg2 (q d : FVec Ideal S512x64 .bf16) (l : FVec Ideal S1x512x1 .f32) (kb vb : FVec Ideal S256x64 .bf16)
    (pl : FVec Ideal S512x1 .f32) := k0_pay67 (F := Ideal) k0_pay39 k0_pay40 (k0_pay43 q) d (k0_pay44 l) pl kb vb

include hq hd hl hk hv hpl in
theorem dg_real (r : Fin 512) (c : Fin 256) : dg q d l kb vb pl (ix2 r c) = ((H.g (R + r) (R + c) : ℝ) : EReal) :=
  pay64_real H R q d l kb vb pl hq hd hl hk hv hpl r c

include hq hd hl hk hv hpl in
theorem pay68_real (r : Fin 512) (c : Fin 256) :
    k0_pay68 (F := Ideal) (dg q d l kb vb pl) (k0_pay65 k0_pay41) (dg1 q d l kb vb pl) (dg2 q d l kb vb pl) (ix2 r c)
      = ((∑ k ∈ Finset.range c, H.g (R + r) (R + k) : ℝ) : EReal) := by
  pointwise [k0_pay68, k0_pay65, k0_pay66, k0_pay67]
  simp only [pay64_real H R q d l kb vb pl hq hd hl hk hv hpl, tri_lt, zero_add]
  rw [coe_split, sum_tri (fun k => H.g (R + r) (R + k)) _ c.isLt.le]

include hq hd hl hk hv hpl hpg in
theorem pay69_real (r : Fin 512) (c : Fin 256) :
    k0_pay69 (F := Ideal) pg (k0_pay58 k0_pay39) (k0_pay61 (k0_pay43 q) kb) (dg q d l kb vb pl) (k0_pay65 k0_pay41)
        (dg1 q d l kb vb pl) (dg2 q d l kb vb pl) (ix2 r c)
      = ((H.dz (R + r) (R + c) : ℝ) : EReal) := by
  pointwise [k0_pay69]
  rw [pay61_real H R q kb hq hk, dg_real H R q d l kb vb pl hq hd hl hk hv hpl,
    pay68_real H R q d l kb vb pl hq hd hl hk hv hpl, hpg, mask0]
  simp only [← EReal.coe_add, ← EReal.coe_sub, ← EReal.coe_mul, exp_coe, ← EReal.coe_zero, select_coe]
  simp only [Head.dz, Nat.add_lt_add_iff_left]
  rw [H.PG_add, add_comm (H.PG _ _)]

include hq hd hl hk hv hpl hpg in
theorem pay70_real (a : FVec Ideal S512x64 .f32) (ha : ∀ (r : Fin 512) (x : Fin 64), a (ix2 r x) = ((H.DQ (R + r) x R : ℝ) : EReal))
    (r : Fin 512) (x : Fin 64) :
    k0_pay70 (F := Ideal) a pg (k0_pay58 k0_pay39) kb (k0_pay61 (k0_pay43 q) kb) (dg q d l kb vb pl) (k0_pay65 k0_pay41)
        (dg1 q d l kb vb pl) (dg2 q d l kb vb pl) (ix2 r x)
      = ((H.DQ (R + r) x (R + 256) : ℝ) : EReal) := by
  pointwise [k0_pay70]
  simp only [pay69_real H R q d l kb vb pl pg hq hd hl hk hv hpl hpg, ha, hk, ← EReal.coe_mul, coe_sum, zero_add,
    ← EReal.coe_add]
  rw [H.DQ_add, Finset.sum_range]

include hq hd hl hk hv hpl hpg in
theorem pay71_real (D : FVec Ideal S256x64 .f32) (a : Fin 256 → Fin 64 → ℝ) (hD : ∀ c x, D (ix2 c x) = ((a c x : ℝ) : EReal))
    (c : Fin 256) (x : Fin 64) :
    k0_pay71 (F := Ideal) (k0_pay43 q) pg (k0_pay58 k0_pay39) (k0_pay61 (k0_pay43 q) kb) (dg q d l kb vb pl) (k0_pay65 k0_pay41)
        (dg1 q d l kb vb pl) (dg2 q d l kb vb pl) D (ix2 c x)
      = ((a c x + H.DK R 512 (R + c) x : ℝ) : EReal) := by
  pointwise [k0_pay71]
  simp only [pay69_real H R q d l kb vb pl pg hq hd hl hk hv hpl hpg, hD, pay43_real H R q hq, ← EReal.coe_mul, coe_sum, zero_add,
    ← EReal.coe_add]
  unfold Head.DK
  rw [Finset.sum_range]

include hq hd hl hk hpl in
theorem pay72_real (D : FVec Ideal S256x64 .f32) (a : Fin 256 → Fin 64 → ℝ) (hD : ∀ c x, D (ix2 c x) = ((a c x : ℝ) : EReal))
    (c : Fin 256) (x : Fin 64) :
    k0_pay72 (F := Ideal) d (k0_pay63 k0_pay39 k0_pay40 (k0_pay43 q) (k0_pay44 l) pl kb) D (ix2 c x)
      = ((a c x + H.DV R 512 (R + c) x : ℝ) : EReal) := by
  pointwise [k0_pay72]
  simp only [pay63_real H R q l kb pl hq hl hk hpl, hD, hd, ← EReal.coe_mul, coe_sum, zero_add, ← EReal.coe_add]
  unfold Head.DV
  rw [Finset.sum_range]

include hq hk hpl in
theorem pay74_real (r : Fin 256) :
    k0_pay74 (F := Ideal) pl (k0_pay62 k0_pay39 k0_pay40 (k0_pay43 q) kb) (ix2 r 0)
      = ((H.PL (R + 256 + r) (R + 256) : ℝ) : EReal) := by
  pointwise [k0_pay74]
  rw [hpl, pay62_real H R q kb hq hk _ 255, ← EReal.coe_add, H.PL_add, add_assoc R 256]
  rfl

include hq hd hl hk hv hpl hpg in
theorem pay75_real (r : Fin 256) :
    k0_pay75 (F := Ideal) pg (dg q d l kb vb pl) (k0_pay65 k0_pay41) (dg1 q d l kb vb pl) (dg2 q d l kb vb pl) (ix2 r 0)
      = ((H.PG (R + 256 + r) (R + 256) : ℝ) : EReal) := by
  pointwise [k0_pay75]
  rw [hpg, pay68_real H R q d l kb vb pl hq hd hl hk hv hpl _ 255, dg_real H R q d l kb vb pl hq hd hl hk hv hpl _ 255,
    ← EReal.coe_add, ← EReal.coe_add, ← Finset.sum_range_succ (fun k => H.g _ (R + k)), H.PG_add, add_assoc R 256]
  rfl

end Diag

section Low
variable (H : Head) (R : ℕ) (q d : FVec Ideal S512x64 .bf16) (l : FVec Ideal S1x512x1 .f32) (kb vb : FVec Ideal S256x64 .bf16)
  (pl pg : FVec Ideal S256x1 .f32)
  (hq : ∀ (r : Fin 512) (x : Fin 64), q (ix2 r x) = ((H.q (R + r) x : ℝ) : EReal))
  (hd : ∀ (r : Fin 512) (x : Fin 64), d (ix2 r x) = ((H.d (R + r) x : ℝ) : EReal))
  (hl : ∀ (r : Fin 512), l (ix3 0 r 0) = ((H.lt (R + r) : ℝ) : EReal))
  (hk : ∀ (c : Fin 256) (x : Fin 64), kb (ix2 c x) = ((H.k (R + 256 + c) x : ℝ) : EReal))
  (hv : ∀ (c : Fin 256) (x : Fin 64), vb (ix2 c x) = ((H.v (R + 256 + c) x : ℝ) : EReal))
  (hpl : ∀ (r : Fin 256), pl (ix2 r 0) = ((H.PL (R + 256 + r) (R + 256) : ℝ) : EReal))
  (hpg : ∀ (r : Fin 256), pg (ix2 r 0) = ((H.PG (R + 256 + r) (R + 256) : ℝ) : EReal))

include hq hk in
theorem pay77_real (r c : Fin 256) :
    k0_pay77 (F := Ideal) (k0_pay43 q) kb (ix2 r c) = ((H.z (R + 256 + r) (R + 256 + c) : ℝ) : EReal) := by
  pointwise [k0_pay77]
  simp only [pay43_real H R q hq, hk, ← EReal.coe_mul, coe_sum, zero_add]
  unfold Head.z
  rw [Finset.sum_range]
  simp only [add_assoc]

include hq hk in
theorem pay78_real (r c : Fin 256) :
    k0_pay78 (F := Ideal) (k0_pay43 q) kb (ix2 r c) = ((lsm (H.z (R + 256 + r) (R + 256 + c)) : ℝ) : EReal) := by
  pointwise [k0_pay78]
  rw [pay77_real H R q kb hq hk, lsm_coe]

include hq hk in
theorem pay79_real (r c : Fin 256) :
    k0_pay79 (F := Ideal) (k0_pay43 q) kb (ix2 r c)
      = ((H.z (R + 256 + r) (R + 256 + c) + lsm (H.z (R + 256 + r) (R + 256 + c)) : ℝ) : EReal) := by
  pointwise [k0_pay79]
  rw [pay77_real H R q kb hq hk, pay78_real H R q kb hq hk, EReal.coe_add]

include hq hk hl hpl in
theorem pay80_real (r c : Fin 256) :
    k0_pay80 (F := Ideal) k0_pay40 (k0_pay43 q) (k0_pay44 l) pl (k0_pay76 k0_pay39) kb (ix2 r c)
      = ((H.att (R + 256 + r) (R + 256 + c) : ℝ) : EReal) := by
  pointwise [k0_pay80, k0_pay44]
  simp only [mask1, pay79_real H R q kb hq hk, pay78_real H R q kb hq hk, tri_le, zero_add, ← EReal.coe_zero, ← EReal.coe_mul,
    select_coe, ← EReal.coe_sub, sub_self, zero_mul, coe_sum, ← EReal.coe_add, Finset.sum_const_zero, add_zero, hl, hpl, exp_coe]
  simp only [Head.att, Nat.add_lt_add_iff_left]
  rw [show R + 256 + (c : ℕ) + 1 = R + 256 + (c + 1) by omega, H.PL_add _ (R + 256) (c + 1), add_comm (H.PL _ _),
    ← sum_tri _ _ (show (c : ℕ) + 1 ≤ 256 from c.isLt)]
  simp only [Head.L, Nat.add_lt_add_iff_left, ite_mul, zero_mul, add_assoc]

include hq hd hl hk hv hpl in
theorem pay81_real (r c : Fin 256) :
    k0_pay81 (F := Ideal) k0_pay40 (k0_pay43 q) d (k0_pay44 l) pl (k0_pay76 k0_pay39) kb vb (ix2 r c)
      = ((H.g (R + 256 + r) (R + 256 + c) : ℝ) : EReal) := by
  pointwise [k0_pay81]
  rw [pay80_real H R q l kb pl hq hl hk hpl]
  simp only [hd, hv, ← EReal.coe_mul, coe_sum, zero_add]
  unfold Head.g Head.dv
  rw [Finset.sum_range]
  simp only [add_assoc]

/-- The values the diagonal's second block hands on. -/
abbrev eg (q d : FVec Ideal S512x64 .bf16) (l : FVec Ideal S1x512x1 .f32) (kb vb : FVec Ideal S256x64 .bf16)
    (pl : FVec Ideal S256x1 .f32) := k0_pay81 (F := Ideal) k0_pay40 (k0_pay43 q) d (k0_pay44 l) pl (k0_pay76 k0_pay39) kb vb
abbrev eg1 (q d : FVec Ideal S512x64 .bf16) (l : FVec Ideal S1x512x1 .f32) (kb vb : FVec Ideal S256x64 .bf16)
    (pl : FVec Ideal S256x1 .f32) := k0_pay84 (F := Ideal) k0_pay40 (k0_pay43 q) d (k0_pay44 l) pl (k0_pay76 k0_pay39) kb vb
abbrev eg2 (q d : FVec Ideal S512x64 .bf16) (l : FVec Ideal S1x512x1 .f32) (kb vb : FVec Ideal S256x64 .bf16)
    (pl : FVec Ideal S256x1 .f32) :=
  k0_pay85 (F := Ideal) k0_pay40 k0_pay41 (k0_pay43 q) d (k0_pay44 l) pl (k0_pay76 k0_pay39) kb vb

include hq hd hl hk hv hpl in
theorem eg_real (r c : Fin 256) : eg q d l kb vb pl (ix2 r c) = ((H.g (R + 256 + r) (R + 256 + c) : ℝ) : EReal) :=
  pay81_real H R q d l kb vb pl hq hd hl hk hv hpl r c

include hq hd hl hk hv hpl in
theorem eg1_real (r c : Fin 256) : eg1 q d l kb vb pl (ix2 r c) = ((0 : ℝ) : EReal) := by
  pointwise [eg1, k0_pay84, k0_pay83]
  rw [pay81_real H R q d l kb vb pl hq hd hl hk hv hpl, ← EReal.coe_sub, sub_self]

include hq hd hl hk hv hpl in
theorem eg2_real (r c : Fin 256) :
    eg2 q d l kb vb pl (ix2 r c) = ((∑ k ∈ Finset.range c, H.g (R + 256 + r) (R + 256 + k) : ℝ) : EReal) := by
  pointwise [eg2, k0_pay85, k0_pay83, k0_pay82]
  simp only [pay81_real H R q d l kb vb pl hq hd hl hk hv hpl, tri_lt, zero_add, ← EReal.coe_mul, coe_sum]
  rw [sum_tri (fun k => H.g (R + 256 + r) (R + 256 + k)) _ c.isLt.le]

include hq hd hl hk hv hpl hpg in
theorem pay86_real (r c : Fin 256) :
    k0_pay86 (F := Ideal) pg (k0_pay76 k0_pay39) (k0_pay79 (k0_pay43 q) kb) (eg q d l kb vb pl) (k0_pay82 k0_pay41)
        (eg1 q d l kb vb pl) (eg2 q d l kb vb pl) (ix2 r c)
      = ((H.dz (R + 256 + r) (R + 256 + c) : ℝ) : EReal) := by
  pointwise [k0_pay86]
  simp only [pay79_real H R q kb hq hk, eg_real H R q d l kb vb pl hq hd hl hk hv hpl,
    eg1_real H R q d l kb vb pl hq hd hl hk hv hpl, eg2_real H R q d l kb vb pl hq hd hl hk hv hpl, hpg, mask1]
  rw [EReal.coe_zero]
  simp only [zero_mul, Finset.sum_const_zero, add_zero, zero_add]
  simp only [← EReal.coe_add, ← EReal.coe_sub, ← EReal.coe_mul, exp_coe, ← EReal.coe_zero, select_coe]
  simp only [Head.dz, Nat.add_lt_add_iff_left]
  rw [H.PG_add _ (R + 256) c, add_comm (H.PG _ _)]

include hq hd hl hk hv hpl hpg in
theorem pay87_real (D : FVec Ideal S256x64 .f32) (a : Fin 256 → Fin 64 → ℝ) (hD : ∀ c x, D (ix2 c x) = ((a c x : ℝ) : EReal))
    (c : Fin 256) (x : Fin 64) :
    k0_pay87 (F := Ideal) (k0_pay43 q) pg (k0_pay76 k0_pay39) (k0_pay79 (k0_pay43 q) kb) (eg q d l kb vb pl) (k0_pay82 k0_pay41)
        (eg1 q d l kb vb pl) (eg2 q d l kb vb pl) D (ix2 c x)
      = ((a c x + H.DK (R + 256) 256 (R + 256 + c) x : ℝ) : EReal) := by
  pointwise [k0_pay87]
  simp only [pay86_real H R q d l kb vb pl pg hq hd hl hk hv hpl hpg, hD, pay43_real H R q hq, ← EReal.coe_mul, coe_sum, zero_add,
    ← EReal.coe_add]
  unfold Head.DK
  rw [Finset.sum_range]
  simp only [add_assoc]

include hq hd hl hk hpl in
theorem pay88_real (D : FVec Ideal S256x64 .f32) (a : Fin 256 → Fin 64 → ℝ) (hD : ∀ c x, D (ix2 c x) = ((a c x : ℝ) : EReal))
    (c : Fin 256) (x : Fin 64) :
    k0_pay88 (F := Ideal) d (k0_pay80 k0_pay40 (k0_pay43 q) (k0_pay44 l) pl (k0_pay76 k0_pay39) kb) D (ix2 c x)
      = ((a c x + H.DV (R + 256) 256 (R + 256 + c) x : ℝ) : EReal) := by
  pointwise [k0_pay88]
  simp only [pay80_real H R q l kb pl hq hl hk hpl, hD, hd, ← EReal.coe_mul, coe_sum, zero_add, ← EReal.coe_add]
  unfold Head.DV
  rw [Finset.sum_range]
  simp only [add_assoc]

include hq hd hl hk hv hpl hpg in
theorem pay89_real (a : FVec Ideal S512x64 .f32) (b : FVec Ideal S256x64 .f32)
    (ha : ∀ (r : Fin 512) (x : Fin 64), a (ix2 r x) = ((H.DQ (R + r) x (R + 256) : ℝ) : EReal))
    (hb : ∀ (r : Fin 256) (x : Fin 64), b (ix2 r x) = ((H.DQ (R + 256 + r) x (R + 256) : ℝ) : EReal))
    (r : Fin 512) (x : Fin 64) :
    k0_pay89 (F := Ideal) a b pg (k0_pay76 k0_pay39) kb (k0_pay79 (k0_pay43 q) kb) (eg q d l kb vb pl) (k0_pay82 k0_pay41)
        (eg1 q d l kb vb pl) (eg2 q d l kb vb pl) (ix2 r x)
      = ((H.DQ (R + r) x (R + 512) * (1 / 8) : ℝ) : EReal) := by
  pointwise [k0_pay89]
  rw [eighth, EReal.coe_mul]
  congr 1
  split
  · rename_i h
    rw [ha, H.DQ_stop (n := R + 256) (n' := R + 512) x (by omega) (by omega)]
  · rename_i h
    simp only [pay86_real H R q d l kb vb pl pg hq hd hl hk hv hpl hpg, hb, hk, ← EReal.coe_mul, coe_sum, zero_add,
      ← EReal.coe_add]
    rw [show R + 512 = R + 256 + 256 by omega, H.DQ_add _ _ (R + 256) 256, Finset.sum_range, show R + 256 + ((r : ℕ) - 256) = R + r by omega]

end Low
end Cert.KernelIdeal.Attn
-- ==== Proof.OneHead.lean ====
/- One head of one grid step at real arrays: what the walk before the diagonal and the two blocks on the diagonal leave
   in the rows of the gradient of q and in the resident accumulators of the gradients of k and v. -/
module
public import proofs.«01_k».proof.Proof.Diag
@[expose] public section
set_option maxRecDepth 16384
noncomputable section
namespace Cert.KernelIdeal.Attn
open Idealize.ShloMosaic Cert.KernelIdeal.Gen Cert.Stick

/-! ## Resident arrays of real numbers -/

/-- The array holds the real numbers `a`. -/
def Holds (A : FVec Ideal S4096x128 .f32) (a : ℕ → ℕ → ℝ) : Prop :=
  ∀ (c : Fin 4096) (y : Fin 128), A (ix2 c y) = ((a c y : ℝ) : EReal)

/-- `a` with `f` added in the rows from `b` to `e` of the 64 columns from `col`. -/
def upd (b e col : ℕ) (f a : ℕ → ℕ → ℝ) : ℕ → ℕ → ℝ := fun c y =>
  a c y + if (b ≤ c ∧ c < e) ∧ (col ≤ y ∧ y < col + 64) then f c (y - col) else 0

theorem upd_none (b col : ℕ) (f a : ℕ → ℕ → ℝ) : upd b b col f a = a := by
  funext c y
  rw [upd, if_neg (by omega), add_zero]

theorem upd_upd (b e e' col : ℕ) (f a : ℕ → ℕ → ℝ) (h : b ≤ e) (h' : e ≤ e') :
    upd e e' col f (upd b e col f a) = upd b e' col f a := by
  funext c y
  simp only [upd]
  by_cases hy : col ≤ y ∧ y < col + 64 <;> by_cases h1 : b ≤ c <;> by_cases h2 : c < e <;> by_cases h3 : c < e' <;>
    first
    | (exfalso; omega)
    | (have h4 : ¬ e ≤ c := by omega
       simp [hy, h1, h2, h3, h4])
    | (have h4 : e ≤ c := by omega
       simp [hy, h1, h2, h3, h4])

/-- Adding `g` instead of `f` is the same where they agree. -/
theorem upd_congr (b e col : ℕ) (f g a : ℕ → ℕ → ℝ) (h : ∀ c x, b ≤ c → c < e → f c x = g c x) :
    upd b e col f a = upd b e col g a := by
  funext c y
  simp only [upd]
  split
  · rename_i hc
    rw [h _ _ hc.1.1 hc.1.2]
  · rfl

theorem getB_at {α : Type} (C col : ℕ) (hC : C + 256 ≤ 4096) (hcol : col + 64 ≤ 128) (A : S4096x128.Idx → α) (c : Fin 256)
    (x : Fin 64) : getB ![C, col] A (ix2 c x) = A (ix2 ⟨C + c, by omega⟩ ⟨col + x, by omega⟩) := by
  unfold getB
  congr 1
  funext a
  apply Fin.ext
  fin_cases a
  · show (C + (c : ℕ)) % 4096 = C + c
    exact Nat.mod_eq_of_lt (by omega)
  · show (col + (x : ℕ)) % 128 = col + x
    exact Nat.mod_eq_of_lt (by omega)

theorem getR_at {α : Type} (o : Fin 2 → ℕ) (inb : ∀ a, o a + S256x64.size a ≤ S4096x128.size a) (C col : ℕ) (ho : o = ![C, col])
    (hC : C + 256 ≤ 4096) (hcol : col + 64 ≤ 128) (A : S4096x128.Idx → α) (c : Fin 256) (x : Fin 64) :
    getR o inb A (ix2 c x) = A (ix2 ⟨C + c, by omega⟩ ⟨col + x, by omega⟩) := by
  subst ho
  unfold getR
  congr 1
  funext a
  apply Fin.ext
  fin_cases a
  · show C + 1 * (c : ℕ) = C + c
    omega
  · show col + 1 * (x : ℕ) = col + x
    omega

/-- Replacing a block by its real values plus `f` adds `f` there. -/
theorem setB_holds (o : Fin 2 → ℕ) (C col : ℕ) (ho : o = ![C, col]) (hC : C + 256 ≤ 4096) (hcol : col + 64 ≤ 128)
    (w : FVec Ideal S256x64 .f32) (A : FVec Ideal S4096x128 .f32) (f a : ℕ → ℕ → ℝ) (hA : Holds A a)
    (hw : ∀ (c : Fin 256) (x : Fin 64), w (ix2 c x) = ((a (C + c) (col + x) + f (C + c) x : ℝ) : EReal)) :
    Holds (setB o w A) (upd C (C + 256) col f a) := by
  subst ho
  intro c y
  unfold setB
  by_cases h : (C ≤ (c : ℕ) ∧ (c : ℕ) < C + 256) ∧ (col ≤ (y : ℕ) ∧ (y : ℕ) < col + 64)
  · have h' : ∀ a : Fin 2, (![C, col] : Fin 2 → ℕ) a ≤ ((ix2 c y : S4096x128.Idx) a).val ∧
        ((ix2 c y : S4096x128.Idx) a).val < (![C, col] : Fin 2 → ℕ) a + S256x64.size a := by
      intro a
      fin_cases a
      · exact h.1
      · exact h.2
    rw [dif_pos h']
    have e : Rect.unitLocal (s := S4096x128) (off := ![C, col]) (size := S256x64.size) (ix2 c y) h'
        = (ix2 (⟨c - C, by omega⟩ : Fin 256) (⟨y - col, by omega⟩ : Fin 64) : S256x64.Idx) := by
      funext a
      apply Fin.ext
      rw [Rect.unitLocal_val]
      fin_cases a <;> rfl
    rw [e, hw]
    simp only [upd, if_pos h]
    rw [show C + ((c : ℕ) - C) = c by omega, show col + ((y : ℕ) - col) = y by omega]
  · rw [dif_neg (fun h' => h ⟨h' 0, h' 1⟩), hA]
    simp only [upd, if_neg h, add_zero]

/-! ## The walk before the diagonal -/

/-- The lower rows of the gradient of q. -/
theorem pay73_at (a : FVec Ideal S512x64 .f32) (pg : FVec Ideal S512x1 .f32) (mk : IVec S512x256 1) (kb : FVec Ideal S256x64 .bf16)
    (z g : FVec Ideal S512x256 .f32) (u : FVec Ideal S256x256 .bf16) (g1 g2 : FVec Ideal S512x256 .f32) (r : Fin 256) (x : Fin 64) :
    k0_pay73 (F := Ideal) a pg mk kb z g u g1 g2 (ix2 r x)
      = k0_pay70 (F := Ideal) a pg mk kb z g u g1 g2 (ix2 (⟨256 + r, by omega⟩ : Fin 512) x) := by
  pointwise [k0_pay73]

section One
variable (H : Head) (m col : ℕ) (q d : FVec Ideal S512x64 .bf16) (l : FVec Ideal S1x512x1 .f32) (K V : FVec Ideal S4096x128 .bf16)
  (hm : m < 8) (hcol : col + 64 ≤ 128)
  (hq : ∀ (r : Fin 512) (x : Fin 64), q (ix2 r x) = ((H.q (512 * m + r) x : ℝ) : EReal))
  (hd : ∀ (r : Fin 512) (x : Fin 64), d (ix2 r x) = ((H.d (512 * m + r) x : ℝ) : EReal))
  (hl : ∀ (r : Fin 512), l (ix3 0 r 0) = ((H.lt (512 * m + r) : ℝ) : EReal))
  (hK : ∀ (c : Fin 4096) (y : Fin 128), col ≤ (y : ℕ) → (y : ℕ) < col + 64 → K (ix2 c y) = ((H.k c (y - col) : ℝ) : EReal))
  (hV : ∀ (c : Fin 4096) (y : Fin 128), col ≤ (y : ℕ) → (y : ℕ) < col + 64 → V (ix2 c y) = ((H.v c (y - col) : ℝ) : EReal))

include hcol hK in
/-- A block of the resident keys (or values). -/
theorem blkB_real (C : ℕ) (hC : C + 256 ≤ 4096) (c : Fin 256) (x : Fin 64) :
    getB ![C, col] K (ix2 c x) = ((H.k (C + c) x : ℝ) : EReal) := by
  rw [getB_at C col hC hcol, hK _ _ (Nat.le_add_right _ _) (by show col + (x : ℕ) < col + 64; omega)]
  show ((H.k (C + c) (col + (x : ℕ) - col) : ℝ) : EReal) = _
  rw [Nat.add_sub_cancel_left]
include hcol hV in
theorem blkBV_real (C : ℕ) (hC : C + 256 ≤ 4096) (c : Fin 256) (x : Fin 64) :
    getB ![C, col] V (ix2 c x) = ((H.v (C + c) x : ℝ) : EReal) := by
  rw [getB_at C col hC hcol, hV _ _ (Nat.le_add_right _ _) (by show col + (x : ℕ) < col + 64; omega)]
  show ((H.v (C + c) (col + (x : ℕ) - col) : ℝ) : EReal) = _
  rw [Nat.add_sub_cancel_left]
include hcol hK in
theorem blkR_real (o : Fin 2 → ℕ) (inb : ∀ a, o a + S256x64.size a ≤ S4096x128.size a) (C : ℕ) (ho : o = ![C, col])
    (hC : C + 256 ≤ 4096) (c : Fin 256) (x : Fin 64) :
    getR o inb K (ix2 c x) = ((H.k (C + c) x : ℝ) : EReal) := by
  rw [getR_at o inb C col ho hC hcol, hK _ _ (Nat.le_add_right _ _) (by show col + (x : ℕ) < col + 64; omega)]
  show ((H.k (C + c) (col + (x : ℕ) - col) : ℝ) : EReal) = _
  rw [Nat.add_sub_cancel_left]
include hcol hV in
theorem blkRV_real (o : Fin 2 → ℕ) (inb : ∀ a, o a + S256x64.size a ≤ S4096x128.size a) (C : ℕ) (ho : o = ![C, col])
    (hC : C + 256 ≤ 4096) (c : Fin 256) (x : Fin 64) :
    getR o inb V (ix2 c x) = ((H.v (C + c) x : ℝ) : EReal) := by
  rw [getR_at o inb C col ho hC hcol, hV _ _ (Nat.le_add_right _ _) (by show col + (x : ℕ) < col + 64; omega)]
  show ((H.v (C + c) (col + (x : ℕ) - col) : ℝ) : EReal) = _
  rw [Nat.add_sub_cancel_left]

include hm hcol hq hd hl hK hV in
/-- What the walk carries after `n` blocks. -/
theorem accs_real (n : ℕ) (hn : n ≤ 2 * m) :
    (∀ (r : Fin 512) (x : Fin 64), (accs (F := Ideal) q d l K V 0 col acc0 n).1 (ix2 r x) = ((H.DQ (512 * m + r) x (256 * n) : ℝ) : EReal))
    ∧ (∀ r : Fin 512, (accs (F := Ideal) q d l K V 0 col acc0 n).2.1 (ix2 r 0) = ((H.PL (512 * m + r) (256 * n) : ℝ) : EReal))
    ∧ ∀ r : Fin 512, (accs (F := Ideal) q d l K V 0 col acc0 n).2.2 (ix2 r 0) = ((H.PG (512 * m + r) (256 * n) : ℝ) : EReal) := by
  induction n with
  | zero =>
    refine ⟨fun r x => ?_, fun r => ?_, fun r => ?_⟩
    · show k0_pay45 (F := Ideal) (ix2 r x) = _
      pointwise [k0_pay45]
      simp [Head.DQ]
    · show k0_pay42 (F := Ideal) (ix2 r 0) = _
      pointwise [k0_pay42]
      simp [Head.PL]
    · show k0_pay42 (F := Ideal) (ix2 r 0) = _
      pointwise [k0_pay42]
      simp [Head.PG]
  | succ n ih =>
    obtain ⟨h1, h2, h3⟩ := ih (by omega)
    have hk := blkB_real H col K hcol hK (256 * n) (by omega)
    have hv := blkBV_real H col V hcol hV (256 * n) (by omega)
    have hRC : 256 * n + 256 ≤ 512 * m := by omega
    rw [accs, Nat.zero_add]
    exact ⟨dq_real H _ _ q d l _ _ _ _ hq hd hl hk hv h2 h3 hRC _ h1, pl_real H _ _ q _ _ hq hk h2 hRC,
      pg_real H _ _ q d l _ _ _ _ hq hd hl hk hv h2 h3 hRC⟩

include hm hcol hq hd hl hK hV in
/-- The gradient of k's accumulator after `n` blocks. -/
theorem dks_real (A : FVec Ideal S4096x128 .f32) (a : ℕ → ℕ → ℝ) (hA : Holds A a) (n : ℕ) (hn : n ≤ 2 * m) :
    Holds (dks (F := Ideal) q d l K V 0 col acc0 A n) (upd 0 (256 * n) col (H.DK (512 * m) 512) a) := by
  induction n with
  | zero =>
    rw [Nat.mul_zero, upd_none]
    exact hA
  | succ n ih =>
    have h0 := ih (by omega)
    obtain ⟨h1, h2, h3⟩ := accs_real H m col q d l K V hm hcol hq hd hl hK hV n (by omega)
    have hk := blkB_real H col K hcol hK (256 * n) (by omega)
    have hv := blkBV_real H col V hcol hV (256 * n) (by omega)
    have hRC : 256 * n + 256 ≤ 512 * m := by omega
    rw [dks, Nat.zero_add, ← upd_upd 0 (256 * n) (256 * (n + 1)) col _ a (by omega) (by omega)]
    refine setB_holds _ (256 * n) col rfl (by omega) hcol _ _ _ _ h0 ?_
    refine dk_real H _ _ q d l _ _ _ _ hq hd hl hk hv h2 h3 hRC _ _ fun c x => ?_
    rw [getB_at _ _ (by omega) hcol, h0]

include hm hcol hq hd hl hK hV in
/-- The gradient of v's accumulator after `n` blocks. -/
theorem dvs_real (A : FVec Ideal S4096x128 .f32) (a : ℕ → ℕ → ℝ) (hA : Holds A a) (n : ℕ) (hn : n ≤ 2 * m) :
    Holds (dvs (F := Ideal) q d l K V 0 col acc0 A n) (upd 0 (256 * n) col (H.DV (512 * m) 512) a) := by
  induction n with
  | zero =>
    rw [Nat.mul_zero, upd_none]
    exact hA
  | succ n ih =>
    have h0 := ih (by omega)
    obtain ⟨h1, h2, h3⟩ := accs_real H m col q d l K V hm hcol hq hd hl hK hV n (by omega)
    have hk := blkB_real H col K hcol hK (256 * n) (by omega)
    have hRC : 256 * n + 256 ≤ 512 * m := by omega
    rw [dvs, Nat.zero_add, ← upd_upd 0 (256 * n) (256 * (n + 1)) col _ a (by omega) (by omega)]
    refine setB_holds _ (256 * n) col rfl (by omega) hcol _ _ _ _ h0 ?_
    refine dv_real H _ _ q d l _ _ hq hd hl hk h2 hRC _ _ fun c x => ?_
    rw [getB_at _ _ (by omega) hcol, h0]

/-! ## The head after its diagonal -/

/-- A key at or after every row of the tile gets nothing. -/
theorem DK_none (R n c x : ℕ) (h : R + n ≤ c + 1) : H.DK R n c x = 0 := by
  unfold Head.DK
  refine Finset.sum_eq_zero fun r hr => ?_
  rw [H.dz_zero (by have := Finset.mem_range.mp hr; omega), zero_mul]
theorem DV_none (R n c x : ℕ) (h : R + n ≤ c + 1) : H.DV R n c x = 0 := by
  unfold Head.DV
  refine Finset.sum_eq_zero fun r hr => ?_
  rw [H.att_zero (by have := Finset.mem_range.mp hr; omega), zero_mul]

theorem DK_low (R c x : ℕ) (h : R + 256 ≤ c) : H.DK (R + 256) 256 c x = H.DK R 512 c x := by
  have e := Finset.sum_range_add (fun r => H.dz (R + r) c * (H.q (R + r) x * (1 / 8))) 256 256
  have z := DK_none H R 256 c x (by omega)
  unfold Head.DK at z ⊢
  rw [show (512 : ℕ) = 256 + 256 from rfl, e, z, zero_add]
  simp only [add_assoc]
theorem DV_low (R c x : ℕ) (h : R + 256 ≤ c) : H.DV (R + 256) 256 c x = H.DV R 512 c x := by
  have e := Finset.sum_range_add (fun r => H.att (R + r) c * H.d (R + r) x) 256 256
  have z := DV_none H R 256 c x (by omega)
  unfold Head.DV at z ⊢
  rw [show (512 : ℕ) = 256 + 256 from rfl, e, z, zero_add]
  simp only [add_assoc]

variable (o0 o1 : Fin 2 → ℕ) (h0 : ∀ a, o0 a + S256x64.size a ≤ S4096x128.size a)
  (h1 : ∀ a, o1 a + S256x64.size a ≤ S4096x128.size a) (ho0 : o0 = ![512 * m, col]) (ho1 : o1 = ![512 * m + 256, col])
  (s : Acc Ideal)
  (hs1 : ∀ (r : Fin 512) (x : Fin 64), s.1 (ix2 r x) = ((H.DQ (512 * m + r) x (512 * m) : ℝ) : EReal))
  (hs2 : ∀ r : Fin 512, s.2.1 (ix2 r 0) = ((H.PL (512 * m + r) (512 * m) : ℝ) : EReal))
  (hs3 : ∀ r : Fin 512, s.2.2 (ix2 r 0) = ((H.PG (512 * m + r) (512 * m) : ℝ) : EReal))
  (A B : FVec Ideal S4096x128 .f32) (a b : ℕ → ℕ → ℝ)

include hm hcol hq hd hl hK hV ho0 ho1 hs1 hs2 hs3 in
theorem diag_dq (r : Fin 512) (x : Fin 64) : (diag (F := Ideal) q d l K V o0 o1 h0 h1 s A B).dq (ix2 r x)
    = ((H.DQ (512 * m + r) x (512 * m + 512) * (1 / 8) : ℝ) : EReal) := by
  have hk := blkR_real H col K hcol hK o0 h0 _ ho0 (by omega)
  have hv := blkRV_real H col V hcol hV o0 h0 _ ho0 (by omega)
  have hk' := blkR_real H col K hcol hK o1 h1 _ ho1 (by omega)
  have hv' := blkRV_real H col V hcol hV o1 h1 _ ho1 (by omega)
  refine pay89_real H _ q d l _ _ _ _ hq hd hl hk' hv' (pay74_real H _ q _ _ hq hk hs2)
    (pay75_real H _ q d l _ _ _ _ hq hd hl hk hv hs2 hs3) _ _
    (pay70_real H _ q d l _ _ _ _ hq hd hl hk hv hs2 hs3 _ hs1) (fun r x => ?_) r x
  rw [pay73_at]
  refine (pay70_real H _ q d l _ _ _ _ hq hd hl hk hv hs2 hs3 _ hs1 _ x).trans ?_
  rw [show 512 * m + (256 + (r : ℕ)) = 512 * m + 256 + r by omega]

include hm hcol hq hd hl hK hV ho0 ho1 hs2 hs3 in
theorem diag_dk (hA : Holds A (upd 0 (512 * m) col (H.DK (512 * m) 512) a)) :
    Holds (diag (F := Ideal) q d l K V o0 o1 h0 h1 s A B).dk (upd 0 4096 col (H.DK (512 * m) 512) a) := by
  have hk := blkR_real H col K hcol hK o0 h0 _ ho0 (by omega)
  have hv := blkRV_real H col V hcol hV o0 h0 _ ho0 (by omega)
  have hk' := blkR_real H col K hcol hK o1 h1 _ ho1 (by omega)
  have hv' := blkRV_real H col V hcol hV o1 h1 _ ho1 (by omega)
  have e : upd 0 4096 col (H.DK (512 * m) 512) a
      = upd (512 * m + 256) (512 * m + 256 + 256) col (H.DK (512 * m + 256) 256)
        (upd (512 * m) (512 * m + 256) col (H.DK (512 * m) 512) (upd 0 (512 * m) col (H.DK (512 * m) 512) a)) := by
    rw [upd_upd _ _ _ _ _ _ (by omega) (by omega), upd_congr _ _ _ _ _ _ fun c x hc _ => DK_low H (512 * m) c x hc,
      upd_upd _ _ _ _ _ _ (by omega) (by omega)]
    rw [← upd_upd 0 (512 * m + 256 + 256) 4096 _ _ _ (by omega) (by omega)]
    rw [upd_congr (512 * m + 256 + 256) 4096 col (H.DK (512 * m) 512) (fun _ _ => 0) _ fun c x hc _ => DK_none H _ _ c x (by omega)]
    funext c y
    simp [upd]
  rw [e]
  have hB := setB_holds o0 (512 * m) col ho0 (by omega) hcol _ A _ _ hA
    (pay71_real H _ q d l _ _ _ _ hq hd hl hk hv hs2 hs3 (getR o0 h0 A) (fun c x => upd 0 (512 * m) col (H.DK (512 * m) 512) a (512 * m + c) (col + x)) fun c x => by
      rw [getR_at o0 h0 _ _ ho0 (by omega) hcol, hA])
  refine setB_holds o1 (512 * m + 256) col ho1 (by omega) hcol _ _ _ _ hB ?_
  refine pay87_real H _ q d l _ _ _ _ hq hd hl hk' hv' (pay74_real H _ q _ _ hq hk hs2)
    (pay75_real H _ q d l _ _ _ _ hq hd hl hk hv hs2 hs3) _ _ fun c x => ?_
  rw [getR_at o1 h1 _ _ ho1 (by omega) hcol, hA]
  have e2 : ¬ ((512 * m ≤ 512 * m + 256 + (c : ℕ) ∧ 512 * m + 256 + (c : ℕ) < 512 * m + 256)
      ∧ (col ≤ col + (x : ℕ) ∧ col + (x : ℕ) < col + 64)) := by omega
  show _ = ((upd (512 * m) (512 * m + 256) col (H.DK (512 * m) 512) (upd 0 (512 * m) col (H.DK (512 * m) 512) a)
    (512 * m + 256 + (c : ℕ)) (col + (x : ℕ)) : ℝ) : EReal)
  rw [upd.eq_def (512 * m), if_neg e2, add_zero]

include hm hcol hq hd hl hK hV ho0 ho1 hs2 hs3 in
theorem diag_dv (hB : Holds B (upd 0 (512 * m) col (H.DV (512 * m) 512) b)) :
    Holds (diag (F := Ideal) q d l K V o0 o1 h0 h1 s A B).dv (upd 0 4096 col (H.DV (512 * m) 512) b) := by
  have hk := blkR_real H col K hcol hK o0 h0 _ ho0 (by omega)
  have hk' := blkR_real H col K hcol hK o1 h1 _ ho1 (by omega)
  have e : upd 0 4096 col (H.DV (512 * m) 512) b
      = upd (512 * m + 256) (512 * m + 256 + 256) col (H.DV (512 * m + 256) 256)
        (upd (512 * m) (512 * m + 256) col (H.DV (512 * m) 512) (upd 0 (512 * m) col (H.DV (512 * m) 512) b)) := by
    rw [upd_upd _ _ _ _ _ _ (by omega) (by omega), upd_congr _ _ _ _ _ _ fun c x hc _ => DV_low H (512 * m) c x hc,
      upd_upd _ _ _ _ _ _ (by omega) (by omega)]
    rw [← upd_upd 0 (512 * m + 256 + 256) 4096 _ _ _ (by omega) (by omega)]
    rw [upd_congr (512 * m + 256 + 256) 4096 col (H.DV (512 * m) 512) (fun _ _ => 0) _ fun c x hc _ => DV_none H _ _ c x (by omega)]
    funext c y
    simp [upd]
  rw [e]
  have hB' := setB_holds o0 (512 * m) col ho0 (by omega) hcol _ B _ _ hB
    (pay72_real H _ q d l _ _ hq hd hl hk hs2 (getR o0 h0 B) (fun c x => upd 0 (512 * m) col (H.DV (512 * m) 512) b (512 * m + c) (col + x)) fun c x => by
      rw [getR_at o0 h0 _ _ ho0 (by omega) hcol, hB])
  refine setB_holds o1 (512 * m + 256) col ho1 (by omega) hcol _ _ _ _ hB' ?_
  refine pay88_real H _ q d l _ _ hq hd hl hk' (pay74_real H _ q _ _ hq hk hs2) _ _ fun c x => ?_
  rw [getR_at o1 h1 _ _ ho1 (by omega) hcol, hB]
  have e2 : ¬ ((512 * m ≤ 512 * m + 256 + (c : ℕ) ∧ 512 * m + 256 + (c : ℕ) < 512 * m + 256)
      ∧ (col ≤ col + (x : ℕ) ∧ col + (x : ℕ) < col + 64)) := by omega
  show _ = ((upd (512 * m) (512 * m + 256) col (H.DV (512 * m) 512) (upd 0 (512 * m) col (H.DV (512 * m) 512) b)
    (512 * m + 256 + (c : ℕ)) (col + (x : ℕ)) : ℝ) : EReal)
  rw [upd.eq_def (512 * m), if_neg e2, add_zero]

end One
end Cert.KernelIdeal.Attn
-- ==== Proof.TwoHeads.lean ====
/- One grid step at real arrays: both heads of a pair, a tile of 512 rows against every key. -/
module
public import proofs.«01_k».proof.Proof.OneHead
@[expose] public section
set_option maxRecDepth 16384
noncomputable section
namespace Cert.KernelIdeal.Attn
open Idealize.ShloMosaic Cert.KernelIdeal.Gen Cert.Stick

theorem lo_zero (n : ℕ) : lo n 0#32 = 0 := by
  unfold lo
  simp

theorem colsL_at {α : Type} (A : S512x128.Idx → α) (r : Fin 512) (x : Fin 64) :
    colsL A (ix2 r x) = A (ix2 r (⟨x, by have := x.isLt; omega⟩ : Fin 128)) := by
  unfold colsL
  congr 1
  funext a
  apply Fin.ext
  fin_cases a
  · show 0 + 1 * (r : ℕ) = r
    omega
  · show 0 + 1 * (x : ℕ) = x
    omega
theorem colsR_at {α : Type} (A : S512x128.Idx → α) (r : Fin 512) (x : Fin 64) :
    colsR A (ix2 r x) = A (ix2 r (⟨64 + x, by have := x.isLt; omega⟩ : Fin 128)) := by
  unfold colsR
  congr 1
  funext a
  apply Fin.ext
  fin_cases a
  · show 0 + 1 * (r : ℕ) = r
    omega
  · show 64 + 1 * (x : ℕ) = 64 + x
    omega
theorem rows0_at {α : Type} (A : S2x512x1.Idx → α) (r : Fin 512) : rows0 A (ix3 0 r 0) = A (ix3 0 r 0) := by
  unfold rows0
  congr 1
  funext a
  apply Fin.ext
  fin_cases a
  · rfl
  · show 0 + 1 * (r : ℕ) = r
    omega
  · rfl
theorem rows1_at {α : Type} (A : S2x512x1.Idx → α) (r : Fin 512) : rows1 A (ix3 0 r 0) = A (ix3 1 r 0) := by
  unfold rows1
  congr 1
  funext a
  apply Fin.ext
  fin_cases a
  · rfl
  · show 0 + 1 * (r : ℕ) = r
    omega
  · rfl

/-- Two heads' columns side by side. -/
theorem setCols_at (L R : FVec Ideal S512x64 .bf16) (f : ℕ → ℕ → ℕ → ℝ)
    (hL : ∀ (r : Fin 512) (x : Fin 64), L (ix2 r x) = ((f 0 r x : ℝ) : EReal))
    (hR : ∀ (r : Fin 512) (x : Fin 64), R (ix2 r x) = ((f 1 r x : ℝ) : EReal)) (r : Fin 512) (y : Fin 128) :
    setCols L R (ix2 r y) = ((f ((y : ℕ) / 64) r ((y : ℕ) % 64) : ℝ) : EReal) := by
  unfold setCols
  have hy := y.isLt
  have hr := r.isLt
  by_cases h : 64 ≤ (y : ℕ)
  · have h' : ∀ a : Fin 2, (![0, 64] : Fin 2 → ℕ) a ≤ ((ix2 r y : S512x128.Idx) a).val ∧
        ((ix2 r y : S512x128.Idx) a).val < (![0, 64] : Fin 2 → ℕ) a + S512x64.size a := by
      intro a
      fin_cases a
      · exact ⟨Nat.zero_le _, by show (r : ℕ) < 0 + 512; omega⟩
      · exact ⟨h, by show (y : ℕ) < 64 + 64; omega⟩
    rw [dif_pos h']
    have e : Rect.unitLocal (s := S512x128) (off := ![0, 64]) (size := S512x64.size) (ix2 r y) h'
        = (ix2 (⟨r, hr⟩ : Fin 512) (⟨y - 64, by omega⟩ : Fin 64) : S512x64.Idx) := by
      funext a
      apply Fin.ext
      rw [Rect.unitLocal_val]
      fin_cases a <;> rfl
    rw [e, hR, show (y : ℕ) / 64 = 1 by omega, show (y : ℕ) % 64 = y - 64 by omega]
  · rw [dif_neg (fun h' => h (h' 1).1)]
    have e : (fun a => ⟨((ix2 r y : S512x128.Idx) a).val % S512x64.size a, Nat.mod_lt _ (by fin_cases a <;> decide)⟩ : S512x64.Idx)
        = (ix2 (⟨r, hr⟩ : Fin 512) (⟨y, by omega⟩ : Fin 64) : S512x64.Idx) := by
      funext a
      apply Fin.ext
      fin_cases a
      · show (r : ℕ) % 512 = r
        omega
      · show (y : ℕ) % 64 = y
        omega
    rw [e, hL, show (y : ℕ) / 64 = 0 by omega, show (y : ℕ) % 64 = y by omega]

section Step
variable (Qa Ka Va Da : ℕ → ℕ → ℝ) (p : ℕ) (i : grid0.Coords)
  (K V : FVec Ideal S4096x128 .bf16) (Q D : FVec Ideal S512x128 .bf16) (L : FVec Ideal S2x512x1 .f32) (W : Vec Ideal S16x8 .i32)
  (A B : FVec Ideal S4096x128 .f32)
  (hK : ∀ (c : Fin 4096) (y : Fin 128), K (ix2 c y) = ((Ka c (128 * p + y) : ℝ) : EReal))
  (hV : ∀ (c : Fin 4096) (y : Fin 128), V (ix2 c y) = ((Va c (128 * p + y) : ℝ) : EReal))
  (hQ : ∀ (r : Fin 512) (y : Fin 128), Q (ix2 r y) = ((Qa (512 * (i 1).val + r) (128 * p + y) : ℝ) : EReal))
  (hD : ∀ (r : Fin 512) (y : Fin 128), D (ix2 r y) = ((Da (512 * (i 1).val + r) (128 * p + y) : ℝ) : EReal))
  (hL : ∀ (h : Fin 2) (r : Fin 512), L (ix3 h r 0) = (((head Qa Ka Va Da (2 * p + h)).lt (512 * (i 1).val + r) : ℝ) : EReal))
  (hW : ∀ j, W j = 0#32)

/-- What the first head does is what a head's walk and diagonal do, in the columns from 0. -/
theorem diagL_off : k0_off4 i 0#32 = ![512 * (i 1).val, 0] ∧ k0_off4 i 1#32 = ![512 * (i 1).val + 256, 0] := by
  rw [off4_eq0, off4_eq1, show 256 * (2 * (i 1).val) = 512 * (i 1).val by omega,
    show 256 * (2 * (i 1).val + 1) = 512 * (i 1).val + 256 by omega]
  exact ⟨rfl, rfl⟩
theorem diagR_off : k0_off8 i 0#32 = ![512 * (i 1).val, 64] ∧ k0_off8 i 1#32 = ![512 * (i 1).val + 256, 64] := by
  rw [off8_eq0, off8_eq1, show 256 * (2 * (i 1).val) = 512 * (i 1).val by omega,
    show 256 * (2 * (i 1).val + 1) = 512 * (i 1).val + 256 by omega]
  exact ⟨rfl, rfl⟩

include hW in
theorem word0_zero : word0 (F := Ideal) i W = 0#32 := hW _
include hW in
theorem word1_zero : word1 (F := Ideal) i W = 0#32 := hW _

include hQ in
theorem hqL (r : Fin 512) (x : Fin 64) :
    colsL Q (ix2 r x) = (((head Qa Ka Va Da (2 * p + 0)).q (512 * (i 1).val + r) x : ℝ) : EReal) := by
  rw [colsL_at, hQ]
  show ((Qa _ (128 * p + (x : ℕ)) : ℝ) : EReal) = ((Qa _ (64 * (2 * p + 0) + x) : ℝ) : EReal)
  rw [show 128 * p + (x : ℕ) = 64 * (2 * p + 0) + x by omega]
include hQ in
theorem hqR (r : Fin 512) (x : Fin 64) :
    colsR Q (ix2 r x) = (((head Qa Ka Va Da (2 * p + 1)).q (512 * (i 1).val + r) x : ℝ) : EReal) := by
  rw [colsR_at, hQ]
  show ((Qa _ (128 * p + (64 + (x : ℕ))) : ℝ) : EReal) = ((Qa _ (64 * (2 * p + 1) + x) : ℝ) : EReal)
  rw [show 128 * p + (64 + (x : ℕ)) = 64 * (2 * p + 1) + x by omega]
include hD in
theorem hdL (r : Fin 512) (x : Fin 64) :
    colsL D (ix2 r x) = (((head Qa Ka Va Da (2 * p + 0)).d (512 * (i 1).val + r) x : ℝ) : EReal) := by
  rw [colsL_at, hD]
  show ((Da _ (128 * p + (x : ℕ)) : ℝ) : EReal) = ((Da _ (64 * (2 * p + 0) + x) : ℝ) : EReal)
  rw [show 128 * p + (x : ℕ) = 64 * (2 * p + 0) + x by omega]
include hD in
theorem hdR (r : Fin 512) (x : Fin 64) :
    colsR D (ix2 r x) = (((head Qa Ka Va Da (2 * p + 1)).d (512 * (i 1).val + r) x : ℝ) : EReal) := by
  rw [colsR_at, hD]
  show ((Da _ (128 * p + (64 + (x : ℕ))) : ℝ) : EReal) = ((Da _ (64 * (2 * p + 1) + x) : ℝ) : EReal)
  rw [show 128 * p + (64 + (x : ℕ)) = 64 * (2 * p + 1) + x by omega]
include hK in
theorem hkL (c : Fin 4096) (y : Fin 128) (h : 0 ≤ (y : ℕ)) (_ : (y : ℕ) < 0 + 64) :
    K (ix2 c y) = (((head Qa Ka Va Da (2 * p + 0)).k c (y - 0) : ℝ) : EReal) := by
  rw [hK]
  show ((Ka _ (128 * p + (y : ℕ)) : ℝ) : EReal) = ((Ka _ (64 * (2 * p + 0) + (y - 0)) : ℝ) : EReal)
  rw [show 128 * p + (y : ℕ) = 64 * (2 * p + 0) + (y - 0) by omega]
include hK in
theorem hkR (c : Fin 4096) (y : Fin 128) (h : 64 ≤ (y : ℕ)) (_ : (y : ℕ) < 64 + 64) :
    K (ix2 c y) = (((head Qa Ka Va Da (2 * p + 1)).k c (y - 64) : ℝ) : EReal) := by
  rw [hK]
  show ((Ka _ (128 * p + (y : ℕ)) : ℝ) : EReal) = ((Ka _ (64 * (2 * p + 1) + (y - 64)) : ℝ) : EReal)
  rw [show 128 * p + (y : ℕ) = 64 * (2 * p + 1) + (y - 64) by omega]
include hV in
theorem hvL (c : Fin 4096) (y : Fin 128) (h : 0 ≤ (y : ℕ)) (_ : (y : ℕ) < 0 + 64) :
    V (ix2 c y) = (((head Qa Ka Va Da (2 * p + 0)).v c (y - 0) : ℝ) : EReal) := by
  rw [hV]
  show ((Va _ (128 * p + (y : ℕ)) : ℝ) : EReal) = ((Va _ (64 * (2 * p + 0) + (y - 0)) : ℝ) : EReal)
  rw [show 128 * p + (y : ℕ) = 64 * (2 * p + 0) + (y - 0) by omega]
include hV in
theorem hvR (c : Fin 4096) (y : Fin 128) (h : 64 ≤ (y : ℕ)) (_ : (y : ℕ) < 64 + 64) :
    V (ix2 c y) = (((head Qa Ka Va Da (2 * p + 1)).v c (y - 64) : ℝ) : EReal) := by
  rw [hV]
  show ((Va _ (128 * p + (y : ℕ)) : ℝ) : EReal) = ((Va _ (64 * (2 * p + 1) + (y - 64)) : ℝ) : EReal)
  rw [show 128 * p + (y : ℕ) = 64 * (2 * p + 1) + (y - 64) by omega]
include hL in
theorem hlL (r : Fin 512) : rows0 L (ix3 0 r 0) = (((head Qa Ka Va Da (2 * p + 0)).lt (512 * (i 1).val + r) : ℝ) : EReal) := by
  rw [rows0_at, hL]; rfl
include hL in
theorem hlR (r : Fin 512) : rows1 L (ix3 0 r 0) = (((head Qa Ka Va Da (2 * p + 1)).lt (512 * (i 1).val + r) : ℝ) : EReal) := by
  rw [rows1_at, hL]; rfl

include hK hV hQ hD hL hW in
/-- The first head: its rows of the gradient of q, and its columns of the accumulators. -/
theorem out0_real (a b : ℕ → ℕ → ℝ) (hA : Holds A a) (hB : Holds B b) :
    (∀ (r : Fin 512) (x : Fin 64), (out0 (F := Ideal) K V i Q L W D A B).dq (ix2 r x)
      = (((head Qa Ka Va Da (2 * p + 0)).DQ (512 * (i 1).val + r) x (512 * (i 1).val + 512) * (1 / 8) : ℝ) : EReal))
    ∧ Holds (out0 (F := Ideal) K V i Q L W D A B).dk (upd 0 4096 0 ((head Qa Ka Va Da (2 * p + 0)).DK (512 * (i 1).val) 512) a)
    ∧ Holds (out0 (F := Ideal) K V i Q L W D A B).dv (upd 0 4096 0 ((head Qa Ka Va Da (2 * p + 0)).DV (512 * (i 1).val) 512) b) := by
  have hm := i1_lt i
  have q := hqL Qa Ka Va Da p i Q hQ
  have d := hdL Qa Ka Va Da p i D hD
  have k := hkL Qa Ka Va Da p K hK
  have v := hvL Qa Ka Va Da p V hV
  have l := hlL Qa Ka Va Da p i L hL
  have ht : (k0_t1_loop i (word0 (F := Ideal) i W)).trips = 2 * (i 1).val := by rw [t1_trips, word0_zero i W hW, lo_zero, Nat.sub_zero]
  obtain ⟨s1, s2, s3⟩ := accs_real _ (i 1).val 0 _ _ _ K V hm (by omega) q d l k v (2 * (i 1).val) le_rfl
  have a' := dks_real _ (i 1).val 0 _ _ _ K V hm (by omega) q d l k v A a hA (2 * (i 1).val) le_rfl
  have b' := dvs_real _ (i 1).val 0 _ _ _ K V hm (by omega) q d l k v B b hB (2 * (i 1).val) le_rfl
  rw [show 256 * (2 * (i 1).val) = 512 * (i 1).val by omega] at s1 s2 s3 a' b'
  unfold out0 diagL dksL dvsL accsL
  rw [ht, word0_zero i W hW, lo_zero]
  exact ⟨diag_dq _ (i 1).val 0 _ _ _ K V hm (by omega) q d l k v _ _ _ _ (diagL_off i).1 (diagL_off i).2 _ s1 s2 s3 _ _,
    diag_dk _ (i 1).val 0 _ _ _ K V hm (by omega) q d l k v _ _ _ _ (diagL_off i).1 (diagL_off i).2 _ s2 s3 _ _ _ a',
    diag_dv _ (i 1).val 0 _ _ _ K V hm (by omega) q d l k v _ _ _ _ (diagL_off i).1 (diagL_off i).2 _ s2 s3 _ _ _ b'⟩

include hK hV hQ hD hL hW in
/-- The second head, on what the first leaves. -/
theorem out1_real (a b : ℕ → ℕ → ℝ) (hA : Holds (out0 (F := Ideal) K V i Q L W D A B).dk a)
    (hB : Holds (out0 (F := Ideal) K V i Q L W D A B).dv b) :
    (∀ (r : Fin 512) (x : Fin 64), (out1 (F := Ideal) K V i Q L W D A B).dq (ix2 r x)
      = (((head Qa Ka Va Da (2 * p + 1)).DQ (512 * (i 1).val + r) x (512 * (i 1).val + 512) * (1 / 8) : ℝ) : EReal))
    ∧ Holds (out1 (F := Ideal) K V i Q L W D A B).dk (upd 0 4096 64 ((head Qa Ka Va Da (2 * p + 1)).DK (512 * (i 1).val) 512) a)
    ∧ Holds (out1 (F := Ideal) K V i Q L W D A B).dv (upd 0 4096 64 ((head Qa Ka Va Da (2 * p + 1)).DV (512 * (i 1).val) 512) b) := by
  have hm := i1_lt i
  have q := hqR Qa Ka Va Da p i Q hQ
  have d := hdR Qa Ka Va Da p i D hD
  have k := hkR Qa Ka Va Da p K hK
  have v := hvR Qa Ka Va Da p V hV
  have l := hlR Qa Ka Va Da p i L hL
  have ht : (k0_t3_loop i (word1 (F := Ideal) i W)).trips = 2 * (i 1).val := by
    rw [t3_loop_eq, t1_trips, word1_zero i W hW, lo_zero, Nat.sub_zero]
  obtain ⟨s1, s2, s3⟩ := accs_real _ (i 1).val 64 _ _ _ K V hm (by omega) q d l k v (2 * (i 1).val) le_rfl
  have a' := dks_real _ (i 1).val 64 _ _ _ K V hm (by omega) q d l k v _ a hA (2 * (i 1).val) le_rfl
  have b' := dvs_real _ (i 1).val 64 _ _ _ K V hm (by omega) q d l k v _ b hB (2 * (i 1).val) le_rfl
  rw [show 256 * (2 * (i 1).val) = 512 * (i 1).val by omega] at s1 s2 s3 a' b'
  unfold out1 diagR dksR dvsR accsR
  rw [ht, word1_zero i W hW, lo_zero]
  exact ⟨diag_dq _ (i 1).val 64 _ _ _ K V hm (by omega) q d l k v _ _ _ _ (diagR_off i).1 (diagR_off i).2 _ s1 s2 s3 _ _,
    diag_dk _ (i 1).val 64 _ _ _ K V hm (by omega) q d l k v _ _ _ _ (diagR_off i).1 (diagR_off i).2 _ s2 s3 _ _ _ a',
    diag_dv _ (i 1).val 64 _ _ _ K V hm (by omega) q d l k v _ _ _ _ (diagR_off i).1 (diagR_off i).2 _ s2 s3 _ _ _ b'⟩

/-- Adding to the left 64 columns and then to the right 64 adds to all 128. -/
theorem upd_both (f : ℕ → ℕ → ℕ → ℝ) (a : ℕ → ℕ → ℝ) (c y : ℕ) (hc : c < 4096) (hy : y < 128) :
    upd 0 4096 64 (f 1) (upd 0 4096 0 (f 0) a) c y = a c y + f (y / 64) c (y % 64) := by
  simp only [upd]
  by_cases h : 64 ≤ y
  · rw [if_neg (by omega), if_pos (by omega), show y / 64 = 1 by omega, show y % 64 = y - 64 by omega, add_zero]
  · rw [if_pos (by omega), if_neg (by omega), show y / 64 = 0 by omega, show y % 64 = y - 0 by omega, add_zero]

include hK hV hQ hD hL hW in
/-- One grid step: its rows of the gradient of q, and what it adds to the two accumulators. -/
theorem step_real (a b : ℕ → ℕ → ℝ) (hA : Holds A a) (hB : Holds B b) :
    (∀ (r : Fin 512) (y : Fin 128), stepQ (F := Ideal) K V i Q L W D A B (ix2 r y)
      = (((head Qa Ka Va Da (2 * p + (y : ℕ) / 64)).DQ (512 * (i 1).val + r) ((y : ℕ) % 64) (512 * (i 1).val + 512) * (1 / 8) : ℝ) : EReal))
    ∧ Holds (out1 (F := Ideal) K V i Q L W D A B).dk
        (fun c y => a c y + (head Qa Ka Va Da (2 * p + y / 64)).DK (512 * (i 1).val) 512 c (y % 64))
    ∧ Holds (out1 (F := Ideal) K V i Q L W D A B).dv
        (fun c y => b c y + (head Qa Ka Va Da (2 * p + y / 64)).DV (512 * (i 1).val) 512 c (y % 64)) := by
  obtain ⟨q0, k0, v0⟩ := out0_real Qa Ka Va Da p i K V Q D L W A B hK hV hQ hD hL hW a b hA hB
  obtain ⟨q1, k1, v1⟩ := out1_real Qa Ka Va Da p i K V Q D L W A B hK hV hQ hD hL hW _ _ k0 v0
  refine ⟨?_, fun c y => ?_, fun c y => ?_⟩
  · exact setCols_at _ _ (fun h r x => (head Qa Ka Va Da (2 * p + h)).DQ (512 * (i 1).val + r) x (512 * (i 1).val + 512) * (1 / 8)) q0 q1
  · rw [k1, upd_both (fun h => (head Qa Ka Va Da (2 * p + h)).DK (512 * (i 1).val) 512) a c y c.isLt y.isLt]
  · rw [v1, upd_both (fun h => (head Qa Ka Va Da (2 * p + h)).DV (512 * (i 1).val) 512) b c y c.isLt y.isLt]

end Step
end Cert.KernelIdeal.Attn
-- ==== Proof.Host.lean ====
/- What the host hands the kernel: each row's sum over all keys, and a table of zeros. -/
module
public import proofs.«01_k».proof.Proof.TwoHeads
public import proofs.«01_k».proof.Proof.Run
public import Idealize.ShloMosaic.Lib.Claim
@[expose] public section
set_option maxRecDepth 16384
noncomputable section
namespace Cert.KernelIdeal.Attn
open Idealize.ShloMosaic Cert.KernelIdeal.Gen Cert.Stick Idealize.ShloMosaic.TcCoe

/-- The scores of every head on the host. -/
def hostZ (q k : FVec Ideal S4096x1024 .bf16) : FVec Ideal S16x4096x4096 .f32 :=
  mulf (Host.dotGeneral dot_S16x4096x64_S16x4096x64_S16x4096x4096_2_2_1_1_0_0 none
      (transpose S16x4096x64 [1, 0, 2] (shapeCast S4096x16x64 (extf .f32 q bitsLt_bf16_f32) shapeCasts_S4096x1024_S4096x16x64)
        transposes_S4096x16x64_S16x4096x64_1_0_2)
      (transpose S16x4096x64 [1, 0, 2] (shapeCast S4096x16x64 (extf .f32 k bitsLt_bf16_f32) shapeCasts_S4096x1024_S4096x16x64)
        transposes_S4096x16x64_S16x4096x64_1_0_2))
    (broadcastInDim S16x4096x4096 ![] bcast_S_S16x4096x4096 (constant S_ .f32 0x3E000000#32))

/-- The zeros the host compares with. -/
def hostO : FVec Ideal S16x4096x4096 .f32 :=
  broadcastInDim S16x4096x4096 ![] bcast_S_S16x4096x4096 (constant S_ .f32 0x00000000#32)

/-- The host's softplus. -/
def hostSp (z : FVec Ideal S16x4096x4096 .f32) : FVec Ideal S16x4096x4096 .f32 :=
  select (cmpf .une (subf z hostO) (subf z hostO)) (addf z hostO)
    (addf (maximumf z hostO) (Host.log1p (Host.exp (Host.negf (Host.absf (subf z hostO))))))

/-- Which keys are before which queries. -/
def hostMask : IVec S4096x4096 1 :=
  cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The row sums the host hands the kernel. -/
def hostLt (q k : FVec Ideal S4096x1024 .bf16) : FVec Ideal S16x4096x1 .f32 :=
  broadcastInDim S16x4096x1 ![0, 1] bcast_S16x4096_S16x4096x1_0_1
    (Host.reduceAdd
      (select (broadcastInDim S16x4096x4096 ![1, 2] bcast_S4096x4096_S16x4096x4096_1_2 hostMask) (Host.negf (hostSp (hostZ q k))) hostO)
      (constant S_ .f32 0x00000000#32) reducesTo_S16x4096x4096_S16x4096_d2 h_S_)

variable (m : (ℓ : Loc nD τ sig) → Buf (Elt Ideal) ℓ) (c : Dev nD)

theorem first_zero (j : S16x8.Idx) : V m c main_v20 j = 0#32 := by
  entry_read
  rfl

theorem V_lt : V m c main_v19 = hostLt (m ((c : Thread nD τ).loc main_arg0)) (m ((c : Thread nD τ).loc main_arg1)) := by
  simp only [V, hostOps0, hostOps0_1, hostOps0_2, hostOps0_3, hostOps0_4, List.flatten_cons, List.flatten_nil, List.append_nil, List.cons_append, List.nil_append]
  entry_read
  rfl

variable (q k : FVec Ideal S4096x1024 .bf16) (Qa Ka Va Da : ℕ → ℕ → ℝ)
  (hQ : ∀ (r : Fin 4096) (y : Fin 1024), q (ix2 r y) = ((Qa r y : ℝ) : EReal))
  (hK : ∀ (r : Fin 4096) (y : Fin 1024), k (ix2 r y) = ((Ka r y : ℝ) : EReal))

include hQ hK in
theorem hostZ_real (h : Fin 16) (r c : Fin 4096) :
    hostZ q k (ix3 h r c) = (((head Qa Ka Va Da h).z r c : ℝ) : EReal) := by
  pointwise [hostZ]
  simp only [hQ, hK, eighth, ← EReal.coe_mul, coe_sum]
  rw [← score_eq]
  refine congrArg (fun x : ℝ => ((x * (1 / 8) : ℝ) : EReal)) ?_
  rw [Finset.sum_range]
  refine Finset.sum_congr rfl fun x _ => ?_
  show Qa r ((h : ℕ) * 64 + x) * Ka c ((h : ℕ) * 64 + x) = Qa r (64 * (h : ℕ) + x) * Ka c (64 * (h : ℕ) + x)
  rw [mul_comm (h : ℕ) 64]

theorem hostSp_real (z : FVec Ideal S16x4096x4096 .f32) (h : Fin 16) (r c : Fin 4096) (x : ℝ) (hx : z (ix3 h r c) = ((x : ℝ) : EReal)) :
    hostSp z (ix3 h r c) = ((-lsm x : ℝ) : EReal) := by
  pointwise [hostSp, hostO]
  rw [if_neg (by simp), hx, ← softplus_coe]
  rfl

theorem hostMask_at (r c : Fin 4096) : hostMask (ix2 r c) = BitVec.ofBool (decide ((c : ℕ) < r)) := by
  pointwise [hostMask]
  simp (disch := word_cmp_side) only [hlo_ix]

include hQ hK in
theorem hostLt_real (h : Fin 16) (r : Fin 4096) :
    hostLt q k (ix3 h r 0) = (((head Qa Ka Va Da h).lt r : ℝ) : EReal) := by
  pointwise [hostLt, hostO]
  simp only [hostMask_at, select_bool, hostSp_real (hostZ q k) _ _ _ _ (hostZ_real q k Qa Ka Va Da hQ hK _ _ _), ← EReal.coe_neg, neg_neg]
  simp only [← EReal.coe_zero, ite_coe, coe_sum]
  unfold Head.lt
  rw [Finset.sum_range]
  rfl
end Cert.KernelIdeal.Attn
-- ==== Proof.Blocks.lean ====
/- The blocks each grid step reads, at real argument arrays. -/
module
public import proofs.«01_k».proof.Proof.Host
public import Idealize.ShloMosaic.Lib.Pipeline.ValueKit
@[expose] public section
set_option maxRecDepth 16384
noncomputable section
namespace Cert.KernelIdeal.Attn
open Idealize.ShloMosaic Cert.KernelIdeal.Gen Cert.Stick Idealize.ShloMosaic.TcCoe

theorem idx0 : ∀ t : Fin cfg0.N, win0_0.index t = ![t.val % 8, t.val / 8] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![t.val / 8, t.val % 8, 0] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![t.val % 8, t.val / 8] := (by decide +kernel : ∀ t : Fin grid0.N, _)
theorem idx7 : ∀ t : Fin cfg0.N, win0_7.index t = ![0, t.val / 8] := (by decide +kernel : ∀ t : Fin grid0.N, _)
theorem idx8 : ∀ t : Fin cfg0.N, win0_8.index t = ![0, t.val / 8] := (by decide +kernel : ∀ t : Fin grid0.N, _)
theorem crd : ∀ t : Fin cfg0.N, (grid0.coords t 1).val = t.val % 8 := (by decide +kernel : ∀ t : Fin grid0.N, _)
theorem N64 : cfg0.N = 64 := by decide +kernel

variable (m : (ℓ : Loc nD τ sig) → Buf (Elt Ideal) ℓ) (c : Dev nD) (Qa Ka Va Da : ℕ → ℕ → ℝ)
  (hQ : ∀ (r : Fin 4096) (y : Fin 1024), m ((c : Thread nD τ).loc main_arg0) (ix2 r y) = ((Qa r y : ℝ) : EReal))
  (hK : ∀ (r : Fin 4096) (y : Fin 1024), m ((c : Thread nD τ).loc main_arg1) (ix2 r y) = ((Ka r y : ℝ) : EReal))
  (hV : ∀ (r : Fin 4096) (y : Fin 1024), m ((c : Thread nD τ).loc main_arg2) (ix2 r y) = ((Va r y : ℝ) : EReal))
  (hD : ∀ (r : Fin 4096) (y : Fin 1024), m ((c : Thread nD τ).loc main_arg3) (ix2 r y) = ((Da r y : ℝ) : EReal))
  (t : Fin cfg0.N)

include hQ in
theorem blk0 (r : Fin 512) (y : Fin 128) : iblk m c 0 t (ix2 r y) = ((Qa (512 * (grid0.coords t 1).val + r) (128 * (t.val / 8) + y) : ℝ) : EReal) := by
  have ht := t.isLt.trans_eq N64
  have h := hQ ⟨512 * (t.val % 8) + r, by omega⟩ ⟨128 * (t.val / 8) + y, by omega⟩
  rw [crd t]
  refine Eq.trans ?_ h
  rw [← V_main_arg0 m c]
  blk_ext [iblk, idx0 t]
include hK in
theorem blk1 (r : Fin 4096) (y : Fin 128) : iblk m c 1 t (ix2 r y) = ((Ka r (128 * (t.val / 8) + y) : ℝ) : EReal) := by
  have ht := t.isLt.trans_eq N64
  have h := hK r ⟨128 * (t.val / 8) + y, by omega⟩
  refine Eq.trans ?_ h
  rw [← V_main_arg1 m c]
  blk_ext [iblk, idx1 t]
include hV in
theorem blk2 (r : Fin 4096) (y : Fin 128) : iblk m c 2 t (ix2 r y) = ((Va r (128 * (t.val / 8) + y) : ℝ) : EReal) := by
  have ht := t.isLt.trans_eq N64
  have h := hV r ⟨128 * (t.val / 8) + y, by omega⟩
  refine Eq.trans ?_ h
  rw [← V_main_arg2 m c]
  blk_ext [iblk, idx2 t]
include hD in
theorem blk5 (r : Fin 512) (y : Fin 128) : iblk m c 5 t (ix2 r y) = ((Da (512 * (grid0.coords t 1).val + r) (128 * (t.val / 8) + y) : ℝ) : EReal) := by
  have ht := t.isLt.trans_eq N64
  have h := hD ⟨512 * (t.val % 8) + r, by omega⟩ ⟨128 * (t.val / 8) + y, by omega⟩
  rw [crd t]
  refine Eq.trans ?_ h
  rw [← V_main_arg3 m c]
  blk_ext [iblk, idx5 t]
include hQ hK in
theorem blk3 (h : Fin 2) (r : Fin 512) : iblk m c 3 t (ix3 h r 0)
    = (((head Qa Ka Va Da (2 * (t.val / 8) + h)).lt (512 * (grid0.coords t 1).val + r) : ℝ) : EReal) := by
  have ht := t.isLt.trans_eq N64
  have e := hostLt_real _ _ Qa Ka Va Da hQ hK ⟨2 * (t.val / 8) + h, by omega⟩ ⟨512 * (t.val % 8) + r, by omega⟩
  rw [crd t]
  refine Eq.trans ?_ e
  rw [← V_lt m c]
  blk_ext [iblk, idx3 t]
theorem blk4 (j : S16x8.Idx) : iblk m c 4 t j = 0#32 := first_zero m c _
end Cert.KernelIdeal.Attn
-- ==== Proof.Final.lean ====
/- The accumulators after every grid step, and from them the kernel's three result arrays, at real arguments. -/
module
public import proofs.«01_k».proof.Proof.Blocks
@[expose] public section
set_option maxRecDepth 16384
noncomputable section
namespace Cert.KernelIdeal.Attn
open Idealize.ShloMosaic Cert.KernelIdeal.Gen Cert.Stick Idealize.ShloMosaic.TcCoe

variable (m : (ℓ : Loc nD τ sig) → Buf (Elt Ideal) ℓ) (c : Dev nD) (Qa Ka Va Da : ℕ → ℕ → ℝ)
  (hQ : ∀ (r : Fin 4096) (y : Fin 1024), m ((c : Thread nD τ).loc main_arg0) (ix2 r y) = ((Qa r y : ℝ) : EReal))
  (hK : ∀ (r : Fin 4096) (y : Fin 1024), m ((c : Thread nD τ).loc main_arg1) (ix2 r y) = ((Ka r y : ℝ) : EReal))
  (hV : ∀ (r : Fin 4096) (y : Fin 1024), m ((c : Thread nD τ).loc main_arg2) (ix2 r y) = ((Va r y : ℝ) : EReal))
  (hD : ∀ (r : Fin 4096) (y : Fin 1024), m ((c : Thread nD τ).loc main_arg3) (ix2 r y) = ((Da r y : ℝ) : EReal))

/-- The zeroed accumulators hold zeros. -/
theorem zero37 : Holds (k0_pay37 (F := Ideal)) (fun _ _ => 0) := fun c y => by
  pointwise [k0_pay37]
  exact EReal.coe_zero.symm
theorem zero38 : Holds (k0_pay38 (F := Ideal)) (fun _ _ => 0) := fun c y => by
  pointwise [k0_pay38]
  exact EReal.coe_zero.symm

/-- What the accumulators hold when step `t` adds to them: nothing at a pair's first step. -/
theorem fst_holds (t : Fin cfg0.N) (z A : FVec Ideal S4096x128 .f32) (a : ℕ → ℕ → ℝ) (hz : Holds z (fun _ _ => 0))
    (h0 : t.val % 8 = 0 → a = fun _ _ => 0) (h : t.val % 8 ≠ 0 → Holds A a) : Holds (fst (grid0.coords t) z A) a := by
  unfold fst
  by_cases e : t.val % 8 = 0
  · rw [if_pos ((first_iff t).mpr e), h0 e]
    exact hz
  · rw [if_neg (fun h' => e ((first_iff t).mp h'))]
    exact h e

include hQ hK hV hD in
/-- The accumulators after step `t`: the sums over the queries of the tiles so far. -/
theorem pt_real (t : Fin cfg0.N) :
    Holds (pt m c t (st m c t.val).1 (st m c t.val).2).dk
        (fun k y => (head Qa Ka Va Da (2 * (t.val / 8) + y / 64)).DK 0 (512 * (t.val % 8) + 512) k (y % 64))
    ∧ Holds (pt m c t (st m c t.val).1 (st m c t.val).2).dv
        (fun k y => (head Qa Ka Va Da (2 * (t.val / 8) + y / 64)).DV 0 (512 * (t.val % 8) + 512) k (y % 64))
    ∧ ∀ (r : Fin 512) (y : Fin 128), ptQ m c t (st m c t.val).1 (st m c t.val).2 (ix2 r y)
      = (((head Qa Ka Va Da (2 * (t.val / 8) + y / 64)).DQ (512 * (t.val % 8) + r) (y % 64) (512 * (t.val % 8) + 512) * (1 / 8) : ℝ) : EReal) := by
  obtain ⟨n, hn⟩ := t
  induction n with
  | zero =>
    have hA := fst_holds ⟨0, hn⟩ k0_pay37 (st m c 0).1 (fun _ _ => 0) zero37 (fun _ => rfl) (fun h => absurd rfl h)
    have hB := fst_holds ⟨0, hn⟩ k0_pay38 (st m c 0).2 (fun _ _ => 0) zero38 (fun _ => rfl) (fun h => absurd rfl h)
    obtain ⟨hq, hk, hv⟩ := step_real Qa Ka Va Da (0 / 8) (grid0.coords ⟨0, hn⟩) _ _ _ _ _ _ _ _
      (blk1 m c Ka hK ⟨0, hn⟩) (blk2 m c Va hV ⟨0, hn⟩) (blk0 m c Qa hQ ⟨0, hn⟩) (blk5 m c Da hD ⟨0, hn⟩)
      (blk3 m c Qa Ka Va Da hQ hK ⟨0, hn⟩) (blk4 m c ⟨0, hn⟩) _ _ hA hB
    rw [crd ⟨0, hn⟩] at hq hk hv
    refine ⟨fun k y => (hk k y).trans ?_, fun k y => (hv k y).trans ?_, hq⟩
    · simp
    · simp
  | succ n ih =>
    obtain ⟨ik, iv, -⟩ := ih (by omega)
    have es := st_succ m c ⟨n, by omega⟩
    have e0 : ∀ h : Head, (n + 1) % 8 = 0 → (∀ k x, h.DK 0 (512 * ((n + 1) % 8)) k x = 0) ∧ ∀ k x, h.DV 0 (512 * ((n + 1) % 8)) k x = 0 := by
      intro h e
      rw [e]
      exact ⟨fun k x => by simp [Head.DK], fun k x => by simp [Head.DV]⟩
    have hA := fst_holds ⟨n + 1, hn⟩ k0_pay37 (st m c (n + 1)).1
      (fun k y => (head Qa Ka Va Da (2 * ((n + 1) / 8) + y / 64)).DK 0 (512 * ((n + 1) % 8)) k (y % 64)) zero37
      (fun e => by funext k y; exact (e0 _ e).1 _ _)
      (fun e => by
        have e' : (n + 1) % 8 ≠ 0 := e
        rw [es, show (n + 1) / 8 = n / 8 by omega, show 512 * ((n + 1) % 8) = 512 * (n % 8) + 512 by omega]
        exact ik)
    have hB := fst_holds ⟨n + 1, hn⟩ k0_pay38 (st m c (n + 1)).2
      (fun k y => (head Qa Ka Va Da (2 * ((n + 1) / 8) + y / 64)).DV 0 (512 * ((n + 1) % 8)) k (y % 64)) zero38
      (fun e => by funext k y; exact (e0 _ e).2 _ _)
      (fun e => by
        have e' : (n + 1) % 8 ≠ 0 := e
        rw [es, show (n + 1) / 8 = n / 8 by omega, show 512 * ((n + 1) % 8) = 512 * (n % 8) + 512 by omega]
        exact iv)
    obtain ⟨hq, hk, hv⟩ := step_real Qa Ka Va Da ((n + 1) / 8) (grid0.coords ⟨n + 1, hn⟩) _ _ _ _ _ _ _ _
      (blk1 m c Ka hK ⟨n + 1, hn⟩) (blk2 m c Va hV ⟨n + 1, hn⟩) (blk0 m c Qa hQ ⟨n + 1, hn⟩) (blk5 m c Da hD ⟨n + 1, hn⟩)
      (blk3 m c Qa Ka Va Da hQ hK ⟨n + 1, hn⟩) (blk4 m c ⟨n + 1, hn⟩) _ _ hA hB
    rw [crd ⟨n + 1, hn⟩] at hq hk hv
    refine ⟨fun k y => (hk k y).trans ?_, fun k y => (hv k y).trans ?_, hq⟩
    · exact congrArg _ (Head.DK_add _ _ _ _ _).symm
    · exact congrArg _ (Head.DV_add _ _ _ _ _).symm

/-- The three results as functions of the real argument arrays. -/
def dqOf (Qa Ka Va Da : ℕ → ℕ → ℝ) : FVec Ideal S4096x1024 .bf16 := fun j =>
  (((head Qa Ka Va Da ((j 1).val / 64)).DQ (j 0).val ((j 1).val % 64) 4096 * (1 / 8) : ℝ) : EReal)
def dkOf (Qa Ka Va Da : ℕ → ℕ → ℝ) : FVec Ideal S4096x1024 .bf16 := fun j =>
  (((head Qa Ka Va Da ((j 1).val / 64)).DK 0 4096 (j 0).val ((j 1).val % 64) : ℝ) : EReal)
def dvOf (Qa Ka Va Da : ℕ → ℕ → ℝ) : FVec Ideal S4096x1024 .bf16 := fun j =>
  (((head Qa Ka Va Da ((j 1).val / 64)).DV 0 4096 (j 0).val ((j 1).val % 64) : ℝ) : EReal)

/-- Where a block's entry lies in the result arrays: of the gradient of q, of k and of v. -/
theorem emb6 (t : Fin cfg0.N) (r : Fin 512) (y : Fin 128) :
    (win0_6.blk t).view.emb (ix2 r y) = ix2 (⟨512 * (t.val % 8) + r, by have := r.isLt; omega⟩ : Fin 4096)
      (⟨128 * (t.val / 8) + y, by have := y.isLt; have := t.isLt.trans_eq N64; omega⟩ : Fin 1024) := by
  blk_ext [idx6 t]
theorem emb7 (t : Fin cfg0.N) (r : Fin 4096) (y : Fin 128) :
    (win0_7.blk t).view.emb (ix2 r y) = ix2 r
      (⟨128 * (t.val / 8) + y, by have := y.isLt; have := t.isLt.trans_eq N64; omega⟩ : Fin 1024) := by
  blk_ext [idx7 t]
theorem emb8 (t : Fin cfg0.N) (r : Fin 4096) (y : Fin 128) :
    (win0_8.blk t).view.emb (ix2 r y) = ix2 r
      (⟨128 * (t.val / 8) + y, by have := y.isLt; have := t.isLt.trans_eq N64; omega⟩ : Fin 1024) := by
  blk_ext [idx8 t]

include hQ hK hV hD in
/-- The gradient of q. -/
theorem final6 : (dats m 0 c).arrAt 6 cfg0.N = dqOf Qa Ka Va Da := by
  refine (dats m 0 c).arrAt_eq_of_covers 6 _ (by decide +kernel) fun t hf y => ?_
  blk_simp
  rw [after6]
  change S512x128.Idx at y
  idx_vars y
  rw [(pt_real m c Qa Ka Va Da hQ hK hV hD t).2.2, emb6]
  show _ = (((head Qa Ka Va Da ((128 * (t.val / 8) + y1) / 64)).DQ (512 * (t.val % 8) + y0) ((128 * (t.val / 8) + y1) % 64) 4096 * (1 / 8) : ℝ) : EReal)
  rw [Head.DQ_stop _ (n := 512 * (t.val % 8) + 512) (n' := 4096) _ (by omega) (by omega),
    show (128 * (t.val / 8) + (y1 : ℕ)) / 64 = 2 * (t.val / 8) + y1 / 64 by omega,
    show (128 * (t.val / 8) + (y1 : ℕ)) % 64 = y1 % 64 by omega]

include hQ hK hV hD in
/-- The gradient of k. -/
theorem final7 : (dats m 0 c).arrAt 7 cfg0.N = dkOf Qa Ka Va Da := by
  refine (dats m 0 c).arrAt_eq_of_covers 7 _ (by decide +kernel) fun t hf y => ?_
  blk_simp
  rw [after7]
  have h7 := (flush0_7 t).mp hf
  change S4096x128.Idx at y
  idx_vars y
  rw [show k0_pay3 (F := Ideal) (pt m c t (st m c t.val).1 (st m c t.val).2).dk (ix2 y0 y1) = _ from
    (pt_real m c Qa Ka Va Da hQ hK hV hD t).1 y0 y1, emb7]
  show _ = (((head Qa Ka Va Da ((128 * (t.val / 8) + y1) / 64)).DK 0 4096 y0 ((128 * (t.val / 8) + y1) % 64) : ℝ) : EReal)
  rw [show (128 * (t.val / 8) + (y1 : ℕ)) / 64 = 2 * (t.val / 8) + y1 / 64 by omega,
    show (128 * (t.val / 8) + (y1 : ℕ)) % 64 = y1 % 64 by omega, show 512 * (t.val % 8) + 512 = 4096 by omega]

include hQ hK hV hD in
/-- The gradient of v. -/
theorem final8 : (dats m 0 c).arrAt 8 cfg0.N = dvOf Qa Ka Va Da := by
  refine (dats m 0 c).arrAt_eq_of_covers 8 _ (by decide +kernel) fun t hf y => ?_
  blk_simp
  rw [after8]
  have h7 := (flush0_8 t).mp hf
  change S4096x128.Idx at y
  idx_vars y
  rw [show k0_pay4 (F := Ideal) (pt m c t (st m c t.val).1 (st m c t.val).2).dv (ix2 y0 y1) = _ from
    (pt_real m c Qa Ka Va Da hQ hK hV hD t).2.1 y0 y1, emb8]
  show _ = (((head Qa Ka Va Da ((128 * (t.val / 8) + y1) / 64)).DV 0 4096 y0 ((128 * (t.val / 8) + y1) % 64) : ℝ) : EReal)
  rw [show (128 * (t.val / 8) + (y1 : ℕ)) / 64 = 2 * (t.val / 8) + y1 / 64 by omega,
    show (128 * (t.val / 8) + (y1 : ℕ)) % 64 = y1 % 64 by omega, show 512 * (t.val % 8) + 512 = 4096 by omega]
end Cert.KernelIdeal.Attn
-- ==== Proof.Cumsum.lean ====
/- Running sums along the last axis of an array, as windowed sums of its rows. -/
module
public import proofs.«01_k».proof.Proof.Reals
@[expose] public section
set_option maxRecDepth 16384
noncomputable section
namespace Cert.Stick
open Idealize.ShloMosaic

/-- Adding up a list from the left is adding the list's sum. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

variable {A B N : ℕ} (x : (⟨3, ![A, B, N]⟩ : Shape).Idx → EReal) (f : ℕ → ℝ) (a : Fin A) (b : Fin B)
  (hx : ∀ k : Fin N, x (ix3 a b k) = ((f k : ℝ) : EReal)) (c : Fin N)

include hx in
/-- A windowed sum along a row that starts `lo` entries before the result's entry; entries off the row add zero. -/
theorem window_sum (lo hi : ℕ) (h : (⟨3, ![A, B, N]⟩ : Shape).ReduceWindows (![1, 1, N] : Fin 3 → Nat) ![1, 1, 1] ![0, 0, lo] ![0, 0, hi] ⟨3, ![A, B, N]⟩) :
    Ideal.hostReduceWindowAdd (s := ⟨3, ![A, B, N]⟩) ![1, 1, N] ![1, 1, 1] ![0, 0, lo] ![0, 0, hi] h x 0 (ix3 a b c)
      = ((∑ n ∈ Finset.range N, (if lo ≤ c + n ∧ c + n - lo < N then f (c + n - lo) else 0) : ℝ) : EReal) := by
  unfold Ideal.hostReduceWindowAdd Host.reduceWindow
  dsimp only
  rw [foldl_sum, zero_add, ← coe_sum, Finset.sum_range]
  have hN : (⟨3, ![1, 1, N]⟩ : Shape).numel = N := by simp [Shape.numel, Fin.prod_univ_succ]
  rw [← List.ofFn_eq_map, List.sum_ofFn]
  refine Fintype.sum_equiv (finCongr hN) _ _ fun n => ?_
  obtain ⟨i, rfl⟩ := (⟨3, ![1, 1, N]⟩ : Shape).rowMajor.surjective n
  have e := Shape.rowMajor_val_three i
  have i0 : (i 0).val = 0 := by have : (i 0).val < 1 := (i 0).isLt; omega
  have i1 : (i 1).val = 0 := by have : (i 1).val < 1 := (i 1).isLt; omega
  have e2 : ((finCongr hN ((⟨3, ![1, 1, N]⟩ : Shape).rowMajor i) : Fin N) : ℕ) = (i 2).val := by
    show ((⟨3, ![1, 1, N]⟩ : Shape).rowMajor i).val = _
    rw [e, i0, i1]; simp
  rw [e2]
  split
  · next hin =>
    have h2 := hin 2
    simp only [Equiv.symm_apply_apply] at h2
    change lo ≤ c.val * 1 + (i 2).val ∧ c.val * 1 + (i 2).val - lo < N at h2
    rw [mul_one] at h2
    rw [if_pos h2]
    refine Eq.trans (congrArg x ?_) (hx ⟨c.val + (i 2).val - lo, h2.2⟩)
    funext d
    apply Fin.ext
    match d with
    | 0 =>
      show a.val * 1 + ((⟨3, ![1, 1, N]⟩ : Shape).rowMajor.symm _ 0).val - 0 = a.val
      rw [Equiv.symm_apply_apply, i0]; omega
    | 1 =>
      show b.val * 1 + ((⟨3, ![1, 1, N]⟩ : Shape).rowMajor.symm _ 1).val - 0 = b.val
      rw [Equiv.symm_apply_apply, i1]; omega
    | 2 =>
      show c.val * 1 + ((⟨3, ![1, 1, N]⟩ : Shape).rowMajor.symm _ 2).val - lo = c.val + (i 2).val - lo
      rw [Equiv.symm_apply_apply, mul_one]
  · next hin =>
    rw [if_neg fun h2 => hin fun d => ?_]
    · exact EReal.coe_zero.symm
    · match d with
      | 0 =>
        show 0 ≤ a.val * 1 + ((⟨3, ![1, 1, N]⟩ : Shape).rowMajor.symm _ 0).val
          ∧ a.val * 1 + ((⟨3, ![1, 1, N]⟩ : Shape).rowMajor.symm _ 0).val - 0 < A
        rw [Equiv.symm_apply_apply, i0]; have := a.isLt; omega
      | 1 =>
        show 0 ≤ b.val * 1 + ((⟨3, ![1, 1, N]⟩ : Shape).rowMajor.symm _ 1).val
          ∧ b.val * 1 + ((⟨3, ![1, 1, N]⟩ : Shape).rowMajor.symm _ 1).val - 0 < B
        rw [Equiv.symm_apply_apply, i1]; have := b.isLt; omega
      | 2 =>
        show lo ≤ c.val * 1 + ((⟨3, ![1, 1, N]⟩ : Shape).rowMajor.symm _ 2).val
          ∧ c.val * 1 + ((⟨3, ![1, 1, N]⟩ : Shape).rowMajor.symm _ 2).val - lo < N
        rw [Equiv.symm_apply_apply, mul_one]; exact h2

include hx in
/-- Summing from an entry to the row's end: the row's sum without the entries before. -/
theorem sum_from (hi : ℕ) (h : (⟨3, ![A, B, N]⟩ : Shape).ReduceWindows (![1, 1, N] : Fin 3 → Nat) ![1, 1, 1] ![0, 0, 0] ![0, 0, hi] ⟨3, ![A, B, N]⟩) :
    Ideal.hostReduceWindowAdd (s := ⟨3, ![A, B, N]⟩) ![1, 1, N] ![1, 1, 1] ![0, 0, 0] ![0, 0, hi] h x 0 (ix3 a b c)
      = ((∑ k ∈ Finset.range N, f k - ∑ k ∈ Finset.range c, f k : ℝ) : EReal) := by
  rw [window_sum x f a b hx c]
  congr 1
  obtain ⟨n, hn⟩ := Nat.exists_eq_add_of_lt c.isLt
  generalize (c : ℕ) = c at hn
  have hN : N = (N - c) + c := by omega
  rw [eq_sub_iff_add_eq]
  conv_lhs => rw [hN, Finset.sum_range_add]
  conv_rhs => rw [hN, add_comm (N - c) c, Finset.sum_range_add, add_comm]
  congr 1
  rw [Finset.sum_eq_zero (s := Finset.range c), add_zero]
  · refine Finset.sum_congr rfl fun k hk => ?_
    have := Finset.mem_range.mp hk
    rw [if_pos (by omega), Nat.sub_zero]
  · intro k _
    rw [if_neg (by omega)]

include hx in
/-- Summing from the row's start to an entry. -/
theorem sum_upto (lo : ℕ) (hlo : lo + 1 = N) (h : (⟨3, ![A, B, N]⟩ : Shape).ReduceWindows (![1, 1, N] : Fin 3 → Nat) ![1, 1, 1] ![0, 0, lo] ![0, 0, 0] ⟨3, ![A, B, N]⟩) :
    Ideal.hostReduceWindowAdd (s := ⟨3, ![A, B, N]⟩) ![1, 1, N] ![1, 1, 1] ![0, 0, lo] ![0, 0, 0] h x 0 (ix3 a b c)
      = ((∑ k ∈ Finset.range (c + 1), f k : ℝ) : EReal) := by
  rw [window_sum x f a b hx c]
  congr 1
  have hc := c.isLt
  generalize (c : ℕ) = c at hc
  have hN : Finset.range N = Finset.range ((lo - c) + (c + 1)) := by congr 1; omega
  rw [hN, Finset.sum_range_add, Finset.sum_eq_zero, zero_add]
  · refine Finset.sum_congr rfl fun k hk => ?_
    have := Finset.mem_range.mp hk
    rw [if_pos (by omega)]
    congr 1; omega
  · intro k hk
    have := Finset.mem_range.mp hk
    rw [if_neg (by omega)]
end Cert.Stick
-- ==== Proof.RefStages.lean ====
/- The reference's gradients, written in stages. -/
module
public import proofs.«01_k».proof.Proof.Gen.ReferenceIdeal.Run
public import proofs.«01_k».proof.Proof.Cumsum
public import Idealize.ShloMosaic.Lib.Claim
@[expose] public section
set_option maxRecDepth 16384
noncomputable section
namespace Cert.ReferenceIdeal.Attn
open Idealize.ShloMosaic Cert.ReferenceIdeal.Gen Cert.Stick Idealize.ShloMosaic.TcCoe

/-- An argument's columns grouped into heads. -/
def heads (x : FVec Ideal S4096x1024 .bf16) : FVec Ideal S16x4096x64 .f32 :=
  transpose S16x4096x64 [1, 0, 2] (shapeCast S4096x16x64 (extf .f32 x bitsLt_bf16_f32) shapeCasts_S4096x1024_S4096x16x64)
    transposes_S4096x16x64_S16x4096x64_1_0_2
/-- The heads' columns side by side again. -/
def unheads (x : FVec Ideal S16x4096x64 .f32) : FVec Ideal S4096x1024 .bf16 :=
  truncf .bf16 (shapeCast S4096x1024 (transpose S4096x16x64 [1, 0, 2] x transposes_S16x4096x64_S4096x16x64_1_0_2) shapeCasts_S4096x16x64_S4096x1024)
    bitsLt_bf16_f32

/-- One number at every entry. -/
def splat (b : BitVec 32) : FVec Ideal S16x4096x4096 .f32 :=
  broadcastInDim S16x4096x4096 ![] bcast_S_S16x4096x4096 (constant S_ .f32 b)

/-- Products of rows with rows, head by head. -/
def rows (q k : FVec Ideal S16x4096x64 .f32) : FVec Ideal S16x4096x4096 .f32 :=
  Host.dotGeneral dot_S16x4096x64_S16x4096x64_S16x4096x4096_2_2_1_1_0_0 none q k

/-- The scores. -/
def scores (q k : FVec Ideal S4096x1024 .bf16) : FVec Ideal S16x4096x4096 .f32 :=
  mulf (rows (heads q) (heads k)) (splat 0x3E000000#32)

/-- The softplus. -/
def sp (z : FVec Ideal S16x4096x4096 .f32) : FVec Ideal S16x4096x4096 .f32 :=
  select (cmpf .une (subf z (splat 0x00000000#32)) (subf z (splat 0x00000000#32))) (addf z (splat 0x00000000#32))
    (addf (maximumf z (splat 0x00000000#32)) (Host.log1p (Host.exp (Host.negf (Host.absf (subf z (splat 0x00000000#32)))))))

/-- The softplus's derivative. -/
def dsp (z : FVec Ideal S16x4096x4096 .f32) : FVec Ideal S16x4096x4096 .f32 :=
  Host.exp (subf (select (cmpf .oeq z (splat 0x7F800000#32)) (splat 0x00000000#32) z)
    (select (cmpf .oeq (sp z) (splat 0x7F800000#32)) (splat 0x00000000#32) (sp z)))

/-- Which keys are before which queries, in every head. -/
def mask : IVec S16x4096x4096 1 :=
  broadcastInDim S16x4096x4096 ![1, 2] bcast_S4096x4096_S16x4096x4096_1_2
    (cmpi .slt
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- An array with zeros at the keys not before their query. -/
def keep (x : FVec Ideal S16x4096x4096 .f32) : FVec Ideal S16x4096x4096 .f32 := select mask x (splat 0x00000000#32)

/-- The sum of each entry and those after it in the row, and of those up to it. -/
def sumFrom (x : FVec Ideal S16x4096x4096 .f32) : FVec Ideal S16x4096x4096 .f32 :=
  Host.reduceWindowAdd ![1, 1, 4096] ![1, 1, 1] ![0, 0, 0] ![0, 0, 4095] x (broadcastInDim S_ ![] bcast_S_S_ (constant S_ .f32 0x00000000#32))
    reduceWindows_S16x4096x4096_S16x4096x4096_w1s1p0_0_w1s1p0_0_w4096s1p0_4095 h_S_
def sumUpto (x : FVec Ideal S16x4096x4096 .f32) : FVec Ideal S16x4096x4096 .f32 :=
  Host.reduceWindowAdd ![1, 1, 4096] ![1, 1, 1] ![0, 0, 4095] ![0, 0, 0] x (broadcastInDim S_ ![] bcast_S_S_ (constant S_ .f32 0x00000000#32))
    reduceWindows_S16x4096x4096_S16x4096x4096_w1s1p0_0_w1s1p0_0_w4096s1p4095_0 h_S_

/-- The kept logarithms of one minus the sigmoid. -/
def logs (z : FVec Ideal S16x4096x4096 .f32) : FVec Ideal S16x4096x4096 .f32 := keep (Host.negf (sp z))
/-- The attention weights before masking. -/
def weight (z : FVec Ideal S16x4096x4096 .f32) : FVec Ideal S16x4096x4096 .f32 :=
  Host.exp (addf (Host.negf (sp (Host.negf z))) (subf (sumFrom (logs z)) (logs z)))

/-- The cotangent of the weights' logarithms. -/
def cot (v d : FVec Ideal S4096x1024 .bf16) (z : FVec Ideal S16x4096x4096 .f32) : FVec Ideal S16x4096x4096 .f32 :=
  mulf (keep (rows (heads d) (heads v))) (weight z)

/-- The gradient of the products of q with k. -/
def dscore (z g : FVec Ideal S16x4096x4096 .f32) : FVec Ideal S16x4096x4096 .f32 :=
  mulf (addf (Host.negf (mulf (Host.negf g) (dsp (Host.negf z)))) (mulf (Host.negf (keep (addf (Host.negf g) (sumUpto g)))) (dsp z)))
    (splat 0x3E000000#32)

/-- The three gradients. -/
def outQ (q k v d : FVec Ideal S4096x1024 .bf16) : FVec Ideal S4096x1024 .bf16 :=
  unheads (Host.dotGeneral dot_S16x4096x4096_S16x4096x64_S16x4096x64_2_1_1_2_0_0 none
    (dscore (scores q k) (cot v d (scores q k))) (heads k))
def outK (q k v d : FVec Ideal S4096x1024 .bf16) : FVec Ideal S4096x1024 .bf16 :=
  unheads (Host.dotGeneral dot_S16x4096x4096_S16x4096x64_S16x4096x64_1_1_2_2_0_0 none
    (dscore (scores q k) (cot v d (scores q k))) (heads q))
def outV (q k d : FVec Ideal S4096x1024 .bf16) : FVec Ideal S4096x1024 .bf16 :=
  unheads (transpose S16x4096x64 [0, 2, 1]
    (Host.dotGeneral dot_S16x4096x64_S16x4096x4096_S16x64x4096_1_1_2_2_0_0 none (heads d) (keep (weight (scores q k))))
    transposes_S16x64x4096_S16x4096x64_0_2_1)

variable (m : (ℓ : Loc nD τ sig) → Buf (Elt Ideal) ℓ) (c : Dev nD)

theorem res_v : Value.res_main_v53 m c = outV (m ((c : Thread nD τ).loc main_arg0)) (m ((c : Thread nD τ).loc main_arg1)) (m ((c : Thread nD τ).loc main_arg3)) := rfl
theorem res_k : Value.res_main_v56 m c = outK (m ((c : Thread nD τ).loc main_arg0)) (m ((c : Thread nD τ).loc main_arg1)) (m ((c : Thread nD τ).loc main_arg2)) (m ((c : Thread nD τ).loc main_arg3)) := rfl
theorem res_q : Value.res_main_v59 m c = outQ (m ((c : Thread nD τ).loc main_arg0)) (m ((c : Thread nD τ).loc main_arg1)) (m ((c : Thread nD τ).loc main_arg2)) (m ((c : Thread nD τ).loc main_arg3)) := rfl
end Cert.ReferenceIdeal.Attn
-- ==== Proof.RefValue.lean ====
/- The reference's gradients at real arrays. -/
module
public import proofs.«01_k».proof.Proof.RefStages
public import Idealize.ShloMosaic.Lib.WordCmp
@[expose] public section
set_option maxRecDepth 16384
noncomputable section
namespace Cert.ReferenceIdeal.Attn
open Idealize.ShloMosaic Cert.ReferenceIdeal.Gen Cert.Stick Idealize.ShloMosaic.TcCoe

section Pieces
variable (z : FVec Ideal S16x4096x4096 .f32) (h : Fin 16) (r c : Fin 4096) (x : ℝ) (hx : z (ix3 h r c) = ((x : ℝ) : EReal))

theorem add_at (w : FVec Ideal S16x4096x4096 .f32) : addf z w (ix3 h r c) = z (ix3 h r c) + w (ix3 h r c) := by pointwise []
theorem neg_at : Host.negf z (ix3 h r c) = -z (ix3 h r c) := by pointwise []

include hx in
theorem sp_real : sp z (ix3 h r c) = ((-lsm x : ℝ) : EReal) := by
  pointwise [sp, splat]
  rw [if_neg (by simp), hx, ← softplus_coe]
  rfl

include hx in
/-- The softplus's derivative is the sigmoid. -/
theorem dsp_real : dsp z (ix3 h r c) = ((Real.exp (x + lsm x) : ℝ) : EReal) := by
  have hs := sp_real z h r c x hx
  pointwise [dsp, splat]
  simp only [hs, hx, inf32, EReal.coe_ne_top, if_false]
  rw [← EReal.coe_sub, exp_coe, sub_neg_eq_add]

theorem mask_at : mask (ix3 h r c) = BitVec.ofBool (decide ((c : ℕ) < r)) := by
  pointwise [mask]
  simp (disch := word_cmp_side) only [hlo_ix]

include hx in
theorem keep_real : keep z (ix3 h r c) = (((if (c : ℕ) < r then x else 0) : ℝ) : EReal) := by
  pointwise [keep, splat]
  rw [mask_at, select_bool, hx, ← EReal.coe_zero, ite_coe]

end Pieces

section Sums
theorem zero_init (i : S_.Idx) : (broadcastInDim S_ ![] bcast_S_S_ (constant (F := Ideal) S_ .f32 0x00000000#32)) i = (0 : EReal) := by
  show Ideal.ofBits .f32 0x00000000#32 = 0
  simp
variable (z : FVec Ideal S16x4096x4096 .f32) (h : Fin 16) (r : Fin 4096) (f : ℕ → ℝ)
  (hz : ∀ k : Fin 4096, z (ix3 h r k) = ((f k : ℝ) : EReal)) (c : Fin 4096)
include hz

theorem sumFrom_real : sumFrom z (ix3 h r c) = ((∑ k ∈ Finset.range 4096, f k - ∑ k ∈ Finset.range c, f k : ℝ) : EReal) := by
  refine Eq.trans ?_ (sum_from z f h r hz c 4095 reduceWindows_S16x4096x4096_S16x4096x4096_w1s1p0_0_w1s1p0_0_w4096s1p0_4095)
  unfold sumFrom Host.reduceWindowAdd
  rw [Ideal.hostReduceWindowAdd_def, zero_init]
theorem sumUpto_real : sumUpto z (ix3 h r c) = ((∑ k ∈ Finset.range (c + 1), f k : ℝ) : EReal) := by
  refine Eq.trans ?_ (sum_upto z f h r hz c 4095 rfl reduceWindows_S16x4096x4096_S16x4096x4096_w1s1p0_0_w1s1p0_0_w4096s1p4095_0)
  unfold sumUpto Host.reduceWindowAdd
  rw [Ideal.hostReduceWindowAdd_def, zero_init]
end Sums

section Stages
variable (q k v d : FVec Ideal S4096x1024 .bf16) (Qa Ka Va Da : ℕ → ℕ → ℝ)
  (hQ : ∀ (r : Fin 4096) (y : Fin 1024), q (ix2 r y) = ((Qa r y : ℝ) : EReal))
  (hK : ∀ (r : Fin 4096) (y : Fin 1024), k (ix2 r y) = ((Ka r y : ℝ) : EReal))
  (hV : ∀ (r : Fin 4096) (y : Fin 1024), v (ix2 r y) = ((Va r y : ℝ) : EReal))
  (hD : ∀ (r : Fin 4096) (y : Fin 1024), d (ix2 r y) = ((Da r y : ℝ) : EReal))

include hQ in
/-- An argument's heads at a row and a column. -/
theorem heads_real (h : Fin 16) (r : Fin 4096) (x : Fin 64) : heads q (ix3 h r x) = ((Qa r (64 * h + x) : ℝ) : EReal) := by
  pointwise [heads]
  simp only [hQ]
  rw [mul_comm (64 : ℕ)]

/-- The heads side by side. -/
theorem unheads_at (o : FVec Ideal S16x4096x64 .f32) (r : Fin 4096) (y : Fin 1024) :
    unheads o (ix2 r y) = o (ix3 (⟨y / 64, by omega⟩ : Fin 16) r (⟨y % 64, by omega⟩ : Fin 64)) := by
  pointwise [unheads]

theorem rows_real (a b : FVec Ideal S16x4096x64 .f32) (A B : ℕ → ℕ → ℝ) (h : Fin 16)
    (ha : ∀ (r : Fin 4096) (x : Fin 64), a (ix3 h r x) = ((A r x : ℝ) : EReal))
    (hb : ∀ (r : Fin 4096) (x : Fin 64), b (ix3 h r x) = ((B r x : ℝ) : EReal)) (r c : Fin 4096) :
    rows a b (ix3 h r c) = ((∑ x ∈ Finset.range 64, A r x * B c x : ℝ) : EReal) := by
  pointwise [rows]
  simp only [ha, hb, ← EReal.coe_mul, coe_sum]
  rw [Finset.sum_range]

include hQ hK in
theorem scores_real (h : Fin 16) (r c : Fin 4096) : scores q k (ix3 h r c) = (((head Qa Ka Va Da h).z r c : ℝ) : EReal) := by
  have e := rows_real (heads q) (heads k) (fun r x => Qa r (64 * h + x)) (fun r x => Ka r (64 * h + x)) h (heads_real q Qa hQ h) (heads_real k Ka hK h) r c
  pointwise [scores, splat]
  rw [e, eighth, ← EReal.coe_mul, ← score_eq]
  rfl

variable (z : FVec Ideal S16x4096x4096 .f32) (h : Fin 16) (H : Head)
  (hz : ∀ r c : Fin 4096, z (ix3 h r c) = ((H.z r c : ℝ) : EReal))

include hz in
theorem logs_real (r c : Fin 4096) : logs z (ix3 h r c) = ((H.L r c : ℝ) : EReal) := by
  unfold logs Head.L
  refine keep_real _ h r c _ ?_
  rw [neg_at, sp_real z h r c _ (hz r c), ← EReal.coe_neg, neg_neg]

include hz in
theorem weight_real (r c : Fin 4096) :
    weight z (ix3 h r c) = ((Real.exp (H.z r c + lsm (H.z r c) + (H.lt r - H.PL r (c + 1))) : ℝ) : EReal) := by
  have e1 := sp_real (Host.negf z) h r c (-H.z r c) (by rw [neg_at, hz, EReal.coe_neg])
  have e2 := sumFrom_real (logs z) h r _ (logs_real z h H hz r) c
  have e3 := logs_real z h H hz r c
  pointwise [weight]
  rw [e1, e2, e3, lsm_neg, ← EReal.coe_neg, ← EReal.coe_sub, ← EReal.coe_add, exp_coe, Head.PL_add]
  refine congrArg (fun x : ℝ => ((Real.exp x : ℝ) : EReal)) ?_
  simp [Head.lt, Head.PL]
  ring

include hz in
theorem cot_real (hv : ∀ (c : Fin 4096) (x : Fin 64), heads v (ix3 h c x) = ((H.v c x : ℝ) : EReal))
    (hd : ∀ (c : Fin 4096) (x : Fin 64), heads d (ix3 h c x) = ((H.d c x : ℝ) : EReal)) (r c : Fin 4096) :
    cot v d z (ix3 h r c) = ((H.g r c : ℝ) : EReal) := by
  have e1 := keep_real _ h r c _ (rows_real (heads d) (heads v) _ _ h hd hv r c)
  have e2 := weight_real z h H hz r c
  pointwise [cot]
  rw [e1, e2, ← EReal.coe_mul]
  unfold Head.g Head.att Head.dv
  split <;> simp [mul_comm]

include hz in
theorem dscore_real (g : FVec Ideal S16x4096x4096 .f32) (hg : ∀ r c : Fin 4096, g (ix3 h r c) = ((H.g r c : ℝ) : EReal))
    (r c : Fin 4096) : dscore z g (ix3 h r c) = ((H.dz r c * (1 / 8) : ℝ) : EReal) := by
  have e1 := dsp_real (Host.negf z) h r c (-H.z r c) (by rw [neg_at, hz, EReal.coe_neg])
  have e2 := dsp_real z h r c _ (hz r c)
  have e3 := sumUpto_real g h r _ (hg r) c
  have e4 := keep_real (addf (Host.negf g) (sumUpto g)) h r c (H.PG r c) (by
    rw [add_at, neg_at, e3, hg, ← EReal.coe_neg, ← EReal.coe_add]
    unfold Head.PG
    rw [Finset.sum_range_succ]
    exact congrArg Real.toEReal (by ring))
  unfold dscore
  generalize keep (addf (Host.negf g) (sumUpto g)) = s at e4 ⊢
  pointwise [splat]
  rw [e1, e2, e4, hg, eighth, sigmoid_add]
  simp only [← EReal.coe_neg, ← EReal.coe_mul, ← EReal.coe_add]
  refine congrArg Real.toEReal ?_
  unfold Head.dz
  split
  · ring
  · rw [H.g_zero (by omega)]; ring
end Stages

section Results
variable (q k v d : FVec Ideal S4096x1024 .bf16) (Qa Ka Va Da : ℕ → ℕ → ℝ)
  (hQ : ∀ (r : Fin 4096) (y : Fin 1024), q (ix2 r y) = ((Qa r y : ℝ) : EReal))
  (hK : ∀ (r : Fin 4096) (y : Fin 1024), k (ix2 r y) = ((Ka r y : ℝ) : EReal))
  (hV : ∀ (r : Fin 4096) (y : Fin 1024), v (ix2 r y) = ((Va r y : ℝ) : EReal))
  (hD : ∀ (r : Fin 4096) (y : Fin 1024), d (ix2 r y) = ((Da r y : ℝ) : EReal))

include hQ hK hV hD in
theorem dscore_at (h : Fin 16) (r c : Fin 4096) :
    dscore (scores q k) (cot v d (scores q k)) (ix3 h r c) = (((head Qa Ka Va Da h).dz r c * (1 / 8) : ℝ) : EReal) :=
  dscore_real _ h (head Qa Ka Va Da h) (scores_real q k Qa Ka Va Da hQ hK h) _
    (cot_real v d _ h (head Qa Ka Va Da h) (scores_real q k Qa Ka Va Da hQ hK h) (heads_real v Va hV h) (heads_real d Da hD h)) r c

include hQ hK hV hD in
/-- The gradient of q. -/
theorem outQ_real (r : Fin 4096) (y : Fin 1024) :
    outQ q k v d (ix2 r y) = (((head Qa Ka Va Da ((y : ℕ) / 64)).DQ r (y % 64) 4096 * (1 / 8) : ℝ) : EReal) := by
  unfold outQ
  rw [unheads_at]
  have e1 := dscore_at q k v d Qa Ka Va Da hQ hK hV hD
  have e2 := heads_real k Ka hK
  generalize dscore (scores q k) (cot v d (scores q k)) = s at e1 ⊢
  generalize heads k = kh at e2 ⊢
  pointwise []
  simp only [e1, e2, ← EReal.coe_mul, coe_sum]
  refine congrArg Real.toEReal ?_
  unfold Head.DQ
  rw [Finset.sum_range, Finset.sum_mul]
  refine Finset.sum_congr rfl fun x _ => ?_
  simp only [head]
  ring

include hQ hK hV hD in
/-- The gradient of k. -/
theorem outK_real (r : Fin 4096) (y : Fin 1024) :
    outK q k v d (ix2 r y) = (((head Qa Ka Va Da ((y : ℕ) / 64)).DK 0 4096 r (y % 64) : ℝ) : EReal) := by
  unfold outK
  rw [unheads_at]
  have e1 := dscore_at q k v d Qa Ka Va Da hQ hK hV hD
  have e2 := heads_real q Qa hQ
  generalize dscore (scores q k) (cot v d (scores q k)) = s at e1 ⊢
  generalize heads q = kh at e2 ⊢
  pointwise []
  simp only [e1, e2, ← EReal.coe_mul, coe_sum]
  refine congrArg Real.toEReal ?_
  unfold Head.DK
  rw [Finset.sum_range]
  refine Finset.sum_congr rfl fun x _ => ?_
  simp only [head, zero_add]
  ring

include hQ hK hD in
/-- The gradient of v. -/
theorem outV_real (r : Fin 4096) (y : Fin 1024) :
    outV q k d (ix2 r y) = (((head Qa Ka Va Da ((y : ℕ) / 64)).DV 0 4096 r (y % 64) : ℝ) : EReal) := by
  unfold outV
  rw [unheads_at]
  have e1 := fun h : Fin 16 => fun r c : Fin 4096 => keep_real (weight (scores q k)) h r c _
    (weight_real (scores q k) h (head Qa Ka Va Da h) (scores_real q k Qa Ka Va Da hQ hK h) r c)
  have e2 := heads_real d Da hD
  generalize keep (weight (scores q k)) = s at e1 ⊢
  generalize heads d = kh at e2 ⊢
  pointwise []
  simp only [e1, e2, ← EReal.coe_mul, coe_sum]
  refine congrArg Real.toEReal ?_
  unfold Head.DV
  rw [Finset.sum_range]
  refine Finset.sum_congr rfl fun x _ => ?_
  rw [zero_add, mul_comm]
  rfl
end Results
end Cert.ReferenceIdeal.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Norm
public import proofs.«01_k».proof.Proof.FfnUp
public import proofs.«01_k».proof.Proof.FfnDown
public import proofs.«01_k».proof.Proof.SsmIn
public import proofs.«01_k».proof.Proof.SsmOut
public import proofs.«01_k».proof.Proof.AttnIn
public import proofs.«01_k».proof.Proof.AttnOut
public import proofs.«01_k».proof.Proof.GateGrad
public import proofs.«01_k».proof.Proof.Gate
public import proofs.«01_k».proof.Proof.Same
public import proofs.«01_k».proof.Proof.Final
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem Idealize.ShloMosaic.TcCoe

section
open Cert.KernelIdeal Cert.KernelIdeal.Gen Cert.KernelIdeal.Attn

/-- What the run's end says of the arguments: each is as launched. -/
theorem args_kept {F : FTy → Type} [FloatOps F] (m : (ℓ : Loc nD τ sig) → Buf (Elt F) ℓ)
    (r : PUnit × MemSt nD τ sig (Elt F))
    (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 5).trans (((dats m 0 c).arrAt_in 5 rfl _).trans ((A_eq m c 5).trans (V_main_arg3 m c)))⟩

/-- The kernel's frame over any interpretation of the floats: every run ends, its arguments unchanged, every counter zero. -/
theorem frame {F : FTy → Type} [FloatOps F] (m : (ℓ : Loc nD τ sig) → Buf (Elt F) ℓ) (ρ : Dev nD → PrngReg) :
    θ_run Cert.KernelIdeal.defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun r h => ⟨args_kept m r h.1, h.2⟩) (run_main m ρ)

/-- The kernel as printed. -/
theorem frame_kernel : Cert.quiescent_Kernel := fun m ρ _ => by
  have h := frame (F := Bits) m ρ
  rw [Cert.Same.defs_eq, Cert.Same.main_eq]
  exact h

/-- The kernel at the ideal instance. -/
theorem frame_kernel_ideal : Cert.quiescent_KernelIdeal := fun m ρ _ => frame (F := Ideal) m ρ

end

/-- The reference runs and leaves its arguments as they were. -/
theorem frame_reference : Cert.quiescent_ReferenceIdeal := fun m ρ _ =>
  (θ_run (Cert.ReferenceIdeal.defs (F := Ideal)) _ _).mono (fun r h =>
    ⟨fun c => (h c).2.2.2, Idealize.ShloMosaic.sem_eq_zero_of_no_sems (by decide) r.2⟩)
    (Cert.ReferenceIdeal.Value.run (F := Ideal) m ρ)

instance : Cert.Pre_finite.Facts := Cert.Stick.finite_facts

instance : Cert.Pre_gate_finite.Facts := Cert.Gate.finite_facts

section
open Cert.Stick

/-- The reference's three results are the same functions of the real arguments as the kernel's. -/
theorem ref_values (q k v d : FVec Ideal Cert.ReferenceIdeal.S4096x1024 .bf16) (Qa Ka Va Da : ℕ → ℕ → ℝ)
    (hQ : ∀ (r : Fin 4096) (y : Fin 1024), q (ix2 r y) = ((Qa r y : ℝ) : EReal))
    (hK : ∀ (r : Fin 4096) (y : Fin 1024), k (ix2 r y) = ((Ka r y : ℝ) : EReal))
    (hV : ∀ (r : Fin 4096) (y : Fin 1024), v (ix2 r y) = ((Va r y : ℝ) : EReal))
    (hD : ∀ (r : Fin 4096) (y : Fin 1024), d (ix2 r y) = ((Da r y : ℝ) : EReal)) :
    Cert.ReferenceIdeal.Attn.outQ q k v d = Cert.KernelIdeal.Attn.dqOf Qa Ka Va Da
    ∧ Cert.ReferenceIdeal.Attn.outK q k v d = Cert.KernelIdeal.Attn.dkOf Qa Ka Va Da
    ∧ Cert.ReferenceIdeal.Attn.outV q k d = Cert.KernelIdeal.Attn.dvOf Qa Ka Va Da := by
  refine ⟨funext fun j => ?_, funext fun j => ?_, funext fun j => ?_⟩ <;> idx_vars j
  · exact Cert.ReferenceIdeal.Attn.outQ_real q k v d Qa Ka Va Da hQ hK hV hD _ _
  · exact Cert.ReferenceIdeal.Attn.outK_real q k v d Qa Ka Va Da hQ hK hV hD _ _
  · exact Cert.ReferenceIdeal.Attn.outV_real q k d Qa Ka Va Da hQ hK hD _ _

/-- The kernel's three results are the reference's. -/
theorem same_values : Cert.algebraic_KernelIdeal_ReferenceIdeal_pre_finite := by
  intro m g m' g' hpre hargs
  have hr := fun c => reals_of_finite _ _ _ _ (hpre c)
  refine ⟨
    fun c => Cert.KernelIdeal.Attn.dqOf (realsOf (m ((c.tc : Thread Cert.KernelIdeal.nD Cert.KernelIdeal.τ).loc Cert.KernelIdeal.main_arg0))) (realsOf (m ((c.tc : Thread Cert.KernelIdeal.nD Cert.KernelIdeal.τ).loc Cert.KernelIdeal.main_arg1))) (realsOf (m ((c.tc : Thread Cert.KernelIdeal.nD Cert.KernelIdeal.τ).loc Cert.KernelIdeal.main_arg2))) (realsOf (m ((c.tc : Thread Cert.KernelIdeal.nD Cert.KernelIdeal.τ).loc Cert.KernelIdeal.main_arg3))),
    fun c => Cert.KernelIdeal.Attn.dkOf (realsOf (m ((c.tc : Thread Cert.KernelIdeal.nD Cert.KernelIdeal.τ).loc Cert.KernelIdeal.main_arg0))) (realsOf (m ((c.tc : Thread Cert.KernelIdeal.nD Cert.KernelIdeal.τ).loc Cert.KernelIdeal.main_arg1))) (realsOf (m ((c.tc : Thread Cert.KernelIdeal.nD Cert.KernelIdeal.τ).loc Cert.KernelIdeal.main_arg2))) (realsOf (m ((c.tc : Thread Cert.KernelIdeal.nD Cert.KernelIdeal.τ).loc Cert.KernelIdeal.main_arg3))),
    fun c => Cert.KernelIdeal.Attn.dvOf (realsOf (m ((c.tc : Thread Cert.KernelIdeal.nD Cert.KernelIdeal.τ).loc Cert.KernelIdeal.main_arg0))) (realsOf (m ((c.tc : Thread Cert.KernelIdeal.nD Cert.KernelIdeal.τ).loc Cert.KernelIdeal.main_arg1))) (realsOf (m ((c.tc : Thread Cert.KernelIdeal.nD Cert.KernelIdeal.τ).loc Cert.KernelIdeal.main_arg2))) (realsOf (m ((c.tc : Thread Cert.KernelIdeal.nD Cert.KernelIdeal.τ).loc Cert.KernelIdeal.main_arg3))),
    (θ_run Cert.KernelIdeal.defs _ _).mono (fun r h c => ⟨?_, ?_, ?_, args_kept m r h.1 c⟩) (Cert.KernelIdeal.Attn.run_main (F := Ideal) m g),
    (θ_run (Cert.ReferenceIdeal.defs (F := Ideal)) _ _).mono (fun r h c => ?_) (Cert.ReferenceIdeal.Value.run (F := Ideal) m' g')⟩
  · exact ((h.1 c).1 6).trans (Cert.KernelIdeal.Attn.final6 m c _ _ _ _ (fun r y => (hr c r y).1) (fun r y => (hr c r y).2.1)
      (fun r y => (hr c r y).2.2.1) (fun r y => (hr c r y).2.2.2))
  · exact ((h.1 c).1 7).trans (Cert.KernelIdeal.Attn.final7 m c _ _ _ _ (fun r y => (hr c r y).1) (fun r y => (hr c r y).2.1)
      (fun r y => (hr c r y).2.2.1) (fun r y => (hr c r y).2.2.2))
  · exact ((h.1 c).1 8).trans (Cert.KernelIdeal.Attn.final8 m c _ _ _ _ (fun r y => (hr c r y).1) (fun r y => (hr c r y).2.1)
      (fun r y => (hr c r y).2.2.1) (fun r y => (hr c r y).2.2.2))
  · obtain ⟨hq, hk, hv, ha⟩ := h c
    obtain ⟨a0, a1, a2, a3⟩ := hargs c
    obtain ⟨e1, e2, e3⟩ := ref_values _ _ _ _ _ _ _ _ (fun r y => (hr c r y).1) (fun r y => (hr c r y).2.1)
      (fun r y => (hr c r y).2.2.1) (fun r y => (hr c r y).2.2.2)
    rw [Cert.ReferenceIdeal.Attn.res_q, a0, a1, a2, a3] at hq
    rw [Cert.ReferenceIdeal.Attn.res_k, a0, a1, a2, a3] at hk
    rw [Cert.ReferenceIdeal.Attn.res_v, a0, a1, a3] at hv
    exact ⟨hq.trans e1, hk.trans e2, hv.trans e3, ha⟩
end

/-- The attention's gradient, then the products, the norms and the gate: each kernel and each reference runs and leaves its arguments, and
    the two end with the same results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts, Cert.Stick.finite_facts, Cert.Gate.finite_facts,
  frame_kernel, frame_kernel_ideal, fun m g _ => frame_kernel_ideal m g trivial, frame_reference,
  fun m g _ => frame_reference m g trivial,
  Cert.Kernel2Ideal.Product.frame_kernel, Cert.Kernel2Ideal.Product.frame_kernel_ideal, Cert.Kernel2Ideal.Product.frame_reference,
  Cert.Kernel3Ideal.Product.frame_kernel, Cert.Kernel3Ideal.Product.frame_kernel_ideal, Cert.Kernel3Ideal.Product.frame_reference,
  Cert.Kernel4Ideal.Product.frame_kernel, Cert.Kernel4Ideal.Product.frame_kernel_ideal, Cert.Kernel4Ideal.Product.frame_reference,
  Cert.Kernel5Ideal.Product.frame_kernel, Cert.Kernel5Ideal.Product.frame_kernel_ideal, Cert.Kernel5Ideal.Product.frame_reference,
  Cert.Kernel6Ideal.Product.frame_kernel, Cert.Kernel6Ideal.Product.frame_kernel_ideal, Cert.Kernel6Ideal.Product.frame_reference,
  Cert.Kernel7Ideal.Product.frame_kernel, Cert.Kernel7Ideal.Product.frame_kernel_ideal, Cert.Kernel7Ideal.Product.frame_reference,
  Cert.Kernel8Ideal.Product.frame_kernel, Cert.Kernel8Ideal.Product.frame_kernel_ideal, Cert.Kernel8Ideal.Product.frame_reference,
  Cert.Kernel9Ideal.Product.frame_kernel, Cert.Kernel9Ideal.Product.frame_kernel_ideal, Cert.Kernel9Ideal.Product.frame_reference,
  Cert.Kernel10Ideal.Product.frame_kernel, Cert.Kernel10Ideal.Product.frame_kernel_ideal, Cert.Kernel10Ideal.Product.frame_reference,
  Cert.Kernel11Ideal.Product.frame_kernel, Cert.Kernel11Ideal.Product.frame_kernel_ideal, Cert.Kernel11Ideal.Product.frame_reference,
  Cert.Kernel12Ideal.Product.frame_kernel, Cert.Kernel12Ideal.Product.frame_kernel_ideal, Cert.Kernel12Ideal.Product.frame_reference,
  Cert.Kernel13Ideal.Product.frame_kernel, Cert.Kernel13Ideal.Product.frame_kernel_ideal, Cert.Kernel13Ideal.Product.frame_reference,
  Cert.Kernel14Ideal.Product.frame_kernel, Cert.Kernel14Ideal.Product.frame_kernel_ideal, Cert.Kernel14Ideal.Product.frame_reference,
  Cert.Kernel15Ideal.Product.frame_kernel, Cert.Kernel15Ideal.Product.frame_kernel_ideal, Cert.Kernel15Ideal.Product.frame_reference,
  Cert.Kernel16Ideal.Product.frame_kernel, Cert.Kernel16Ideal.Product.frame_kernel_ideal, Cert.Kernel16Ideal.Product.frame_reference,
  Cert.Kernel17Ideal.Product.frame_kernel, Cert.Kernel17Ideal.Product.frame_kernel_ideal, Cert.Kernel17Ideal.Product.frame_reference,
  Cert.Kernel18Ideal.Product.frame_kernel, Cert.Kernel18Ideal.Product.frame_kernel_ideal, Cert.Kernel18Ideal.Product.frame_reference,
  Cert.Kernel19Ideal.Product.frame_kernel, Cert.Kernel19Ideal.Product.frame_kernel_ideal, Cert.Kernel19Ideal.Product.frame_reference,
  Cert.Kernel20Ideal.Product.frame_kernel, Cert.Kernel20Ideal.Product.frame_kernel_ideal, Cert.Kernel20Ideal.Product.frame_reference,
  Cert.Kernel21Ideal.Product.frame_kernel, Cert.Kernel21Ideal.Product.frame_kernel_ideal, Cert.Kernel21Ideal.Product.frame_reference,
  Cert.Kernel22Ideal.Product.frame_kernel, Cert.Kernel22Ideal.Product.frame_kernel_ideal, Cert.Kernel22Ideal.Product.frame_reference,
  Cert.Kernel23Ideal.Product.frame_kernel, Cert.Kernel23Ideal.Product.frame_kernel_ideal, Cert.Kernel23Ideal.Product.frame_reference,
  Cert.Kernel24Ideal.Norm.frame_kernel, Cert.Kernel24Ideal.Norm.frame_kernel_ideal, Cert.Kernel24Ideal.Norm.frame_reference,
  Cert.Kernel25Ideal.Norm.frame_kernel, Cert.Kernel25Ideal.Norm.frame_kernel_ideal, Cert.Kernel25Ideal.Norm.frame_reference,
  Cert.Kernel26Ideal.Norm.frame_kernel, Cert.Kernel26Ideal.Norm.frame_kernel_ideal, Cert.Kernel26Ideal.Norm.frame_reference,
  Cert.Kernel27Ideal.Gate.frame_kernel, Cert.Kernel27Ideal.Gate.frame_kernel_ideal, Cert.Kernel27Ideal.Gate.frame_kernel_finite, Cert.Kernel27Ideal.Gate.frame_reference, Cert.Kernel27Ideal.Gate.frame_reference_finite,
  Cert.Kernel28Ideal.Gate.frame_kernel, Cert.Kernel28Ideal.Gate.frame_kernel_ideal, Cert.Kernel28Ideal.Gate.frame_reference,
  trivial, same_values,
  trivial, Cert.Kernel2Ideal.Product.same_values,
  trivial, Cert.Kernel3Ideal.Product.same_values,
  trivial, Cert.Kernel4Ideal.Product.same_values,
  trivial, Cert.Kernel5Ideal.Product.same_values,
  trivial, Cert.Kernel6Ideal.Product.same_values,
  trivial, Cert.Kernel7Ideal.Product.same_values,
  trivial, Cert.Kernel8Ideal.Product.same_values,
  trivial, Cert.Kernel9Ideal.Product.same_values,
  trivial, Cert.Kernel10Ideal.Product.same_values,
  trivial, Cert.Kernel11Ideal.Product.same_values,
  trivial, Cert.Kernel12Ideal.Product.same_values,
  trivial, Cert.Kernel13Ideal.Product.same_values,
  trivial, Cert.Kernel14Ideal.Product.same_values,
  trivial, Cert.Kernel15Ideal.Product.same_values,
  trivial, Cert.Kernel16Ideal.Product.same_values,
  trivial, Cert.Kernel17Ideal.Product.same_values,
  trivial, Cert.Kernel18Ideal.Product.same_values,
  trivial, Cert.Kernel19Ideal.Product.same_values,
  trivial, Cert.Kernel20Ideal.Product.same_values,
  trivial, Cert.Kernel21Ideal.Product.same_values,
  trivial, Cert.Kernel22Ideal.Product.same_values,
  trivial, Cert.Kernel23Ideal.Product.same_values,
  trivial, Cert.Kernel24Ideal.Norm.same_values,
  trivial, Cert.Kernel25Ideal.Norm.same_values,
  trivial, Cert.Kernel26Ideal.Norm.same_values,
  trivial, Cert.Kernel27Ideal.Gate.same_values,
  trivial, Cert.Kernel28Ideal.Gate.same_values⟩

end Cert.Proof

end
